-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_operands_finite [hPre_operands_finite : Cert.Pre_operands_finite.Facts] (m : (ℓ : Loc Cert.KernelIdeal.nD Cert.KernelIdeal.τ Cert.KernelIdeal.sig) → Buf (Elt Ideal) ℓ) : Prop :=
  ∀ c : Dev Cert.KernelIdeal.nD,
    (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_operands_finite [hPre_operands_finite : Cert.Pre_operands_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_operands_finite [hKernelIdeal : Cert.KernelIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_operands_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_operands_finite [hReferenceIdeal : Cert.ReferenceIdeal.Facts] [hPre_operands_finite : Cert.Pre_operands_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_operands_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_operands_finite [hKernelIdeal : Cert.KernelIdeal.Facts] [hReferenceIdeal : Cert.ReferenceIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_operands_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v103_0)) (v1 : (c : Dev Cert.Kernel3Ideal.nD) → Buf (Elt Ideal) ((c.tc : Thread Cert.Kernel3Ideal.nD Cert.Kernel3Ideal.τ).loc Cert.Kernel3Ideal.main_v103_1)) (v2 : (c : Dev Cert.Kernel3Ideal.nD) → Buf (Elt Ideal) ((c.tc : Thread Cert.Kernel3Ideal.nD Cert.Kernel3Ideal.τ).loc Cert.Kernel3Ideal.main_v103_2)) (v3 : (c : Dev Cert.Kernel3Ideal.nD) → Buf (Elt Ideal) ((c.tc : Thread Cert.Kernel3Ideal.nD Cert.Kernel3Ideal.τ).loc Cert.Kernel3Ideal.main_v103_3)) (v4 : (c : Dev Cert.Kernel3Ideal.nD) → Buf (Elt Ideal) ((c.tc : Thread Cert.Kernel3Ideal.nD Cert.Kernel3Ideal.τ).loc Cert.Kernel3Ideal.main_v103_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v103_0) = v0 c
          ∧ r.2.mem ((c.tc : Thread Cert.Kernel3Ideal.nD Cert.Kernel3Ideal.τ).loc Cert.Kernel3Ideal.main_v103_1) = v1 c
          ∧ r.2.mem ((c.tc : Thread Cert.Kernel3Ideal.nD Cert.Kernel3Ideal.τ).loc Cert.Kernel3Ideal.main_v103_2) = v2 c
          ∧ r.2.mem ((c.tc : Thread Cert.Kernel3Ideal.nD Cert.Kernel3Ideal.τ).loc Cert.Kernel3Ideal.main_v103_3) = v3 c
          ∧ r.2.mem ((c.tc : Thread Cert.Kernel3Ideal.nD Cert.Kernel3Ideal.τ).loc Cert.Kernel3Ideal.main_v103_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v156) = v0 c
          ∧ r.2.mem ((c.tc : Thread Cert.Reference3Ideal.nD Cert.Reference3Ideal.τ).loc Cert.Reference3Ideal.main_v158) = v1 c
          ∧ r.2.mem ((c.tc : Thread Cert.Reference3Ideal.nD Cert.Reference3Ideal.τ).loc Cert.Reference3Ideal.main_v160) = v2 c
          ∧ r.2.mem ((c.tc : Thread Cert.Reference3Ideal.nD Cert.Reference3Ideal.τ).loc Cert.Reference3Ideal.main_v162) = v3 c
          ∧ r.2.mem ((c.tc : Thread Cert.Reference3Ideal.nD Cert.Reference3Ideal.τ).loc Cert.Reference3Ideal.main_v165) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_operands_finite : Cert.Pre_operands_finite.Facts),
    quiescent_Kernel (hKernel := hKernel)
    ∧ quiescent_KernelIdeal (hKernelIdeal := hKernelIdeal)
    ∧ quiescent_KernelIdeal_pre_operands_finite (hKernelIdeal := hKernelIdeal) (hPre_operands_finite := hPre_operands_finite)
    ∧ quiescent_ReferenceIdeal (hReferenceIdeal := hReferenceIdeal)
    ∧ quiescent_ReferenceIdeal_pre_operands_finite (hReferenceIdeal := hReferenceIdeal) (hPre_operands_finite := hPre_operands_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_operands_finite (hKernelIdeal := hKernelIdeal) (hReferenceIdeal := hReferenceIdeal) (hPre_operands_finite := hPre_operands_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_operands_finite.lean ====
abbrev S32x16384x128 : Shape := ⟨3, ![32, 16384, 128]⟩
abbrev S8 : Shape := ⟨1, ![8]⟩
abbrev S1024 : Shape := ⟨1, ![1024]⟩
abbrev S24x16384x128 : Shape := ⟨3, ![24, 16384, 128]⟩
abbrev S_ : Shape := ⟨0, ![]⟩

class Facts : Prop where
  slices_S32x16384x128_S24x16384x128_0_0_0 : S32x16384x128.Slices ![0, 0, 0] S24x16384x128
  bitsLt_bf16_f32 : FTy.bits .bf16 < FTy.bits .f32
  bcast_S_S24x16384x128 : S_.BroadcastsInDim S24x16384x128 (![] : Fin 0 → Fin S24x16384x128.rank)

variable [Facts]

def fn {F : FTy → Type} [FloatOps F] (main_arg0 : FVec F S32x16384x128 .bf16) (main_arg1 : FVec F S8 .f32) (main_arg2 : FVec F S8 .f32) (main_arg3 : FVec F S1024 .f32) (main_arg4 : FVec F S1024 .f32) : IVec S24x16384x128 1 :=
  let main_v0 : FVec F S24x16384x128 .bf16 := (extractStridedSlice S24x16384x128 ![0, 0, 0] · slices_S32x16384x128_S24x16384x128_0_0_0) main_arg0
  let main_v1 : FVec F S24x16384x128 .f32 := (extf .f32 · bitsLt_bf16_f32) main_v0
  let main_v2 : FVec F S24x16384x128 .f32 := Host.absf main_v1
  let main_cst : FVec F S_ .f32 := constant S_ .f32 0x7F800000#32
  let main_v3 : FVec F S24x16384x128 .f32 := broadcastInDim S24x16384x128 ![] bcast_S_S24x16384x128 main_cst
  let main_v4 : IVec S24x16384x128 1 := cmpf .olt main_v2 main_v3
  main_v4
-- ==== Kernel.lean ====
abbrev S32x16384x128 : Shape := ⟨3, ![32, 16384, 128]⟩
abbrev S8 : Shape := ⟨1, ![8]⟩
abbrev S1024 : Shape := ⟨1, ![1024]⟩
abbrev S_ : Shape := ⟨0, ![]⟩
abbrev S8x8x256 : Shape := ⟨3, ![8, 8, 256]⟩
abbrev S8x1 : Shape := ⟨2, ![8, 1]⟩
abbrev S1 : Shape := ⟨1, ![1]⟩
abbrev S8x256 : Shape := ⟨2, ![8, 256]⟩
abbrev S1x1024 : Shape := ⟨2, ![1, 1024]⟩
abbrev S8x16384x128 : Shape := ⟨3, ![8, 16384, 128]⟩
abbrev S1x8x256 : Shape := ⟨3, ![1, 8, 256]⟩
abbrev S1x4096x128 : Shape := ⟨3, ![1, 4096, 128]⟩
abbrev S1x128 : Shape := ⟨2, ![1, 128]⟩
abbrev S16x256x128 : Shape := ⟨3, ![16, 256, 128]⟩
abbrev S1x1x256 : Shape := ⟨3, ![1, 1, 256]⟩
abbrev S1x256 : Shape := ⟨2, ![1, 256]⟩
abbrev S256x256 : Shape := ⟨2, ![256, 256]⟩
abbrev S256x128 : Shape := ⟨2, ![256, 128]⟩
abbrev S1x256x128 : Shape := ⟨3, ![1, 256, 128]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩

abbrev nBuf : Space → Nat
  | .hbm => 20
  | .vmem => 18
  | .smem => 0
  | _ => 0

abbrev bufTy : (tb : Table) → Fin (tcTables nBuf tb) → BufTy
  | .hbm, ⟨0, _⟩ => ⟨S32x16384x128, .bf16⟩
  | .hbm, ⟨1, _⟩ => ⟨S8, .f32⟩
  | .hbm, ⟨2, _⟩ => ⟨S8, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x8x256, .f32⟩
  | .hbm, ⟨7, _⟩ => ⟨S8x1, .f32⟩
  | .hbm, ⟨8, _⟩ => ⟨S_, .i32⟩
  | .hbm, ⟨9, _⟩ => ⟨S1, .i32⟩
  | .hbm, ⟨10, _⟩ => ⟨S8x256, .f32⟩
  | .hbm, ⟨11, _⟩ => ⟨S8x8x256, .f32⟩
  | .hbm, ⟨12, _⟩ => ⟨S8x1, .f32⟩
  | .hbm, ⟨13, _⟩ => ⟨S_, .i32⟩
  | .hbm, ⟨14, _⟩ => ⟨S1, .i32⟩
  | .hbm, ⟨15, _⟩ => ⟨S8x256, .f32⟩
  | .hbm, ⟨16, _⟩ => ⟨S8x8x256, .f32⟩
  | .hbm, ⟨17, _⟩ => ⟨S1x1024, .f32⟩
  | .hbm, ⟨18, _⟩ => ⟨S1x1024, .f32⟩
  | .hbm, ⟨19, _⟩ => ⟨S8x16384x128, .bf16⟩
  | .local _ .vmem, ⟨0, _⟩ => ⟨S1x8x256, .f32⟩
  | .local _ .vmem, ⟨1, _⟩ => ⟨S1x8x256, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x4096x128, .bf16⟩
  | .local _ .vmem, ⟨15, _⟩ => ⟨S1x4096x128, .bf16⟩
  | .local _ .vmem, ⟨16, _⟩ => ⟨S16x256x128, .f32⟩
  | .local _ .vmem, ⟨17, _⟩ => ⟨S16x256x128, .bf16⟩
  | _, _ => ⟨S32x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c16_i32 : BitVec 32 := 16#32
  let v77 : BitVec 32 := Scalar.muli c0_i32 c16_i32
  let c0_i32_19 : BitVec 32 := 0#32
  let v78 : BitVec 32 := Scalar.addi v77 c0_i32_19
  let c256_i32 : BitVec 32 := 256#32
  let v79 : BitVec 32 := Scalar.muli v78 c256_i32
  v79
def k0_off1 (c0_i32_19 : BitVec 32) : Fin 3 → Nat :=
  let c0_20 : Index := 0#32
  let c0_i32 : BitVec 32 := 0#32
  let c16_i32 : BitVec 32 := 16#32
  let v77 : BitVec 32 := Scalar.muli c0_i32 c16_i32
  let v78 : BitVec 32 := Scalar.addi v77 c0_i32_19
  let c256_i32 : BitVec 32 := 256#32
  let v79 : BitVec 32 := Scalar.muli v78 c256_i32
  let v80 : BitVec 32 := v79
  let v81 : Index := Scalar.indexCast v80
  let c0_21 : Index := 0#32
  ![0, v81.toNat, 0]
def k0_off2 (c0_i32_19 : BitVec 32) : Fin 3 → Nat :=
  let c0_i32 : BitVec 32 := 0#32
  let c16_i32 : BitVec 32 := 16#32
  let v77 : BitVec 32 := Scalar.muli c0_i32 c16_i32
  let v78 : BitVec 32 := Scalar.addi v77 c0_i32_19
  let v91 : Index := Scalar.indexCast v78
  let c0_25 : Index := 0#32
  let c0_26 : Index := 0#32
  ![v91.toNat, 0, 0]
def k0_mult2 : BitVec 32 :=
  let c0_i32 : BitVec 32 := 0#32
  let c16_i32_27 : BitVec 32 := 16#32
  let v95 : BitVec 32 := Scalar.muli c0_i32 c16_i32_27
  let c1_i32 : BitVec 32 := 1#32
  let v96 : BitVec 32 := Scalar.addi v95 c1_i32
  let c256_i32_28 : BitVec 32 := 256#32
  let v97 : BitVec 32 := Scalar.muli v96 c256_i32_28
  v97
def k0_mult3 : BitVec 32 :=
  let c0_i32 : BitVec 32 := 0#32
  let c16_i32_36 : BitVec 32 := 16#32
  let v113 : BitVec 32 := Scalar.muli c0_i32 c16_i32_36
  let c2_i32 : BitVec 32 := 2#32
  let v114 : BitVec 32 := Scalar.addi v113 c2_i32
  let c256_i32_37 : BitVec 32 := 256#32
  let v115 : BitVec 32 := Scalar.muli v114 c256_i32_37
  v115
def k0_mult4 : BitVec 32 :=
  let c0_i32 : BitVec 32 := 0#32
  let c16_i32_45 : BitVec 32 := 16#32
  let v131 : BitVec 32 := Scalar.muli c0_i32 c16_i32_45
  let c3_i32 : BitVec 32 := 3#32
  let v132 : BitVec 32 := Scalar.addi v131 c3_i32
  let c256_i32_46 : BitVec 32 := 256#32
  let v133 : BitVec 32 := Scalar.muli v132 c256_i32_46
  v133
def k0_mult5 : BitVec 32 :=
  let c0_i32 : BitVec 32 := 0#32
  let c16_i32_54 : BitVec 32 := 16#32
  let v149 : BitVec 32 := Scalar.muli c0_i32 c16_i32_54
  let c4_i32 : BitVec 32 := 4#32
  let v150 : BitVec 32 := Scalar.addi v149 c4_i32
  let c256_i32_55 : BitVec 32 := 256#32
  let v151 : BitVec 32 := Scalar.muli v150 c256_i32_55
  v151
def k0_mult6 : BitVec 32 :=
  let c0_i32 : BitVec 32 := 0#32
  let c16_i32_63 : BitVec 32 := 16#32
  let v167 : BitVec 32 := Scalar.muli c0_i32 c16_i32_63
  let c5_i32 : BitVec 32 := 5#32
  let v168 : BitVec 32 := Scalar.addi v167 c5_i32
  let c256_i32_64 : BitVec 32 := 256#32
  let v169 : BitVec 32 := Scalar.muli v168 c256_i32_64
  v169
def k0_mult7 : BitVec 32 :=
  let c0_i32 : BitVec 32 := 0#32
  let c16_i32_72 : BitVec 32 := 16#32
  let v185 : BitVec 32 := Scalar.muli c0_i32 c16_i32_72
  let c6_i32 : BitVec 32 := 6#32
  let v186 : BitVec 32 := Scalar.addi v185 c6_i32
  let c256_i32_73 : BitVec 32 := 256#32
  let v187 : BitVec 32 := Scalar.muli v186 c256_i32_73
  v187
def k0_mult8 : BitVec 32 :=
  let c0_i32 : BitVec 32 := 0#32
  let c16_i32_81 : BitVec 32 := 16#32
  let v203 : BitVec 32 := Scalar.muli c0_i32 c16_i32_81
  let c7_i32 : BitVec 32 := 7#32
  let v204 : BitVec 32 := Scalar.addi v203 c7_i32
  let c256_i32_82 : BitVec 32 := 256#32
  let v205 : BitVec 32 := Scalar.muli v204 c256_i32_82
  v205
def k0_mult9 : BitVec 32 :=
  let c0_i32 : BitVec 32 := 0#32
  let c16_i32_90 : BitVec 32 := 16#32
  let v221 : BitVec 32 := Scalar.muli c0_i32 c16_i32_90
  let c8_i32 : BitVec 32 := 8#32
  let v222 : BitVec 32 := Scalar.addi v221 c8_i32
  let c256_i32_91 : BitVec 32 := 256#32
  let v223 : BitVec 32 := Scalar.muli v222 c256_i32_91
  v223
def k0_mult10 : BitVec 32 :=
  let c0_i32 : BitVec 32 := 0#32
  let c16_i32_99 : BitVec 32 := 16#32
  let v239 : BitVec 32 := Scalar.muli c0_i32 c16_i32_99
  let c9_i32 : BitVec 32 := 9#32
  let v240 : BitVec 32 := Scalar.addi v239 c9_i32
  let c256_i32_100 : BitVec 32 := 256#32
  let v241 : BitVec 32 := Scalar.muli v240 c256_i32_100
  v241
def k0_mult11 : BitVec 32 :=
  let c0_i32 : BitVec 32 := 0#32
  let c16_i32_108 : BitVec 32 := 16#32
  let v257 : BitVec 32 := Scalar.muli c0_i32 c16_i32_108
  let c10_i32 : BitVec 32 := 10#32
  let v258 : BitVec 32 := Scalar.addi v257 c10_i32
  let c256_i32_109 : BitVec 32 := 256#32
  let v259 : BitVec 32 := Scalar.muli v258 c256_i32_109
  v259
def k0_mult12 : BitVec 32 :=
  let c0_i32 : BitVec 32 := 0#32
  let c16_i32_117 : BitVec 32 := 16#32
  let v275 : BitVec 32 := Scalar.muli c0_i32 c16_i32_117
  let c11_i32 : BitVec 32 := 11#32
  let v276 : BitVec 32 := Scalar.addi v275 c11_i32
  let c256_i32_118 : BitVec 32 := 256#32
  let v277 : BitVec 32 := Scalar.muli v276 c256_i32_118
  v277
def k0_mult13 : BitVec 32 :=
  let c0_i32 : BitVec 32 := 0#32
  let c16_i32_126 : BitVec 32 := 16#32
  let v293 : BitVec 32 := Scalar.muli c0_i32 c16_i32_126
  let c12_i32 : BitVec 32 := 12#32
  let v294 : BitVec 32 := Scalar.addi v293 c12_i32
  let c256_i32_127 : BitVec 32 := 256#32
  let v295 : BitVec 32 := Scalar.muli v294 c256_i32_127
  v295
def k0_mult14 : BitVec 32 :=
  let c0_i32 : BitVec 32 := 0#32
  let c16_i32_135 : BitVec 32 := 16#32
  let v311 : BitVec 32 := Scalar.muli c0_i32 c16_i32_135
  let c13_i32 : BitVec 32 := 13#32
  let v312 : BitVec 32 := Scalar.addi v311 c13_i32
  let c256_i32_136 : BitVec 32 := 256#32
  let v313 : BitVec 32 := Scalar.muli v312 c256_i32_136
  v313
def k0_mult15 : BitVec 32 :=
  let c0_i32 : BitVec 32 := 0#32
  let c16_i32_144 : BitVec 32 := 16#32
  let v329 : BitVec 32 := Scalar.muli c0_i32 c16_i32_144
  let c14_i32 : BitVec 32 := 14#32
  let v330 : BitVec 32 := Scalar.addi v329 c14_i32
  let c256_i32_145 : BitVec 32 := 256#32
  let v331 : BitVec 32 := Scalar.muli v330 c256_i32_145
  v331
def k0_mult16 : BitVec 32 :=
  let c0_i32 : BitVec 32 := 0#32
  let c16_i32_153 : BitVec 32 := 16#32
  let v347 : BitVec 32 := Scalar.muli c0_i32 c16_i32_153
  let c15_i32 : BitVec 32 := 15#32
  let v348 : BitVec 32 := Scalar.addi v347 c15_i32
  let c256_i32_154 : BitVec 32 := 256#32
  let v349 : BitVec 32 := Scalar.muli v348 c256_i32_154
  v349
@[reducible] def k0_t1_loop : Scf.Loop 32 :=
  let c0_i32_164 : BitVec 32 := 0#32
  let c16_i32_165 : BitVec 32 := 16#32
  let v366 : BitVec 32 := Scalar.addi c0_i32_164 c16_i32_165
  let c1_i32_166 : BitVec 32 := 1#32
  ⟨c0_i32_164, v366, c1_i32_166⟩
def k0_off3 (k0_t1 : Fin k0_t1_loop.trips) : Fin 3 → Nat :=
  let c0_i32_164 : BitVec 32 := 0#32
  let c1_i32_166 : BitVec 32 := 1#32
  let arg12 : BitVec 32 := Scf.iv c0_i32_164 c1_i32_166 k0_t1
  let v1254 : Index := Scalar.indexCast arg12
  let c0_543 : Index := 0#32
  let c0_544 : Index := 0#32
  ![v1254.toNat, 0, 0]
def k0_off4 (k0_t1 : Fin k0_t1_loop.trips) : Fin 3 → Nat :=
  let c15_i32_542 : BitVec 32 := 15#32
  let c0_i32_164 : BitVec 32 := 0#32
  let c1_i32_166 : BitVec 32 := 1#32
  let arg12 : BitVec 32 := Scf.iv c0_i32_164 c1_i32_166 k0_t1
  let v1252 : BitVec 32 := Scalar.subi c15_i32_542 arg12
  let v1259 : Index := Scalar.indexCast v1252
  let c128 : Index := 128#32
  let c0_545 : Index := 0#32
  ![v1259.toNat, 128, 0]
def k0_mult17 : BitVec 32 :=
  let c0_i32_172 : BitVec 32 := 0#32
  let c16_i32_173 : BitVec 32 := 16#32
  let v372 : BitVec 32 := Scalar.muli c0_i32_172 c16_i32_173
  let c0_i32_174 : BitVec 32 := 0#32
  let v373 : BitVec 32 := Scalar.addi v372 c0_i32_174
  let c256_i32_175 : BitVec 32 := 256#32
  let v374 : BitVec 32 := Scalar.muli v373 c256_i32_175
  v374
def k0_mult18 : BitVec 32 :=
  let c0_i32_172 : BitVec 32 := 0#32
  let c16_i32_196 : BitVec 32 := 16#32
  let v427 : BitVec 32 := Scalar.muli c0_i32_172 c16_i32_196
  let c1_i32_197 : BitVec 32 := 1#32
  let v428 : BitVec 32 := Scalar.addi v427 c1_i32_197
  let c256_i32_198 : BitVec 32 := 256#32
  let v429 : BitVec 32 := Scalar.muli v428 c256_i32_198
  v429
def k0_mult19 : BitVec 32 :=
  let c0_i32_172 : BitVec 32 := 0#32
  let c16_i32_219 : BitVec 32 := 16#32
  let v482 : BitVec 32 := Scalar.muli c0_i32_172 c16_i32_219
  let c2_i32_220 : BitVec 32 := 2#32
  let v483 : BitVec 32 := Scalar.addi v482 c2_i32_220
  let c256_i32_221 : BitVec 32 := 256#32
  let v484 : BitVec 32 := Scalar.muli v483 c256_i32_221
  v484
def k0_mult20 : BitVec 32 :=
  let c0_i32_172 : BitVec 32 := 0#32
  let c16_i32_242 : BitVec 32 := 16#32
  let v537 : BitVec 32 := Scalar.muli c0_i32_172 c16_i32_242
  let c3_i32_243 : BitVec 32 := 3#32
  let v538 : BitVec 32 := Scalar.addi v537 c3_i32_243
  let c256_i32_244 : BitVec 32 := 256#32
  let v539 : BitVec 32 := Scalar.muli v538 c256_i32_244
  v539
def k0_mult21 : BitVec 32 :=
  let c0_i32_172 : BitVec 32 := 0#32
  let c16_i32_265 : BitVec 32 := 16#32
  let v592 : BitVec 32 := Scalar.muli c0_i32_172 c16_i32_265
  let c4_i32_266 : BitVec 32 := 4#32
  let v593 : BitVec 32 := Scalar.addi v592 c4_i32_266
  let c256_i32_267 : BitVec 32 := 256#32
  let v594 : BitVec 32 := Scalar.muli v593 c256_i32_267
  v594
def k0_mult22 : BitVec 32 :=
  let c0_i32_172 : BitVec 32 := 0#32
  let c16_i32_288 : BitVec 32 := 16#32
  let v647 : BitVec 32 := Scalar.muli c0_i32_172 c16_i32_288
  let c5_i32_289 : BitVec 32 := 5#32
  let v648 : BitVec 32 := Scalar.addi v647 c5_i32_289
  let c256_i32_290 : BitVec 32 := 256#32
  let v649 : BitVec 32 := Scalar.muli v648 c256_i32_290
  v649
def k0_mult23 : BitVec 32 :=
  let c0_i32_172 : BitVec 32 := 0#32
  let c16_i32_311 : BitVec 32 := 16#32
  let v702 : BitVec 32 := Scalar.muli c0_i32_172 c16_i32_311
  let c6_i32_312 : BitVec 32 := 6#32
  let v703 : BitVec 32 := Scalar.addi v702 c6_i32_312
  let c256_i32_313 : BitVec 32 := 256#32
  let v704 : BitVec 32 := Scalar.muli v703 c256_i32_313
  v704
def k0_mult24 : BitVec 32 :=
  let c0_i32_172 : BitVec 32 := 0#32
  let c16_i32_334 : BitVec 32 := 16#32
  let v757 : BitVec 32 := Scalar.muli c0_i32_172 c16_i32_334
  let c7_i32_335 : BitVec 32 := 7#32
  let v758 : BitVec 32 := Scalar.addi v757 c7_i32_335
  let c256_i32_336 : BitVec 32 := 256#32
  let v759 : BitVec 32 := Scalar.muli v758 c256_i32_336
  v759
def k0_mult25 : BitVec 32 :=
  let c0_i32_172 : BitVec 32 := 0#32
  let c16_i32_357 : BitVec 32 := 16#32
  let v812 : BitVec 32 := Scalar.muli c0_i32_172 c16_i32_357
  let c8_i32_358 : BitVec 32 := 8#32
  let v813 : BitVec 32 := Scalar.addi v812 c8_i32_358
  let c256_i32_359 : BitVec 32 := 256#32
  let v814 : BitVec 32 := Scalar.muli v813 c256_i32_359
  v814
def k0_mult26 : BitVec 32 :=
  let c0_i32_172 : BitVec 32 := 0#32
  let c16_i32_380 : BitVec 32 := 16#32
  let v867 : BitVec 32 := Scalar.muli c0_i32_172 c16_i32_380
  let c9_i32_381 : BitVec 32 := 9#32
  let v868 : BitVec 32 := Scalar.addi v867 c9_i32_381
  let c256_i32_382 : BitVec 32 := 256#32
  let v869 : BitVec 32 := Scalar.muli v868 c256_i32_382
  v869
def k0_mult27 : BitVec 32 :=
  let c0_i32_172 : BitVec 32 := 0#32
  let c16_i32_403 : BitVec 32 := 16#32
  let v922 : BitVec 32 := Scalar.muli c0_i32_172 c16_i32_403
  let c10_i32_404 : BitVec 32 := 10#32
  let v923 : BitVec 32 := Scalar.addi v922 c10_i32_404
  let c256_i32_405 : BitVec 32 := 256#32
  let v924 : BitVec 32 := Scalar.muli v923 c256_i32_405
  v924
def k0_mult28 : BitVec 32 :=
  let c0_i32_172 : BitVec 32 := 0#32
  let c16_i32_426 : BitVec 32 := 16#32
  let v977 : BitVec 32 := Scalar.muli c0_i32_172 c16_i32_426
  let c11_i32_427 : BitVec 32 := 11#32
  let v978 : BitVec 32 := Scalar.addi v977 c11_i32_427
  let c256_i32_428 : BitVec 32 := 256#32
  let v979 : BitVec 32 := Scalar.muli v978 c256_i32_428
  v979
def k0_mult29 : BitVec 32 :=
  let c0_i32_172 : BitVec 32 := 0#32
  let c16_i32_449 : BitVec 32 := 16#32
  let v1032 : BitVec 32 := Scalar.muli c0_i32_172 c16_i32_449
  let c12_i32_450 : BitVec 32 := 12#32
  let v1033 : BitVec 32 := Scalar.addi v1032 c12_i32_450
  let c256_i32_451 : BitVec 32 := 256#32
  let v1034 : BitVec 32 := Scalar.muli v1033 c256_i32_451
  v1034
def k0_mult30 : BitVec 32 :=
  let c0_i32_172 : BitVec 32 := 0#32
  let c16_i32_472 : BitVec 32 := 16#32
  let v1087 : BitVec 32 := Scalar.muli c0_i32_172 c16_i32_472
  let c13_i32_473 : BitVec 32 := 13#32
  let v1088 : BitVec 32 := Scalar.addi v1087 c13_i32_473
  let c256_i32_474 : BitVec 32 := 256#32
  let v1089 : BitVec 32 := Scalar.muli v1088 c256_i32_474
  v1089
def k0_mult31 : BitVec 32 :=
  let c0_i32_172 : BitVec 32 := 0#32
  let c16_i32_495 : BitVec 32 := 16#32
  let v1142 : BitVec 32 := Scalar.muli c0_i32_172 c16_i32_495
  let c14_i32_496 : BitVec 32 := 14#32
  let v1143 : BitVec 32 := Scalar.addi v1142 c14_i32_496
  let c256_i32_497 : BitVec 32 := 256#32
  let v1144 : BitVec 32 := Scalar.muli v1143 c256_i32_497
  v1144
def k0_mult32 : BitVec 32 :=
  let c0_i32_172 : BitVec 32 := 0#32
  let c16_i32_518 : BitVec 32 := 16#32
  let v1197 : BitVec 32 := Scalar.muli c0_i32_172 c16_i32_518
  let c15_i32_519 : BitVec 32 := 15#32
  let v1198 : BitVec 32 := Scalar.addi v1197 c15_i32_519
  let c256_i32_520 : BitVec 32 := 256#32
  let v1199 : BitVec 32 := Scalar.muli v1198 c256_i32_520
  v1199
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![v0.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32x16384x128 : Shape := ⟨3, ![32, 16384, 128]⟩
abbrev S8 : Shape := ⟨1, ![8]⟩
abbrev S1024 : Shape := ⟨1, ![1024]⟩
abbrev S8x16384x128 : Shape := ⟨3, ![8, 16384, 128]⟩
abbrev S8x4x4096x128 : Shape := ⟨4, ![8, 4, 4096, 128]⟩
abbrev S4x8x4096x128 : Shape := ⟨4, ![4, 8, 4096, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x1x1 : Shape := ⟨3, ![8, 1, 1]⟩
abbrev S8x4096x4096 : Shape := ⟨3, ![8, 4096, 4096]⟩
abbrev S4x8x4096x4096 : Shape := ⟨4, ![4, 8, 4096, 4096]⟩
abbrev S1x8x4096x4096 : Shape := ⟨4, ![1, 8, 4096, 4096]⟩
abbrev S4x8x4096 : Shape := ⟨3, ![4, 8, 4096]⟩
abbrev S4x8x4096x1 : Shape := ⟨4, ![4, 8, 4096, 1]⟩
abbrev S1x8x1x128 : Shape := ⟨4, ![1, 8, 1, 128]⟩

abbrev nBuf : Space → Nat
  | .hbm => 145
  | .vmem => 0
  | .smem => 0
  | _ => 0

abbrev hbmTy0_0 (i : Nat) : BufTy := match i % 128 with
  | 0 => ⟨S32x16384x128, .bf16⟩
  | 1 => ⟨S8, .f32⟩
  | 2 => ⟨S8, .f32⟩
  | 3 => ⟨S1024, .f32⟩
  | 4 => ⟨S1024, .f32⟩
  | 5 => ⟨S8x16384x128, .bf16⟩
  | 6 => ⟨S8x16384x128, .f32⟩
  | 7 => ⟨S8x4x4096x128, .f32⟩
  | 8 => ⟨S4x8x4096x128, .f32⟩
  | 9 => ⟨S8x16384x128, .bf16⟩
  | 10 => ⟨S8x16384x128, .f32⟩
  | 11 => ⟨S8x4x4096x128, .f32⟩
  | 12 => ⟨S4x8x4096x128, .f32⟩
  | 13 => ⟨S_, .f32⟩
  | 14 => ⟨S4x8x4096x128, .f32⟩
  | 15 => ⟨S4x8x4096x128, .f32⟩
  | 16 => ⟨S8x16384x128, .bf16⟩
  | 17 => ⟨S8x16384x128, .f32⟩
  | 18 => ⟨S8x4x4096x128, .f32⟩
  | 19 => ⟨S4x8x4096x128, .f32⟩
  | 20 => ⟨S8x16384x128, .bf16⟩
  | 21 => ⟨S8x16384x128, .f32⟩
  | 22 => ⟨S8x4x4096x128, .f32⟩
  | 23 => ⟨S4x8x4096x128, .f32⟩
  | 24 => ⟨S4096, .f32⟩
  | 25 => ⟨S4096x1, .f32⟩
  | 26 => ⟨S1x4096, .f32⟩
  | 27 => ⟨S4096x4096, .f32⟩
  | 28 => ⟨S4096x4096, .f32⟩
  | 29 => ⟨S4096x4096, .f32⟩
  | 30 => ⟨S8, .f32⟩
  | 31 => ⟨S_, .f32⟩
  | 32 => ⟨S8, .f32⟩
  | 33 => ⟨S8, .f32⟩
  | 34 => ⟨S8, .f32⟩
  | 35 => ⟨S8, .f32⟩
  | 36 => ⟨S8, .i1⟩
  | 37 => ⟨S8, .f32⟩
  | 38 => ⟨S8, .f32⟩
  | 39 => ⟨S8, .f32⟩
  | 40 => ⟨S8, .f32⟩
  | 41 => ⟨S8, .f32⟩
  | 42 => ⟨S8, .f32⟩
  | 43 => ⟨S8, .f32⟩
  | 44 => ⟨S8, .f32⟩
  | 45 => ⟨S8, .f32⟩
  | 46 => ⟨S_, .f32⟩
  | 47 => ⟨S4096x4096, .f32⟩
  | 48 => ⟨S4096x4096, .i1⟩
  | 49 => ⟨S1x4096x4096, .i1⟩
  | 50 => ⟨S8x1x1, .f32⟩
  | 51 => ⟨S_, .f32⟩
  | 52 => ⟨S_, .f32⟩
  | 53 => ⟨S4096x4096, .f32⟩
  | 54 => ⟨S4096x4096, .f32⟩
  | 55 => ⟨S1x4096x4096, .f32⟩
  | 56 => ⟨S8x4096x4096, .f32⟩
  | 57 => ⟨S8x4096x4096, .f32⟩
  | 58 => ⟨S8x4096x4096, .f32⟩
  | 59 => ⟨S8x4096x4096, .f32⟩
  | 60 => ⟨S_, .f32⟩
  | 61 => ⟨S_, .f32⟩
  | 62 => ⟨S8x4096x4096, .i1⟩
  | 63 => ⟨S8x4096x4096, .f32⟩
  | 64 => ⟨S8x4096x4096, .f32⟩
  | 65 => ⟨S4x8x4096x4096, .f32⟩
  | 66 => ⟨S1x8x4096x4096, .f32⟩
  | 67 => ⟨S4x8x4096x4096, .f32⟩
  | 68 => ⟨S4x8x4096x4096, .f32⟩
  | 69 => ⟨S4x8x4096x128, .f32⟩
  | 70 => ⟨S8, .f32⟩
  | 71 => ⟨S_, .f32⟩
  | 72 => ⟨S8, .f32⟩
  | 73 => ⟨S8, .f32⟩
  | 74 => ⟨S8, .f32⟩
  | 75 => ⟨S8, .f32⟩
  | 76 => ⟨S8, .i1⟩
  | 77 => ⟨S8, .f32⟩
  | 78 => ⟨S8, .f32⟩
  | 79 => ⟨S8, .f32⟩
  | 80 => ⟨S8, .f32⟩
  | 81 => ⟨S8, .f32⟩
  | 82 => ⟨S8, .f32⟩
  | 83 => ⟨S8, .f32⟩
  | 84 => ⟨S8, .f32⟩
  | 85 => ⟨S8, .f32⟩
  | 86 => ⟨S_, .f32⟩
  | 87 => ⟨S4096x4096, .f32⟩
  | 88 => ⟨S4096x4096, .i1⟩
  | 89 => ⟨S4096x4096, .f32⟩
  | 90 => ⟨S1x4096x4096, .i1⟩
  | 91 => ⟨S8x1x1, .f32⟩
  | 92 => ⟨S_, .f32⟩
  | 93 => ⟨S_, .f32⟩
  | 94 => ⟨S4096x4096, .f32⟩
  | 95 => ⟨S4096x4096, .f32⟩
  | 96 => ⟨S1x4096x4096, .f32⟩
  | 97 => ⟨S8x4096x4096, .f32⟩
  | 98 => ⟨S8x4096x4096, .f32⟩
  | 99 => ⟨S8x4096x4096, .f32⟩
  | 100 => ⟨S8x4096x4096, .f32⟩
  | 101 => ⟨S_, .f32⟩
  | 102 => ⟨S_, .f32⟩
  | 103 => ⟨S8x4096x4096, .i1⟩
  | 104 => ⟨S8x4096x4096, .f32⟩
  | 105 => ⟨S8x4096x4096, .f32⟩
  | 106 => ⟨S4x8x4096x4096, .f32⟩
  | 107 => ⟨S1x8x4096x4096, .f32⟩
  | 108 => ⟨S4x8x4096x4096, .f32⟩
  | 109 => ⟨S4x8x4096x4096, .f32⟩
  | 110 => ⟨S4x8x4096x128, .f32⟩
  | 111 => ⟨S4x8x4096x128, .f32⟩
  | 112 => ⟨S_, .f32⟩
  | 113 => ⟨S4x8x4096, .f32⟩
  | 114 => ⟨S4x8x4096x1, .f32⟩
  | 115 => ⟨S_, .f32⟩
  | 116 => ⟨S4x8x4096x1, .f32⟩
  | 117 => ⟨S4x8x4096x1, .f32⟩
  | 118 => ⟨S4x8x4096x128, .f32⟩
  | 119 => ⟨S4x8x4096x128, .f32⟩
  | 120 => ⟨S4x8x4096x128, .f32⟩
  | 121 => ⟨S_, .f32⟩
  | 122 => ⟨S4x8x4096, .f32⟩
  | 123 => ⟨S4x8x4096x1, .f32⟩
  | 124 => ⟨S_, .f32⟩
  | 125 => ⟨S4x8x4096x1, .f32⟩
  | 126 => ⟨S4x8x4096x1, .f32⟩
  | 127 => ⟨S4x8x4096x128, .f32⟩
  | _ => ⟨S32x16384x128, .bf16⟩

abbrev hbmTy0_1 (i : Nat) : BufTy := match i % 128 with
  | 0 => ⟨S4x8x4096x128, .f32⟩
  | 1 => ⟨S_, .f32⟩
  | 2 => ⟨S4x8x4096x1, .f32⟩
  | 3 => ⟨S4x8x4096x1, .f32⟩
  | 4 => ⟨S4x8x4096x1, .f32⟩
  | 5 => ⟨S4x8x4096x128, .f32⟩
  | 6 => ⟨S4x8x4096x128, .f32⟩
  | 7 => ⟨S1x8x1x128, .f32⟩
  | 8 => ⟨S4x8x4096x128, .f32⟩
  | 9 => ⟨S4x8x4096x128, .f32⟩
  | 10 => ⟨S1x8x1x128, .f32⟩
  | 11 => ⟨S4x8x4096x128, .f32⟩
  | 12 => ⟨S4x8x4096x128, .f32⟩
  | 13 => ⟨S4x8x4096x128, .f32⟩
  | 14 => ⟨S8x4x4096x128, .f32⟩
  | 15 => ⟨S8x16384x128, .f32⟩
  | 16 => ⟨S8x16384x128, .bf16⟩
  | _ => ⟨S32x16384x128, .bf16⟩

abbrev hbmTy (i : Nat) : BufTy := match i / 128 with
  | 0 => hbmTy0_0 i
  | 1 => hbmTy0_1 i
  | _ => ⟨S32x16384x128, .bf16⟩

abbrev bufTy : (tb : Table) → Fin (tcTables nBuf tb) → BufTy
  | .hbm, ⟨i, _⟩ => hbmTy i
  | _, _ => ⟨S32x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_call0_cst : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_v1 : Ref sig .tc := ⟨.hbm, 44, rfl⟩
abbrev main_v24 : Ref sig .tc := ⟨.hbm, 45, rfl⟩
abbrev main_cst_0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_call1_v0 : Ref sig .tc := ⟨.hbm, 52, rfl⟩
abbrev main_call1_v1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call3_v0 : Ref sig .tc := ⟨.hbm, 70, rfl⟩
abbrev main_call3_call0_cst : Ref sig .tc := ⟨.hbm, 71, rfl⟩
abbrev main_call3_call0_v0 : Ref sig .tc := ⟨.hbm, 72, rfl⟩
abbrev main_call3_call0_v1 : Ref sig .tc := ⟨.hbm, 73, rfl⟩
abbrev main_call3_call0_v2 : Ref sig .tc := ⟨.hbm, 74, rfl⟩
abbrev main_call3_call0_v3 : Ref sig .tc := ⟨.hbm, 75, rfl⟩
abbrev main_call3_call0_v4 : Ref sig .tc := ⟨.hbm, 76, rfl⟩
abbrev main_call3_call0_v5 : Ref sig .tc := ⟨.hbm, 77, rfl⟩
abbrev main_call3_call0_v6 : Ref sig .tc := ⟨.hbm, 78, rfl⟩
abbrev main_call3_call0_v7 : Ref sig .tc := ⟨.hbm, 79, rfl⟩
abbrev main_call3_call0_v8 : Ref sig .tc := ⟨.hbm, 80, rfl⟩
abbrev main_call3_call0_v9 : Ref sig .tc := ⟨.hbm, 81, rfl⟩
abbrev main_call3_call0_v10 : Ref sig .tc := ⟨.hbm, 82, rfl⟩
abbrev main_call3_call0_v11 : Ref sig .tc := ⟨.hbm, 83, rfl⟩
abbrev main_call3_v1 : Ref sig .tc := ⟨.hbm, 84, rfl⟩
abbrev main_v41 : Ref sig .tc := ⟨.hbm, 85, rfl⟩
abbrev main_cst_3 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_cst_4 : Ref sig .tc := ⟨.hbm, 92, rfl⟩
abbrev main_call4_v0 : Ref sig .tc := ⟨.hbm, 93, rfl⟩
abbrev main_call4_v1 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_5 : Ref sig .tc := ⟨.hbm, 101, rfl⟩
abbrev main_call5_v0 : Ref sig .tc := ⟨.hbm, 102, rfl⟩
abbrev main_call5_v1 : Ref sig .tc := ⟨.hbm, 103, rfl⟩
abbrev main_call5_v2 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_6 : Ref sig .tc := ⟨.hbm, 112, rfl⟩
abbrev main_v60 : Ref sig .tc := ⟨.hbm, 113, rfl⟩
abbrev main_v61 : Ref sig .tc := ⟨.hbm, 114, rfl⟩
abbrev main_cst_7 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_8 : Ref sig .tc := ⟨.hbm, 121, rfl⟩
abbrev main_v67 : Ref sig .tc := ⟨.hbm, 122, rfl⟩
abbrev main_v68 : Ref sig .tc := ⟨.hbm, 123, rfl⟩
abbrev main_cst_9 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_10 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩

abbrev nD : Nat := 1
abbrev τ : Topo := Topo.v7x

variable {F : FTy → Type} [FloatOps F]
-- ==== Kernel2.lean ====
abbrev S4x4096x2048 : Shape := ⟨3, ![4, 4096, 2048]⟩
abbrev S8x16384x128 : Shape := ⟨3, ![8, 16384, 128]⟩
abbrev S16384x1024 : Shape := ⟨2, ![16384, 1024]⟩
abbrev S1x2048x2048 : Shape := ⟨3, ![1, 2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S8x512x128 : Shape := ⟨3, ![8, 512, 128]⟩
abbrev S512x1024 : Shape := ⟨2, ![512, 1024]⟩
abbrev S2048x2048 : Shape := ⟨2, ![2048, 2048]⟩
abbrev S4x2048x256 : Shape := ⟨3, ![4, 2048, 256]⟩
abbrev S4 : Shape := ⟨1, ![4]⟩
abbrev S1 : Shape := ⟨1, ![1]⟩
abbrev S_ : Shape := ⟨0, ![]⟩
abbrev S1x2048x256 : Shape := ⟨3, ![1, 2048, 256]⟩
abbrev S1x256x128 : Shape := ⟨3, ![1, 256, 128]⟩
abbrev S256x128 : Shape := ⟨2, ![256, 128]⟩
abbrev S256x1024 : Shape := ⟨2, ![256, 1024]⟩
abbrev S256x2048 : Shape := ⟨2, ![256, 2048]⟩
abbrev S2048x256 : Shape := ⟨2, ![2048, 256]⟩
abbrev S256x512 : Shape := ⟨2, ![256, 512]⟩
abbrev S2048x512 : Shape := ⟨2, ![2048, 512]⟩
abbrev S256 : Shape := ⟨1, ![256]⟩
abbrev S256x1 : Shape := ⟨2, ![256, 1]⟩
abbrev S1x512 : Shape := ⟨2, ![1, 512]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S8x16384x128, .bf16⟩
  | .hbm, ⟨2, _⟩ => ⟨S16384x1024, .bf16⟩
  | .hbm, ⟨3, _⟩ => ⟨S1x2048x2048, .f32⟩
  | .hbm, ⟨4, _⟩ => ⟨S2048, .f32⟩
  | .hbm, ⟨5, _⟩ => ⟨S16384x2048, .f32⟩
  | .hbm, ⟨6, _⟩ => ⟨S1x2048, .f32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S8x512x128, .bf16⟩
  | .local _ .vmem, ⟨3, _⟩ => ⟨S8x512x128, .bf16⟩
  | .local _ .vmem, ⟨4, _⟩ => ⟨S512x1024, .bf16⟩
  | .local _ .vmem, ⟨5, _⟩ => ⟨S512x1024, .bf16⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S2048x2048, .bf16⟩
  | .local _ .vmem, ⟨10, _⟩ => ⟨S4x2048x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4x4096x2048 : Shape := ⟨3, ![4, 4096, 2048]⟩
abbrev S8x16384x128 : Shape := ⟨3, ![8, 16384, 128]⟩
abbrev S16384x1024 : Shape := ⟨2, ![16384, 1024]⟩
abbrev S1x2048x2048 : Shape := ⟨3, ![1, 2048, 2048]⟩
abbrev S2048 : Shape := ⟨1, ![2048]⟩
abbrev S8x4x4096x128 : Shape := ⟨4, ![8, 4, 4096, 128]⟩
abbrev S4x4096x8x128 : Shape := ⟨4, ![4, 4096, 8, 128]⟩
abbrev S4x4096x1024 : Shape := ⟨3, ![4, 4096, 1024]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S8x16384x128, .bf16⟩
  | .hbm, ⟨2, _⟩ => ⟨S16384x1024, .bf16⟩
  | .hbm, ⟨3, _⟩ => ⟨S1x2048x2048, .f32⟩
  | .hbm, ⟨4, _⟩ => ⟨S2048, .f32⟩
  | .hbm, ⟨5, _⟩ => ⟨S8x4x4096x128, .bf16⟩
  | .hbm, ⟨6, _⟩ => ⟨S4x4096x8x128, .bf16⟩
  | .hbm, ⟨7, _⟩ => ⟨S4x4096x1024, .bf16⟩
  | .hbm, ⟨8, _⟩ => ⟨S4x4096x1024, .bf16⟩
  | .hbm, ⟨9, _⟩ => ⟨S4x4096x2048, .bf16⟩
  | .hbm, ⟨10, _⟩ => ⟨S4x4096x2048, .f32⟩
  | .hbm, ⟨11, _⟩ => ⟨S2048x2048, .f32⟩
  | .hbm, ⟨12, _⟩ => ⟨S4x4096x2048, .f32⟩
  | .hbm, ⟨13, _⟩ => ⟨S4x4096x2048, .f32⟩
  | .hbm, ⟨14, _⟩ => ⟨S4x4096x2048, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S4x4096x1, .f32⟩
  | .hbm, ⟨25, _⟩ => ⟨S4x4096x2048, .f32⟩
  | .hbm, ⟨26, _⟩ => ⟨S4x4096x2048, .f32⟩
  | .hbm, ⟨27, _⟩ => ⟨S1x1x2048, .f32⟩
  | .hbm, ⟨28, _⟩ => ⟨S4x4096x2048, .f32⟩
  | .hbm, ⟨29, _⟩ => ⟨S4x4096x2048, .f32⟩
  | .hbm, ⟨30, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel3.lean ====
abbrev S4x4096x2048 : Shape := ⟨3, ![4, 4096, 2048]⟩
abbrev S1x2048x6656 : Shape := ⟨3, ![1, 2048, 6656]⟩
abbrev S1x2048 : Shape := ⟨2, ![1, 2048]⟩
abbrev S16384x2048 : Shape := ⟨2, ![16384, 2048]⟩
abbrev S2048 : Shape := ⟨1, ![2048]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x1x64 : Shape := ⟨3, ![64, 1, 64]⟩
abbrev S1x64x64 : Shape := ⟨3, ![1, 64, 64]⟩
abbrev S64x64x64 : Shape := ⟨3, ![64, 64, 64]⟩
abbrev S4096x64 : Shape := ⟨2, ![4096, 64]⟩
abbrev S16 : Shape := ⟨1, ![16]⟩
abbrev S1x16 : Shape := ⟨2, ![1, 16]⟩
abbrev S64x16 : Shape := ⟨2, ![64, 16]⟩
abbrev S64x1x16 : Shape := ⟨3, ![64, 1, 16]⟩
abbrev S1x64x16 : Shape := ⟨3, ![1, 64, 16]⟩
abbrev S64x64x16 : Shape := ⟨3, ![64, 64, 16]⟩
abbrev S4096x16 : Shape := ⟨2, ![4096, 16]⟩
abbrev S4096x96 : Shape := ⟨2, ![4096, 96]⟩
abbrev S4096x128 : Shape := ⟨2, ![4096, 128]⟩
abbrev S1x4096x128 : Shape := ⟨3, ![1, 4096, 128]⟩
abbrev S4x4096x128 : Shape := ⟨3, ![4, 4096, 128]⟩
abbrev S32x16384x128 : Shape := ⟨3, ![32, 16384, 128]⟩
abbrev S16384x1024 : Shape := ⟨2, ![16384, 1024]⟩
abbrev S16384x256 : Shape := ⟨2, ![16384, 256]⟩
abbrev S256x2048 : Shape := ⟨2, ![256, 2048]⟩
abbrev S4x256x128 : Shape := ⟨3, ![4, 256, 128]⟩
abbrev S32x256x128 : Shape := ⟨3, ![32, 256, 128]⟩
abbrev S256x1024 : Shape := ⟨2, ![256, 1024]⟩
abbrev S256x256 : Shape := ⟨2, ![256, 256]⟩
abbrev S2048x6656 : Shape := ⟨2, ![2048, 6656]⟩
abbrev S2x2048x512 : Shape := ⟨3, ![2, 2048, 512]⟩
abbrev S2 : Shape := ⟨1, ![2]⟩
abbrev S1 : Shape := ⟨1, ![1]⟩
abbrev S1x2048x512 : Shape := ⟨3, ![1, 2048, 512]⟩
abbrev S128x2048 : Shape := ⟨2, ![128, 2048]⟩
abbrev S128 : Shape := ⟨1, ![128]⟩
abbrev S128x1 : Shape := ⟨2, ![128, 1]⟩
abbrev S2048x512 : Shape := ⟨2, ![2048, 512]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 119
  | .vmem => 20
  | .smem => 0
  | _ => 0

abbrev bufTy : (tb : Table) → Fin (tcTables nBuf tb) → BufTy
  | .hbm, ⟨0, _⟩ => ⟨S4x4096x2048, .f32⟩
  | .hbm, ⟨1, _⟩ => ⟨S1x2048x6656, .f32⟩
  | .hbm, ⟨2, _⟩ => ⟨S1x2048, .f32⟩
  | .hbm, ⟨3, _⟩ => ⟨S16384x2048, .f32⟩
  | .hbm, ⟨4, _⟩ => ⟨S2048, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64x1, .f32⟩
  | .hbm, ⟨16, _⟩ => ⟨S_, .f32⟩
  | .hbm, ⟨17, _⟩ => ⟨S64x1, .f32⟩
  | .hbm, ⟨18, _⟩ => ⟨S64x1, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64, .f32⟩
  | .hbm, ⟨23, _⟩ => ⟨S64x1, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x1x64, .f32⟩
  | .hbm, ⟨29, _⟩ => ⟨S64x64, .f32⟩
  | .hbm, ⟨30, _⟩ => ⟨S64x1x64, .f32⟩
  | .hbm, ⟨31, _⟩ => ⟨S64x64, .f32⟩
  | .hbm, ⟨32, _⟩ => ⟨S1x64x64, .f32⟩
  | .hbm, ⟨33, _⟩ => ⟨S64x64, .f32⟩
  | .hbm, ⟨34, _⟩ => ⟨S1x64x64, .f32⟩
  | .hbm, ⟨35, _⟩ => ⟨S64x64x64, .f32⟩
  | .hbm, ⟨36, _⟩ => ⟨S64x64x64, .f32⟩
  | .hbm, ⟨37, _⟩ => ⟨S64x64x64, .f32⟩
  | .hbm, ⟨38, _⟩ => ⟨S64x64x64, .f32⟩
  | .hbm, ⟨39, _⟩ => ⟨S64x64x64, .f32⟩
  | .hbm, ⟨40, _⟩ => ⟨S64x64x64, .f32⟩
  | .hbm, ⟨41, _⟩ => ⟨S64x64x64, .f32⟩
  | .hbm, ⟨42, _⟩ => ⟨S4096x64, .f32⟩
  | .hbm, ⟨43, _⟩ => ⟨S64x64x64, .f32⟩
  | .hbm, ⟨44, _⟩ => ⟨S64x64x64, .f32⟩
  | .hbm, ⟨45, _⟩ => ⟨S64x64x64, .f32⟩
  | .hbm, ⟨46, _⟩ => ⟨S64x64x64, .f32⟩
  | .hbm, ⟨47, _⟩ => ⟨S64x64x64, .f32⟩
  | .hbm, ⟨48, _⟩ => ⟨S64x64x64, .f32⟩
  | .hbm, ⟨49, _⟩ => ⟨S64x64x64, .f32⟩
  | .hbm, ⟨50, _⟩ => ⟨S4096x64, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S1x16, .f32⟩
  | .hbm, ⟨60, _⟩ => ⟨S64, .f32⟩
  | .hbm, ⟨61, _⟩ => ⟨S64x1, .f32⟩
  | .hbm, ⟨62, _⟩ => ⟨S_, .f32⟩
  | .hbm, ⟨63, _⟩ => ⟨S64x1, .f32⟩
  | .hbm, ⟨64, _⟩ => ⟨S64x1, .f32⟩
  | .hbm, ⟨65, _⟩ => ⟨S64x16, .f32⟩
  | .hbm, ⟨66, _⟩ => ⟨S64x16, .f32⟩
  | .hbm, ⟨67, _⟩ => ⟨S64x16, .f32⟩
  | .hbm, ⟨68, _⟩ => ⟨S64, .f32⟩
  | .hbm, ⟨69, _⟩ => ⟨S64x1, .f32⟩
  | .hbm, ⟨70, _⟩ => ⟨S64x16, .f32⟩
  | .hbm, ⟨71, _⟩ => ⟨S64x16, .f32⟩
  | .hbm, ⟨72, _⟩ => ⟨S64x16, .f32⟩
  | .hbm, ⟨73, _⟩ => ⟨S64x16, .f32⟩
  | .hbm, ⟨74, _⟩ => ⟨S64x1x16, .f32⟩
  | .hbm, ⟨75, _⟩ => ⟨S64x16, .f32⟩
  | .hbm, ⟨76, _⟩ => ⟨S64x1x16, .f32⟩
  | .hbm, ⟨77, _⟩ => ⟨S64x16, .f32⟩
  | .hbm, ⟨78, _⟩ => ⟨S1x64x16, .f32⟩
  | .hbm, ⟨79, _⟩ => ⟨S64x16, .f32⟩
  | .hbm, ⟨80, _⟩ => ⟨S1x64x16, .f32⟩
  | .hbm, ⟨81, _⟩ => ⟨S64x64x16, .f32⟩
  | .hbm, ⟨82, _⟩ => ⟨S64x64x16, .f32⟩
  | .hbm, ⟨83, _⟩ => ⟨S64x64x16, .f32⟩
  | .hbm, ⟨84, _⟩ => ⟨S64x64x16, .f32⟩
  | .hbm, ⟨85, _⟩ => ⟨S64x64x16, .f32⟩
  | .hbm, ⟨86, _⟩ => ⟨S64x64x16, .f32⟩
  | .hbm, ⟨87, _⟩ => ⟨S64x64x16, .f32⟩
  | .hbm, ⟨88, _⟩ => ⟨S4096x16, .f32⟩
  | .hbm, ⟨89, _⟩ => ⟨S64x64x16, .f32⟩
  | .hbm, ⟨90, _⟩ => ⟨S64x64x16, .f32⟩
  | .hbm, ⟨91, _⟩ => ⟨S64x64x16, .f32⟩
  | .hbm, ⟨92, _⟩ => ⟨S64x64x16, .f32⟩
  | .hbm, ⟨93, _⟩ => ⟨S64x64x16, .f32⟩
  | .hbm, ⟨94, _⟩ => ⟨S64x64x16, .f32⟩
  | .hbm, ⟨95, _⟩ => ⟨S64x64x16, .f32⟩
  | .hbm, ⟨96, _⟩ => ⟨S4096x16, .f32⟩
  | .hbm, ⟨97, _⟩ => ⟨S_, .f32⟩
  | .hbm, ⟨98, _⟩ => ⟨S4096x96, .f32⟩
  | .hbm, ⟨99, _⟩ => ⟨S4096x128, .f32⟩
  | .hbm, ⟨100, _⟩ => ⟨S4096x64, .f32⟩
  | .hbm, ⟨101, _⟩ => ⟨S4096x128, .f32⟩
  | .hbm, ⟨102, _⟩ => ⟨S_, .f32⟩
  | .hbm, ⟨103, _⟩ => ⟨S4096x96, .f32⟩
  | .hbm, ⟨104, _⟩ => ⟨S4096x96, .f32⟩
  | .hbm, ⟨105, _⟩ => ⟨S4096x128, .f32⟩
  | .hbm, ⟨106, _⟩ => ⟨S4096x16, .f32⟩
  | .hbm, ⟨107, _⟩ => ⟨S4096x128, .f32⟩
  | .hbm, ⟨108, _⟩ => ⟨S1x4096x128, .f32⟩
  | .hbm, ⟨109, _⟩ => ⟨S1x4096x128, .f32⟩
  | .hbm, ⟨110, _⟩ => ⟨S1x4096x128, .f32⟩
  | .hbm, ⟨111, _⟩ => ⟨S1x4096x128, .f32⟩
  | .hbm, ⟨112, _⟩ => ⟨S4x4096x128, .f32⟩
  | .hbm, ⟨113, _⟩ => ⟨S1x2048, .f32⟩
  | .hbm, ⟨114, _⟩ => ⟨S32x16384x128, .bf16⟩
  | .hbm, ⟨115, _⟩ => ⟨S16384x1024, .bf16⟩
  | .hbm, ⟨116, _⟩ => ⟨S16384x256, .bf16⟩
  | .hbm, ⟨117, _⟩ => ⟨S16384x256, .bf16⟩
  | .hbm, ⟨118, _⟩ => ⟨S16384x1024, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S1x2048, .f32⟩
  | .local _ .vmem, ⟨4, _⟩ => ⟨S4x256x128, .f32⟩
  | .local _ .vmem, ⟨5, _⟩ => ⟨S4x256x128, .f32⟩
  | .local _ .vmem, ⟨6, _⟩ => ⟨S32x256x128, .bf16⟩
  | .local _ .vmem, ⟨7, _⟩ => ⟨S32x256x128, .bf16⟩
  | .local _ .vmem, ⟨8, _⟩ => ⟨S256x1024, .bf16⟩
  | .local _ .vmem, ⟨9, _⟩ => ⟨S256x1024, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x1024, .bf16⟩
  | .local _ .vmem, ⟨15, _⟩ => ⟨S256x1024, .bf16⟩
  | .local _ .vmem, ⟨16, _⟩ => ⟨S2048x6656, .bf16⟩
  | .local _ .vmem, ⟨17, _⟩ => ⟨S2x2048x512, .f32⟩
  | .local _ .vmem, ⟨18, _⟩ => ⟨S256x2048, .bf16⟩
  | .local _ .vmem, ⟨19, _⟩ => ⟨S256x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_2 : Ref sig .tc := ⟨.hbm, 53, rfl⟩
abbrev main_v47 : Ref sig .tc := ⟨.hbm, 54, rfl⟩
abbrev main_v48 : Ref sig .tc := ⟨.hbm, 55, rfl⟩
abbrev main_cst_3 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_cst_5 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_cst_6 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103_0 : Ref sig .tc := ⟨.hbm, 114, rfl⟩
abbrev main_v103_1 : Ref sig .tc := ⟨.hbm, 115, rfl⟩
abbrev main_v103_2 : Ref sig .tc := ⟨.hbm, 116, rfl⟩
abbrev main_v103_3 : Ref sig .tc := ⟨.hbm, 117, rfl⟩
abbrev main_v103_4 : Ref sig .tc := ⟨.hbm, 118, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k0_cond2 (i : grid0.Coords) : BitVec 1 :=
  let arg0 : BitVec 32 := BitVec.ofNat 32 (i 0).val
  let c0_i32_2 : BitVec 32 := 0#32
  let v5 : BitVec 1 := Scalar.cmpi .sgt arg0 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c0_i32_16 : BitVec 32 := 0#32
  let v31 : BitVec 1 := Scalar.cmpi .eq v30 c0_i32_16
  let v32 : BitVec 32 := Scalar.extui v31
  let c0_i32_17 : BitVec 32 := 0#32
  let v33 : BitVec 1 := Scalar.cmpi .ne v32 c0_i32_17
  v33

def k0_cond4 (i : grid0.Coords) : BitVec 1 :=
  let arg0 : BitVec 32 := BitVec.ofNat 32 (i 0).val
  let c2_i32 : BitVec 32 := 2#32
  let c0_i32_4 : BitVec 32 := 0#32
  let v8 : BitVec 1 := Scalar.cmpi .eq c2_i32 c0_i32_4
  let c1_i32 : BitVec 32 := 1#32
  let v9 : BitVec 32 := Scalar.select v8 c1_i32 c2_i32
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c1_i32_8 : BitVec 32 := 1#32
  let v18 : BitVec 1 := Scalar.cmpi .eq v17 c1_i32_8
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x4096x2048 : Shape := ⟨3, ![4, 4096, 2048]⟩
abbrev S1x2048x6656 : Shape := ⟨3, ![1, 2048, 6656]⟩
abbrev S1x2048 : Shape := ⟨2, ![1, 2048]⟩
abbrev S_ : Shape := ⟨0, ![]⟩
abbrev S4x4096 : Shape := ⟨2, ![4, 4096]⟩
abbrev S4x4096x1 : Shape := ⟨3, ![4, 4096, 1]⟩
abbrev S2048 : Shape := ⟨1, ![2048]⟩
abbrev S1x1x2048 : Shape := ⟨3, ![1, 1, 2048]⟩
abbrev S2048x6656 : Shape := ⟨2, ![2048, 6656]⟩
abbrev S4x4096x6656 : Shape := ⟨3, ![4, 4096, 6656]⟩
abbrev S4x4096x1024 : Shape := ⟨3, ![4, 4096, 1024]⟩
abbrev S4x4096x256 : Shape := ⟨3, ![4, 4096, 256]⟩
abbrev S4x4096x8x128 : Shape := ⟨4, ![4, 4096, 8, 128]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x8x64 : Shape := ⟨4, ![4, 4096, 8, 64]⟩
abbrev S4x4096x8x0 : Shape := ⟨4, ![4, 4096, 8, 0]⟩
abbrev S16 : Shape := ⟨1, ![16]⟩
abbrev S1x16 : Shape := ⟨2, ![1, 16]⟩
abbrev S4096x16 : Shape := ⟨2, ![4096, 16]⟩
abbrev S1x4096x1x16 : Shape := ⟨4, ![1, 4096, 1, 16]⟩
abbrev S4x4096x8x16 : Shape := ⟨4, ![4, 4096, 8, 16]⟩
abbrev S4x4096x8x96 : Shape := ⟨4, ![4, 4096, 8, 96]⟩
abbrev S4x4096x2x128 : Shape := ⟨4, ![4, 4096, 2, 128]⟩
abbrev S4x4096x2x16 : Shape := ⟨4, ![4, 4096, 2, 16]⟩
abbrev S4x4096x2x96 : Shape := ⟨4, ![4, 4096, 2, 96]⟩
abbrev S4x4096x32x128 : Shape := ⟨4, ![4, 4096, 32, 128]⟩
abbrev S32x4x4096x128 : Shape := ⟨4, ![32, 4, 4096, 128]⟩
abbrev S32x16384x128 : Shape := ⟨3, ![32, 16384, 128]⟩
abbrev S16384x1024 : Shape := ⟨2, ![16384, 1024]⟩
abbrev S16384x256 : Shape := ⟨2, ![16384, 256]⟩

abbrev nBuf : Space → Nat
  | .hbm => 197
  | .vmem => 0
  | .smem => 0
  | _ => 0

abbrev hbmTy0_0 (i : Nat) : BufTy := match i % 128 with
  | 0 => ⟨S4x4096x2048, .f32⟩
  | 1 => ⟨S1x2048x6656, .f32⟩
  | 2 => ⟨S1x2048, .f32⟩
  | 3 => ⟨S4x4096x2048, .f32⟩
  | 4 => ⟨S_, .f32⟩
  | 5 => ⟨S4x4096, .f32⟩
  | 6 => ⟨S4x4096x1, .f32⟩
  | 7 => ⟨S_, .f32⟩
  | 8 => ⟨S4x4096x1, .f32⟩
  | 9 => ⟨S4x4096x1, .f32⟩
  | 10 => ⟨S_, .f32⟩
  | 11 => ⟨S4x4096x1, .f32⟩
  | 12 => ⟨S4x4096x1, .f32⟩
  | 13 => ⟨S4x4096x1, .f32⟩
  | 14 => ⟨S4x4096x2048, .f32⟩
  | 15 => ⟨S4x4096x2048, .f32⟩
  | 16 => ⟨S2048, .f32⟩
  | 17 => ⟨S1x1x2048, .f32⟩
  | 18 => ⟨S4x4096x2048, .f32⟩
  | 19 => ⟨S4x4096x2048, .f32⟩
  | 20 => ⟨S2048x6656, .f32⟩
  | 21 => ⟨S4x4096x6656, .f32⟩
  | 22 => ⟨S4x4096x1024, .f32⟩
  | 23 => ⟨S4x4096x1024, .f32⟩
  | 24 => ⟨S4x4096x1024, .f32⟩
  | 25 => ⟨S4x4096x1024, .f32⟩
  | 26 => ⟨S4x4096x1024, .f32⟩
  | 27 => ⟨S4x4096x256, .f32⟩
  | 28 => ⟨S4x4096x256, .f32⟩
  | 29 => ⟨S4x4096x1024, .f32⟩
  | 30 => ⟨S4x4096x8x128, .f32⟩
  | 31 => ⟨S64, .f32⟩
  | 32 => ⟨S64, .f32⟩
  | 33 => ⟨S_, .f32⟩
  | 34 => ⟨S64, .f32⟩
  | 35 => ⟨S64, .f32⟩
  | 36 => ⟨S_, .f32⟩
  | 37 => ⟨S64, .f32⟩
  | 38 => ⟨S64, .f32⟩
  | 39 => ⟨S4096, .f32⟩
  | 40 => ⟨S4096x1, .f32⟩
  | 41 => ⟨S1x64, .f32⟩
  | 42 => ⟨S4096x64, .f32⟩
  | 43 => ⟨S4096x64, .f32⟩
  | 44 => ⟨S4096x64, .f32⟩
  | 45 => ⟨S4096x64, .f32⟩
  | 46 => ⟨S1x4096x1x64, .f32⟩
  | 47 => ⟨S4096x64, .f32⟩
  | 48 => ⟨S1x4096x1x64, .f32⟩
  | 49 => ⟨S4x4096x8x64, .f32⟩
  | 50 => ⟨S4x4096x8x64, .f32⟩
  | 51 => ⟨S4x4096x8x64, .f32⟩
  | 52 => ⟨S4x4096x8x64, .f32⟩
  | 53 => ⟨S4x4096x8x64, .f32⟩
  | 54 => ⟨S4x4096x8x64, .f32⟩
  | 55 => ⟨S4x4096x8x64, .f32⟩
  | 56 => ⟨S4x4096x8x64, .f32⟩
  | 57 => ⟨S4x4096x8x64, .f32⟩
  | 58 => ⟨S4x4096x8x64, .f32⟩
  | 59 => ⟨S4x4096x8x64, .f32⟩
  | 60 => ⟨S4x4096x8x64, .f32⟩
  | 61 => ⟨S4x4096x8x0, .f32⟩
  | 62 => ⟨S4x4096x8x128, .f32⟩
  | 63 => ⟨S4x4096x8x128, .f32⟩
  | 64 => ⟨S64, .f32⟩
  | 65 => ⟨S64, .f32⟩
  | 66 => ⟨S_, .f32⟩
  | 67 => ⟨S64, .f32⟩
  | 68 => ⟨S64, .f32⟩
  | 69 => ⟨S_, .f32⟩
  | 70 => ⟨S64, .f32⟩
  | 71 => ⟨S64, .f32⟩
  | 72 => ⟨S4096, .f32⟩
  | 73 => ⟨S4096x1, .f32⟩
  | 74 => ⟨S1x64, .f32⟩
  | 75 => ⟨S4096x64, .f32⟩
  | 76 => ⟨S4096x64, .f32⟩
  | 77 => ⟨S4096x64, .f32⟩
  | 78 => ⟨S4096x64, .f32⟩
  | 79 => ⟨S1x4096x1x64, .f32⟩
  | 80 => ⟨S4096x64, .f32⟩
  | 81 => ⟨S1x4096x1x64, .f32⟩
  | 82 => ⟨S4x4096x8x64, .f32⟩
  | 83 => ⟨S4x4096x8x64, .f32⟩
  | 84 => ⟨S4x4096x8x64, .f32⟩
  | 85 => ⟨S4x4096x8x64, .f32⟩
  | 86 => ⟨S4x4096x8x64, .f32⟩
  | 87 => ⟨S4x4096x8x64, .f32⟩
  | 88 => ⟨S4x4096x8x64, .f32⟩
  | 89 => ⟨S4x4096x8x64, .f32⟩
  | 90 => ⟨S4x4096x8x64, .f32⟩
  | 91 => ⟨S4x4096x8x64, .f32⟩
  | 92 => ⟨S4x4096x8x64, .f32⟩
  | 93 => ⟨S4x4096x8x64, .f32⟩
  | 94 => ⟨S4x4096x8x0, .f32⟩
  | 95 => ⟨S4x4096x8x128, .f32⟩
  | 96 => ⟨S4x4096x8x128, .f32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S4096, .f32⟩
  | 106 => ⟨S4096x1, .f32⟩
  | 107 => ⟨S1x16, .f32⟩
  | 108 => ⟨S4096x16, .f32⟩
  | 109 => ⟨S4096x16, .f32⟩
  | 110 => ⟨S4096x16, .f32⟩
  | 111 => ⟨S4096x16, .f32⟩
  | 112 => ⟨S1x4096x1x16, .f32⟩
  | 113 => ⟨S4096x16, .f32⟩
  | 114 => ⟨S1x4096x1x16, .f32⟩
  | 115 => ⟨S4x4096x8x16, .f32⟩
  | 116 => ⟨S4x4096x8x16, .f32⟩
  | 117 => ⟨S4x4096x8x16, .f32⟩
  | 118 => ⟨S4x4096x8x16, .f32⟩
  | 119 => ⟨S4x4096x8x16, .f32⟩
  | 120 => ⟨S4x4096x8x16, .f32⟩
  | 121 => ⟨S4x4096x8x16, .f32⟩
  | 122 => ⟨S4x4096x8x16, .f32⟩
  | 123 => ⟨S4x4096x8x16, .f32⟩
  | 124 => ⟨S4x4096x8x16, .f32⟩
  | 125 => ⟨S4x4096x8x16, .f32⟩
  | 126 => ⟨S4x4096x8x16, .f32⟩
  | 127 => ⟨S4x4096x8x96, .f32⟩
  | _ => ⟨S4x4096x2048, .f32⟩

abbrev hbmTy0_1 (i : Nat) : BufTy := match i % 128 with
  | 0 => ⟨S4x4096x8x128, .f32⟩
  | 1 => ⟨S_, .f32⟩
  | 2 => ⟨S4x4096x8x128, .f32⟩
  | 3 => ⟨S4x4096x8x128, .f32⟩
  | 4 => ⟨S4x4096x2x128, .f32⟩
  | 5 => ⟨S16, .f32⟩
  | 6 => ⟨S16, .f32⟩
  | 7 => ⟨S_, .f32⟩
  | 8 => ⟨S16, .f32⟩
  | 9 => ⟨S16, .f32⟩
  | 10 => ⟨S_, .f32⟩
  | 11 => ⟨S16, .f32⟩
  | 12 => ⟨S16, .f32⟩
  | 13 => ⟨S4096, .f32⟩
  | 14 => ⟨S4096x1, .f32⟩
  | 15 => ⟨S1x16, .f32⟩
  | 16 => ⟨S4096x16, .f32⟩
  | 17 => ⟨S4096x16, .f32⟩
  | 18 => ⟨S4096x16, .f32⟩
  | 19 => ⟨S4096x16, .f32⟩
  | 20 => ⟨S1x4096x1x16, .f32⟩
  | 21 => ⟨S4096x16, .f32⟩
  | 22 => ⟨S1x4096x1x16, .f32⟩
  | 23 => ⟨S4x4096x2x16, .f32⟩
  | 24 => ⟨S4x4096x2x16, .f32⟩
  | 25 => ⟨S4x4096x2x16, .f32⟩
  | 26 => ⟨S4x4096x2x16, .f32⟩
  | 27 => ⟨S4x4096x2x16, .f32⟩
  | 28 => ⟨S4x4096x2x16, .f32⟩
  | 29 => ⟨S4x4096x2x16, .f32⟩
  | 30 => ⟨S4x4096x2x16, .f32⟩
  | 31 => ⟨S4x4096x2x16, .f32⟩
  | 32 => ⟨S4x4096x2x16, .f32⟩
  | 33 => ⟨S4x4096x2x16, .f32⟩
  | 34 => ⟨S4x4096x2x16, .f32⟩
  | 35 => ⟨S4x4096x2x96, .f32⟩
  | 36 => ⟨S4x4096x2x128, .f32⟩
  | 37 => ⟨S4x4096x8x128, .f32⟩
  | 38 => ⟨S4x4096x1024, .f32⟩
  | 39 => ⟨S4x4096x1024, .f32⟩
  | 40 => ⟨S_, .f32⟩
  | 41 => ⟨S4x4096x1024, .f32⟩
  | 42 => ⟨S4x4096x1024, .f32⟩
  | 43 => ⟨S_, .f32⟩
  | 44 => ⟨S4x4096x1024, .f32⟩
  | 45 => ⟨S4x4096x1024, .f32⟩
  | 46 => ⟨S4x4096x1024, .f32⟩
  | 47 => ⟨S4x4096x8x128, .f32⟩
  | 48 => ⟨S4x4096x32x128, .f32⟩
  | 49 => ⟨S32x4x4096x128, .f32⟩
  | 50 => ⟨S32x16384x128, .f32⟩
  | 51 => ⟨S32x16384x128, .bf16⟩
  | 52 => ⟨S16384x1024, .f32⟩
  | 53 => ⟨S16384x1024, .bf16⟩
  | 54 => ⟨S16384x256, .f32⟩
  | 55 => ⟨S16384x256, .bf16⟩
  | 56 => ⟨S16384x256, .f32⟩
  | 57 => ⟨S16384x256, .bf16⟩
  | 58 => ⟨S4x4096x1024, .f32⟩
  | 59 => ⟨S4x4096x1024, .f32⟩
  | 60 => ⟨S_, .f32⟩
  | 61 => ⟨S4x4096x1024, .f32⟩
  | 62 => ⟨S4x4096x1024, .f32⟩
  | 63 => ⟨S_, .f32⟩
  | 64 => ⟨S4x4096x1024, .f32⟩
  | 65 => ⟨S4x4096x1024, .f32⟩
  | 66 => ⟨S4x4096x1024, .f32⟩
  | 67 => ⟨S16384x1024, .f32⟩
  | 68 => ⟨S16384x1024, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_cst_6 : Ref sig .tc := ⟨.hbm, 99, rfl⟩
abbrev main_v89 : Ref sig .tc := ⟨.hbm, 100, rfl⟩
abbrev main_v90 : Ref sig .tc := ⟨.hbm, 101, rfl⟩
abbrev main_cst_7 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_cst_8 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_cst_9 : Ref sig .tc := ⟨.hbm, 135, rfl⟩
abbrev main_v122 : Ref sig .tc := ⟨.hbm, 136, rfl⟩
abbrev main_v123 : Ref sig .tc := ⟨.hbm, 137, rfl⟩
abbrev main_cst_10 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_call0_v0 : Ref sig .tc := ⟨.hbm, 166, rfl⟩
abbrev main_call0_v1 : Ref sig .tc := ⟨.hbm, 167, rfl⟩
abbrev main_call0_cst : Ref sig .tc := ⟨.hbm, 168, rfl⟩
abbrev main_call0_v2 : Ref sig .tc := ⟨.hbm, 169, rfl⟩
abbrev main_call0_v3 : Ref sig .tc := ⟨.hbm, 170, rfl⟩
abbrev main_call0_cst_0 : Ref sig .tc := ⟨.hbm, 171, rfl⟩
abbrev main_call0_v4 : Ref sig .tc := ⟨.hbm, 172, rfl⟩
abbrev main_call0_v5 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_call1_v0 : Ref sig .tc := ⟨.hbm, 186, rfl⟩
abbrev main_call1_v1 : Ref sig .tc := ⟨.hbm, 187, rfl⟩
abbrev main_call1_cst : Ref sig .tc := ⟨.hbm, 188, rfl⟩
abbrev main_call1_v2 : Ref sig .tc := ⟨.hbm, 189, rfl⟩
abbrev main_call1_v3 : Ref sig .tc := ⟨.hbm, 190, rfl⟩
abbrev main_call1_cst_0 : Ref sig .tc := ⟨.hbm, 191, rfl⟩
abbrev main_call1_v4 : Ref sig .tc := ⟨.hbm, 192, rfl⟩
abbrev main_call1_v5 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩

abbrev nD : Nat := 1
abbrev τ : Topo := Topo.v7x

variable {F : FTy → Type} [FloatOps F]
-- ==== Proof.Ret.Body.lean ====
/-
  The retention kernel's body as one run: from the input blocks, and whatever the output block and the two scratch
  buffers hold, the body ends with the output block overwritten by a list of pieces (`bodyRun`). The list is a function
  of the input blocks and of what the scratch buffers held before; that it does not depend on the latter is proved in
  `Pieces.lean`.
-/
module

public import proofs.«01_k».proof.Proof.Gen.KernelIdeal.Frame
public import proofs.«01_k».proof.Proof.Gen.KernelIdeal.Loops

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

-- the proof term of the whole body is long
set_option maxHeartbeats 2400000 in
/-- The body on whole buffers: the seven inputs hold `x0 … x6` and keep them, the output block (contents `f9`) ends with
    the pieces written over it, the scratch buffers (contents `f10`, `f11`) end at some contents. -/
def bodyRun (c : Dev nD) (i : grid0.Coords) (arg2 : Memref sig .tc .vmem S1x8x256 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S16x256x128 .f32) (harg10 : arg10.IsWhole) (arg11 : Memref sig .tc .vmem S16x256x128 .bf16) (harg11 : arg11.IsWhole)
    (x0 : Vec F S1x8x256 .f32) (x1 : Vec F S1x4096x128 .bf16) (x2 : Vec F S1x4096x128 .bf16) (x3 : Vec F S1x4096x128 .bf16) (x4 : Vec F S1x4096x128 .bf16) (x5 : Vec F S1x128 .f32) (x6 : Vec F S1x128 .f32)
    (f10 : BufTy.Contents (Elt F) arg10.view.ty) (f11 : BufTy.Contents (Elt F) arg11.view.ty) :
    { L : List (View.Piece (Elt F) S1x4096x128 .bf16) //
      ∀ (E : Set ℕ) (K : PUnit → sProp 𝕄) (f9 : BufTy.Contents (Elt F) arg9.view.ty),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (arg9.view.loc (c : Thread nD τ) ↦[arg9.view.set]{fullShare} f9)
            ∗ (arg10.view.loc (c : Thread nD τ) ↦[arg10.view.set]{fullShare} f10)
            ∗ (arg11.view.loc (c : Thread nD τ) ↦[arg11.view.set]{fullShare} f11)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (arg9.view.loc (c : Thread nD τ) ↦[arg9.view.set]{fullShare} arg9.view.writes (Elt F) f9 L)
                ∗ (∃ d, owns (c : Thread nD τ) arg10 fullShare d) ∗ (∃ d, owns (c : Thread nD τ) arg11 fullShare d)) -∗ K ⟨⟩))
          ⊢ wp frame (wpE (defs₀ (F := F)) Variants.none c none) E (cc0_retention i arg2 harg2 arg3 harg3 arg4 harg4 arg5 harg5 arg6 harg6 arg7 harg7 arg8 harg8 arg9 harg9 arg10 harg10 arg11 harg11) K } := by
  refine ⟨?_, fun E K f9 => ?run⟩
  case run =>
    simp only [cc0_retention_eq_skeleton]; unfold cc0_retention_skel
    simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, H7, HS0, HS1, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexact H7
    isplitl [HS0]
    · iexists _, _; isplitr; swap; · iexact HS0
      ipureintro; rfl
    iexists _, _; isplitr; swap; · iexact HS1
    ipureintro; rfl

end Cert.KernelIdeal.Ret

end
-- ==== Proof.Ret.Scan.lean ====
/-
  The counted loop of the retention kernel: sixteen trips carry the forward and the backward state, a 128×128 matrix
  each; trip `t` stores the forward state into the upper half of slot `t` of the state buffer and the backward state
  into the lower half of slot `15 - t`. Here the buffer after the loop is read back: slot `n` holds the forward state
  before chunk `n` above the backward state after chunk `n`.
-/
module

public import proofs.«01_k».proof.Proof.Ret.Body
public import Idealize.ShloMosaic.Lib.ValueIdxCore
public import Idealize.ShloMosaic.Lib.Pipeline.Value
public import Idealize.ShloMosaic.Lib.Pipeline.ValueKit.Tiles
public import Idealize.ShloMosaic.Lib.Pipeline.ValueKit.Geometry

@[expose] public section

set_option maxRecDepth 16384

noncomputable section

namespace Cert.KernelIdeal.Ret

open Idealize.ShloMosaic Idealize.ShloMosaic.TcCoe Idealize.ShloMosaic.ValueIdx
open Idealize.SL Idealize.SL.Sem
open Cert.KernelIdeal.Gen

variable {F : FTy → Type} [FloatOps F]

/-- The loop makes sixteen trips. -/
theorem trips_eq : k0_t1_loop.trips = 16 := by decide +kernel

/-- Trip `k` reads and writes the upper half of slot `k` … -/
theorem off3_eq : ∀ k : Fin k0_t1_loop.trips, k0_off3 k = ![k.val, 0, 0] := by decide +kernel

/-- … and the lower half of slot `15 - k`. -/
theorem off4_eq : ∀ k : Fin k0_t1_loop.trips, k0_off4 k = ![15 - k.val, 128, 0] := by decide +kernel

/-- The forward state before chunk `n`: start at zero, then decay and add the key–value product of each chunk. -/
def stF (cd : FVec F S1x128 .f32) (kv : ℕ → Vec F S1x128x128 .f32) : ℕ → FVec F S128x128 .f32
  | 0 => k0_pay36
  | n + 1 => k0_pay39 cd (stF cd kv n) (kv n)

/-- The upper half of slot `n` of the buffer of key–value products. -/
def kvLo (KV : S16x256x128.Idx → Elt F .f32) (n : ℕ) : Vec F S1x128x128 .f32 := fun y =>
  KV (ix3 ⟨n % 16, Nat.mod_lt _ (by norm_num)⟩ ⟨(y 1).val, Nat.lt_trans (y 1).isLt (by decide)⟩ (y 2))

/-- The lower half of slot `15 - n`. -/
def kvHi (KV : S16x256x128.Idx → Elt F .f32) (n : ℕ) : Vec F S1x128x128 .f32 := fun y =>
  KV (ix3 ⟨15 - n, by omega⟩ ⟨128 + (y 1).val, by have := (y 1).isLt; simp at this; omega⟩ (y 2))

/-- What the state buffer holds after the loop, index by index: in slot `n` the forward state before chunk `n` (rows 0 to
    127) and the state of the backward scan after `15 - n` trips (rows 128 to 255), both rounded to bf16. -/
def stFun (cf cb : FVec F S1x128 .f32) (KV : S16x256x128.Idx → Elt F .f32) : S16x256x128.Idx → Elt F .bf16 := fun y =>
  if h : (y 1).val < 128 then
    k0_pay37 (stF cf (kvLo KV) (y 0).val) (ix3 0 ⟨(y 1).val, h⟩ (y 2))
  else
    k0_pay38 (stF cb (kvHi KV) (15 - (y 0).val)) (ix3 0 ⟨(y 1).val - 128, by have := (y 1).isLt; simp at this; omega⟩ (y 2))

section
variable (c : Dev nD) (i : grid0.Coords) (arg2 : Memref sig .tc .vmem S1x8x256 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S16x256x128 .f32) (harg10 : arg10.IsWhole) (arg11 : Memref sig .tc .vmem S16x256x128 .bf16) (harg11 : arg11.IsWhole)
  (v52 : FVec F S256x128 .bf16) (v58 : FVec F S256x128 .bf16) (cf : FVec F S1x128 .f32) (cb : FVec F S1x128 .f32) (w1 w2 : BitVec 32)
  (X : BufTy.Contents (Elt F) arg10.view.ty)

/-- One trip's yield: both states decayed and the slots' key–value products added. -/
theorem trip_yield (k : Fin k0_t1_loop.trips) (acc : FVec F S128x128 .f32 × FVec F S128x128 .f32) :
    tripR_k0_t1 (F := F) Variants.none c none i arg2 harg2 arg3 harg3 arg4 harg4 arg5 harg5 arg6 harg6 arg7 harg7 arg8 harg8 arg9 harg9 arg10 harg10 arg11 harg11 v52 v58 cf cb w1 w2 X k acc
      = (k0_pay39 cf acc.1 (arg10.view.readAt (Elt F) (Rect.unit (s := S16x256x128) (k0_off3 k) S1x128x128.size (k0_off3_inb k)).toLoadRect X),
         k0_pay40 cb acc.2 (arg10.view.readAt (Elt F) (Rect.unit (s := S16x256x128) (k0_off4 k) S1x128x128.size (k0_off4_inb k)).toLoadRect X)) := by
  unfold tripR_k0_t1 trip_k0_t1; rfl

/-- One trip's stores: the forward state into slot `k`, the backward state into slot `15 - k`. -/
theorem trip_pieces (k : Fin k0_t1_loop.trips) (acc : FVec F S128x128 .f32 × FVec F S128x128 .f32) :
    tripL_k0_t1 (F := F) Variants.none c none i arg2 harg2 arg3 harg3 arg4 harg4 arg5 harg5 arg6 harg6 arg7 harg7 arg8 harg8 arg9 harg9 arg10 harg10 arg11 harg11 v52 v58 cf cb w1 w2 X k acc
      = [⟨Rect.unit (s := S16x256x128) (k0_off4 k) S1x128x128.size (k0_off4_inb k), k0_pay38 acc.2⟩,
         ⟨Rect.unit (s := S16x256x128) (k0_off3 k) S1x128x128.size (k0_off3_inb k), k0_pay37 acc.1⟩] := by
  unfold tripL_k0_t1 trip_k0_t1; rfl

/-- The loop's state before trip `k`. -/
local notation "σ" => st_k0_t1 (F := F) Variants.none c none i arg2 harg2 arg3 harg3 arg4 harg4 arg5 harg5 arg6 harg6 arg7 harg7 arg8 harg8 arg9 harg9 arg10 harg10 arg11 harg11 v52 v58 cf cb w1 w2 X (k0_pay36, k0_pay36)

/-- Where the elements of the upper half of slot `k` lie in the buffer. -/
theorem emb_lo (k : Fin k0_t1_loop.trips) (x : S1x128x128.Idx) :
    (Rect.unit (s := S16x256x128) (k0_off3 k) S1x128x128.size (k0_off3_inb k)).emb x
      = ix3 ⟨k.val, trips_eq ▸ k.isLt⟩ ⟨(x 1).val, Nat.lt_trans (x 1).isLt (by decide)⟩ (x 2) := by
  have h0 : (x 0).val < 1 := (x 0).isLt
  refine funext fun a => Fin.ext ((ValueKit.rect_emb_unit_val (s := S16x256x128) _ _ (k0_off3_inb k) x a).trans
    ((congrArg (· + (x a).val) (congrFun (off3_eq k) a)).trans ?_))
  match a with
  | ⟨0, _⟩ => show k.val + (x 0).val = k.val; omega
  | ⟨1, _⟩ => show 0 + (x 1).val = (x 1).val; omega
  | ⟨2, _⟩ => show 0 + (x 2).val = (x 2).val; omega

/-- Where the elements of the lower half of slot `15 - k` lie in the buffer. -/
theorem emb_hi (k : Fin k0_t1_loop.trips) (x : S1x128x128.Idx) :
    (Rect.unit (s := S16x256x128) (k0_off4 k) S1x128x128.size (k0_off4_inb k)).emb x
      = ix3 ⟨15 - k.val, by omega⟩ ⟨128 + (x 1).val, by have h1 : (x 1).val < 128 := (x 1).isLt; omega⟩ (x 2) := by
  have h0 : (x 0).val < 1 := (x 0).isLt
  refine funext fun a => Fin.ext ((ValueKit.rect_emb_unit_val (s := S16x256x128) _ _ (k0_off4_inb k) x a).trans
    ((congrArg (· + (x a).val) (congrFun (off4_eq k) a)).trans ?_))
  match a with
  | ⟨0, _⟩ => show 15 - k.val + (x 0).val = 15 - k.val; omega
  | ⟨1, _⟩ => rfl
  | ⟨2, _⟩ => show 0 + (x 2).val = (x 2).val; omega

/-- Trip `k`'s store of the forward state is a restriction of `stFun`. -/
theorem piece_lo (KV : S16x256x128.Idx → Elt F .f32) (k : Fin k0_t1_loop.trips) (x : S1x128x128.Idx) :
    k0_pay37 (stF cf (kvLo KV) k.val) x
      = stFun cf cb KV ((Rect.unit (s := S16x256x128) (k0_off3 k) S1x128x128.size (k0_off3_inb k)).emb x) := by
  have h0 : (x 0).val < 1 := (x 0).isLt
  have h1 : (x 1).val < 128 := (x 1).isLt
  rw [emb_lo]
  unfold stFun
  rw [dif_pos (show (x 1).val < 128 from h1)]
  refine congrArg (k0_pay37 (stF cf (kvLo KV) k.val)) (funext fun a => Fin.ext ?_)
  match a with
  | ⟨0, _⟩ => show (x 0).val = 0; omega
  | ⟨1, _⟩ => rfl
  | ⟨2, _⟩ => rfl

/-- Trip `k`'s store of the backward state is a restriction of `stFun`. -/
theorem piece_hi (KV : S16x256x128.Idx → Elt F .f32) (k : Fin k0_t1_loop.trips) (x : S1x128x128.Idx) :
    k0_pay38 (stF cb (kvHi KV) k.val) x
      = stFun cf cb KV ((Rect.unit (s := S16x256x128) (k0_off4 k) S1x128x128.size (k0_off4_inb k)).emb x) := by
  have hk : k.val < 16 := trips_eq ▸ k.isLt
  have h0 : (x 0).val < 1 := (x 0).isLt
  rw [emb_hi]
  unfold stFun
  rw [dif_neg (show ¬ 128 + (x 1).val < 128 by omega)]
  show _ = k0_pay38 (stF cb (kvHi KV) (15 - (15 - k.val))) _
  rw [show 15 - (15 - k.val) = k.val by omega]
  refine congrArg (k0_pay38 (stF cb (kvHi KV) k.val)) (funext fun a => Fin.ext ?_)
  match a with
  | ⟨0, _⟩ => show (x 0).val = 0; omega
  | ⟨1, _⟩ => show (x 1).val = 128 + (x 1).val - 128; omega
  | ⟨2, _⟩ => rfl

/-- A load of the upper half of slot `k` reads that half of the key–value products. -/
theorem read_lo (KV : S16x256x128.Idx → Elt F .f32) (hX : arg10.view.read (Elt F) X = KV) (k : Fin k0_t1_loop.trips) :
    arg10.view.readAt (Elt F) (Rect.unit (s := S16x256x128) (k0_off3 k) S1x128x128.size (k0_off3_inb k)).toLoadRect X = kvLo KV k.val := by
  rw [View.readAt_eq_ld, hX]
  funext y
  refine (congrArg KV (emb_lo k y)).trans ?_
  have hk : k.val < 16 := trips_eq ▸ k.isLt
  exact congrArg KV (funext fun a => Fin.ext (match a with
    | ⟨0, _⟩ => (Nat.mod_eq_of_lt hk).symm
    | ⟨1, _⟩ => rfl
    | ⟨2, _⟩ => rfl))

/-- A load of the lower half of slot `15 - k` reads that half. -/
theorem read_hi (KV : S16x256x128.Idx → Elt F .f32) (hX : arg10.view.read (Elt F) X = KV) (k : Fin k0_t1_loop.trips) :
    arg10.view.readAt (Elt F) (Rect.unit (s := S16x256x128) (k0_off4 k) S1x128x128.size (k0_off4_inb k)).toLoadRect X = kvHi KV k.val := by
  rw [View.readAt_eq_ld, hX]
  funext y
  exact congrArg KV (emb_hi k y)

/-- The carried pair before trip `k` is the forward and the backward state. -/
theorem carried (KV : S16x256x128.Idx → Elt F .f32) (hX : arg10.view.read (Elt F) X = KV) :
    ∀ k, k ≤ k0_t1_loop.trips → (σ k).1 = (stF cf (kvLo KV) k, stF cb (kvHi KV) k)
  | 0, _ => rfl
  | k + 1, h => by
    have ih := carried KV hX k (by omega)
    rw [st_k0_t1_succ (k := ⟨k, h⟩)]
    show tripR_k0_t1 _ _ _ _ _ _ _ _ _ _ _ _ _ _ _ _ _ _ _ _ _ _ _ _ _ _ _ _ _ _ _ _ _ = _
    rw [trip_yield, ih, read_lo _ _ KV hX, read_hi _ _ KV hX]
    rfl

/-- Every piece stored before trip `k` is a restriction of `stFun`. -/
theorem pieces_of (KV : S16x256x128.Idx → Elt F .f32) (hX : arg10.view.read (Elt F) X = KV) :
    ∀ k, k ≤ k0_t1_loop.trips → ∀ p ∈ (σ k).2, ∀ x : p.1.shape.Idx, p.2 x = stFun cf cb KV (p.1.emb x)
  | 0, _ => fun p hp => by cases hp
  | k + 1, h => by
    have ih := pieces_of KV hX k (by omega)
    have hk : k < 16 := trips_eq ▸ h
    have hc := carried c i arg2 harg2 arg3 harg3 arg4 harg4 arg5 harg5 arg6 harg6 arg7 harg7 arg8 harg8 arg9 harg9 arg10 harg10 arg11 harg11 v52 v58 cf cb w1 w2 X KV hX k (by omega)
    rw [st_k0_t1_succ (k := ⟨k, h⟩), trip_pieces, hc]
    intro p hp x
    rcases List.mem_append.mp hp with hp | hp
    · rcases List.mem_cons.mp hp with rfl | hp
      · exact piece_hi cf cb KV ⟨k, h⟩ x
      · obtain rfl := List.mem_singleton.mp hp
        exact piece_lo cf cb KV ⟨k, h⟩ x
    · exact ih p hp x

/-- An index in the upper half of a slot below `k`, or in the lower half of a slot from `16 - k` up, is covered. -/
theorem covered_of : ∀ k, k ≤ k0_t1_loop.trips → ∀ y : S16x256x128.Idx,
    ((y 1).val < 128 ∧ (y 0).val < k ∨ 128 ≤ (y 1).val ∧ 15 - (y 0).val < k) → ∃ p ∈ (σ k).2, y ∈ p.1.set
  | 0, _, y, hy => by omega
  | k + 1, h, y, hy => by
    have hk : k < 16 := trips_eq ▸ h
    have l0 : (y 0).val < 16 := (y 0).isLt
    have l1 : (y 1).val < 256 := (y 1).isLt
    have l2 : (y 2).val < 128 := (y 2).isLt
    by_cases hy' : (y 1).val < 128 ∧ (y 0).val < k ∨ 128 ≤ (y 1).val ∧ 15 - (y 0).val < k
    · obtain ⟨p, hp, hm⟩ := covered_of k (by omega) y hy'
      refine ⟨p, ?_, hm⟩
      rw [st_k0_t1_succ (k := ⟨k, h⟩)]
      exact List.mem_append.mpr (.inr hp)
    · rw [st_k0_t1_succ (k := ⟨k, h⟩), trip_pieces]
      by_cases h1 : (y 1).val < 128
      · refine ⟨_, List.mem_append.mpr (.inl (List.mem_cons_of_mem _ (List.mem_singleton_self _))), (Rect.mem_set_unit (inb := k0_off3_inb ⟨k, h⟩)).mpr fun a => ?_⟩
        match a with
        | ⟨0, _⟩ => simp [off3_eq]; omega
        | ⟨1, _⟩ => simp [off3_eq]; omega
        | ⟨2, _⟩ => simp [off3_eq]; omega
      · refine ⟨_, List.mem_append.mpr (.inl (List.mem_cons_self ..)), (Rect.mem_set_unit (inb := k0_off4_inb ⟨k, h⟩)).mpr fun a => ?_⟩
        match a with
        | ⟨0, _⟩ => simp [off4_eq]; omega
        | ⟨1, _⟩ => simp [off4_eq]; omega
        | ⟨2, _⟩ => simp [off4_eq]; omega

/-- After the loop the state buffer reads `stFun`, whatever it held before. -/
theorem st_read (KV : S16x256x128.Idx → Elt F .f32) (hX : arg10.view.read (Elt F) X = KV)
    (f11 : BufTy.Contents (Elt F) arg11.view.ty) :
    arg11.view.read (Elt F) (arg11.view.writes (Elt F) f11 (σ (Scf.trips k0_t1_loop.lb k0_t1_loop.ub k0_t1_loop.st)).2) = stFun cf cb KV := by
  have ht : Scf.trips k0_t1_loop.lb k0_t1_loop.ub k0_t1_loop.st = 16 := trips_eq
  rw [ht]
  have hle : 16 ≤ k0_t1_loop.trips := trips_eq.ge
  have hcov : ∀ y : S16x256x128.Idx, ∃ p ∈ (σ 16).2, y ∈ p.1.set := fun y => by
    have l0 : (y 0).val < 16 := (y 0).isLt
    refine covered_of c i arg2 harg2 arg3 harg3 arg4 harg4 arg5 harg5 arg6 harg6 arg7 harg7 arg8 harg8 arg9 harg9 arg10 harg10 arg11 harg11 v52 v58 cf cb w1 w2 X 16 hle y ?_
    omega
  rw [View.read_writes_eq_canon _ _ _ hcov]
  funext y
  exact View.canon_apply_of_pieces _ _ (pieces_of c i arg2 harg2 arg3 harg3 arg4 harg4 arg5 harg5 arg6 harg6 arg7 harg7 arg8 harg8 arg9 harg9 arg10 harg10 arg11 harg11 v52 v58 cf cb w1 w2 X KV hX 16 hle) y (hcov y)

end

end Cert.KernelIdeal.Ret

end
-- ==== Proof.Ret.Block.lean ====
/-
  What the retention kernel leaves in the output block of one head and batch row, in closed form and for any float
  instance: chunk `n` of the block is `outCh` of chunk `n` of the queries, keys, values and gates and of slot `n` of the
  state buffer, which is `stFun` (`Scan.lean`) of the key–value products of all the chunks.
-/
module

public import proofs.«01_k».proof.Proof.Ret.Scan
public import Idealize.ShloMosaic.Lib.Writes
public import Idealize.ShloMosaic.Lib.Ring
public import Idealize.ShloMosaic.Lib.Tactic

@[expose] public section

set_option maxRecDepth 16384

noncomputable section

namespace Cert.KernelIdeal.Ret

open Idealize.ShloMosaic Idealize.ShloMosaic.TcCoe Idealize.ShloMosaic.ValueIdx Idealize.ShloMosaic.Tactic
open Idealize.SL Idealize.SL.Sem
open Cert.KernelIdeal.Gen

variable {F : FTy → Type} [FloatOps F]

/-- Chunk `n` (rows `256 n` to `256 n + 255`) of a block of 4096 rows. -/
def chunk (x : Vec F S1x4096x128 .bf16) (n : ℕ) (hn : n < 16) : Vec F S1x256x128 .bf16 := fun y =>
  x (ix3 0 ⟨256 * n + (y 1).val, by have h : (y 1).val < 256 := (y 1).isLt; omega⟩ (y 2))

/-- Row `r` of the block of decays. -/
def decRow (x : Vec F S1x8x256 .f32) (r : Fin 8) : Vec F S1x1x256 .f32 := fun y => x (ix3 0 r (y 2))

/-- A chunk's retention before the normalisation: the scores inside the chunk, weighted by `dm` and applied to the
    values, plus the queries, weighted by `qf` and by `qb`, applied to the two states in the slot. -/
def yCh (dm : FVec F S256x256 .f32) (qf qb : FVec F S256x128 .bf16) (q k v st : Vec F S1x256x128 .bf16) : FVec F S256x128 .f32 :=
  addf
    (matmul dot_S256x256_S256x128_S256x128_1_0_0_1_n_n none
      (truncf .bf16 (mulf (matmul dot_S256x128_S256x128_S256x256_1_1_0_0_n_n none
          (shapeCast S256x128 q shapeCasts_S1x256x128_S256x128) (shapeCast S256x128 k shapeCasts_S1x256x128_S256x128)
          (constant S256x256 .f32 0x00000000#32)) dm) bitsLt_bf16_f32)
      (shapeCast S256x128 v shapeCasts_S1x256x128_S256x128) (constant S256x128 .f32 0x00000000#32))
    (matmul dot_S256x256_S256x128_S256x128_1_0_0_1_n_n none
      (concatenate S256x256 1 [⟨S256x128, mulf (shapeCast S256x128 q shapeCasts_S1x256x128_S256x128) qf⟩,
        ⟨S256x128, mulf (shapeCast S256x128 q shapeCasts_S1x256x128_S256x128) qb⟩] concatenates_S256x128_S256x128_S256x256_d1)
      (shapeCast S256x128 st shapeCasts_S1x256x128_S256x128) (constant S256x128 .f32 0x00000000#32))

/-- The mean of each row, as a column. -/
def rowMean (y : FVec F S256x128 .f32) : FVec F S256x1 .f32 :=
  divf (shapeCast S256x1 (multiReduction .add [1] S256 y 0x00000000#32 reduces_S256x128_S256 (.inl rfl) rfl) shapeCasts_S256_S256x1)
    (broadcast S256x1 (Scalar.ofBits .f32 0x43000000#32 : F .f32))

/-- The rows with their means taken off. -/
def centre (y : FVec F S256x128 .f32) : FVec F S256x128 .f32 :=
  subf y (broadcastTo S256x128 (rowMean y) broadcasts_S256x1_S256x128)

/-- The group normalisation of one head, its scale and offset, and the gate. -/
def normGate (gw gb : FVec F S1x128 .f32) (y : FVec F S256x128 .f32) (g : Vec F S1x256x128 .bf16) : Vec F S1x256x128 .bf16 :=
  shapeCast S1x256x128 (truncf .bf16 (mulf
    (addf (mulf (mulf (centre y)
        (broadcastTo S256x128 (rsqrt (addf (rowMean (mulf (centre y) (centre y))) (broadcast S256x1 (Scalar.ofBits .f32 0x3727C5AC#32 : F .f32))))
          broadcasts_S256x1_S256x128))
        (broadcastTo S256x128 gw broadcasts_S1x128_S256x128)) (broadcastTo S256x128 gb broadcasts_S1x128_S256x128))
    (extf .f32 (shapeCast S256x128 g shapeCasts_S1x256x128_S256x128) bitsLt_bf16_f32)) bitsLt_bf16_f32) shapeCasts_S256x128_S1x256x128

/-- One chunk of the output. -/
def outCh (dm : FVec F S256x256 .f32) (qf qb : FVec F S256x128 .bf16) (gw gb : FVec F S1x128 .f32) (q k v st g : Vec F S1x256x128 .bf16) :
    Vec F S1x256x128 .bf16 :=
  normGate gw gb (yCh dm qf qb q k v st) g

/-- The buffer of key–value products: slot `n` is the product of chunk `n` of the keys, weighted for the forward state
    (rows 0 to 127) and for the backward state (rows 128 to 255), with chunk `n` of the values. -/
def kvFun (r0 r1 : Vec F S1x1x256 .f32) (k v : Vec F S1x4096x128 .bf16) : S16x256x128.Idx → Elt F .f32 := fun y =>
  k0_pay16 (k0_pay8 (k0_pay5 r0)) (k0_pay9 (k0_pay6 r1)) (chunk k (y 0).val (y 0).isLt) (chunk v (y 0).val (y 0).isLt)
    (ix3 0 (y 1) (y 2))

/-- Slot `n` of the state buffer after the loop. -/
def stSlot (r0 r1 : Vec F S1x1x256 .f32) (k v : Vec F S1x4096x128 .bf16) (n : ℕ) (hn : n < 16) : Vec F S1x256x128 .bf16 := fun y =>
  stFun (k0_pay12 (k0_pay5 r0)) (k0_pay13 (k0_pay6 r1)) (kvFun r0 r1 k v) (ix3 ⟨n, hn⟩ (y 1) (y 2))

/-- Chunk `n` of the output block. -/
def outChunk (x0 : Vec F S1x8x256 .f32) (x1 x2 x3 x4 : Vec F S1x4096x128 .bf16) (x5 x6 : Vec F S1x128 .f32) (n : ℕ) (hn : n < 16) :
    Vec F S1x256x128 .bf16 :=
  outCh (k0_pay4 (decRow x0 0) (decRow x0 1)) (k0_pay10 (k0_pay5 (decRow x0 0))) (k0_pay11 (k0_pay6 (decRow x0 1)))
    (k0_pay41 x5) (k0_pay42 x6) (chunk x1 n hn) (chunk x2 n hn) (chunk x3 n hn)
    (stSlot (decRow x0 0) (decRow x0 1) x2 x3 n hn) (chunk x4 n hn)

/-- The output block, index by index. -/
def outFun (x0 : Vec F S1x8x256 .f32) (x1 x2 x3 x4 : Vec F S1x4096x128 .bf16) (x5 x6 : Vec F S1x128 .f32) :
    S1x4096x128.Idx → Elt F .bf16 := fun y =>
  outChunk x0 x1 x2 x3 x4 x5 x6 ((y 1).val / 256) (by have h : (y 1).val < 4096 := (y 1).isLt; omega)
    (ix3 0 ⟨(y 1).val % 256, Nat.mod_lt _ (by norm_num)⟩ (y 2))

/-! ## Loads and stores of one chunk -/

/-- A chunk's rows lie in the block. -/
theorem inbC (n : ℕ) (hn : n < 16) : ∀ a, (![0, 256 * n, 0] : Fin 3 → ℕ) a + S1x256x128.size a ≤ S1x4096x128.size a := fun a =>
  match a with
  | ⟨0, _⟩ => by show 0 + 1 ≤ 1; omega
  | ⟨1, _⟩ => by show 256 * n + 256 ≤ 4096; omega
  | ⟨2, _⟩ => by show 0 + 128 ≤ 128; omega

/-- A slot lies in its buffer. -/
theorem inbS (n : ℕ) (hn : n < 16) : ∀ a, (![n, 0, 0] : Fin 3 → ℕ) a + S1x256x128.size a ≤ S16x256x128.size a := fun a =>
  match a with
  | ⟨0, _⟩ => by show n + 1 ≤ 16; omega
  | ⟨1, _⟩ => by show 0 + 256 ≤ 256; omega
  | ⟨2, _⟩ => by show 0 + 128 ≤ 128; omega

/-- Where the elements of chunk `n` lie in the block. -/
theorem embC (n : ℕ) (hn : n < 16) (y : S1x256x128.Idx) :
    (Rect.unit (s := S1x4096x128) ![0, 256 * n, 0] S1x256x128.size (inbC n hn)).emb y
      = ix3 0 ⟨256 * n + (y 1).val, by have h : (y 1).val < 256 := (y 1).isLt; omega⟩ (y 2) := by
  have h0 : (y 0).val < 1 := (y 0).isLt
  refine funext fun a => Fin.ext ((ValueKit.rect_emb_unit_val (s := S1x4096x128) _ _ (inbC n hn) y a).trans ?_)
  match a with
  | ⟨0, _⟩ => show 0 + (y 0).val = 0; omega
  | ⟨1, _⟩ => rfl
  | ⟨2, _⟩ => show 0 + (y 2).val = (y 2).val; omega

/-- Where the elements of slot `n` lie in its buffer. -/
theorem embS (n : ℕ) (hn : n < 16) (y : S1x256x128.Idx) :
    (Rect.unit (s := S16x256x128) ![n, 0, 0] S1x256x128.size (inbS n hn)).emb y = ix3 ⟨n, hn⟩ (y 1) (y 2) := by
  have h0 : (y 0).val < 1 := (y 0).isLt
  refine funext fun a => Fin.ext ((ValueKit.rect_emb_unit_val (s := S16x256x128) _ _ (inbS n hn) y a).trans ?_)
  match a with
  | ⟨0, _⟩ => show n + (y 0).val = n; omega
  | ⟨1, _⟩ => show 0 + (y 1).val = (y 1).val; omega
  | ⟨2, _⟩ => show 0 + (y 2).val = (y 2).val; omega

/-- A load of chunk `n` of a block that holds `x` reads `chunk x n`. -/
theorem readC (a : Memref sig .tc .vmem S1x4096x128 .bf16) (ha : a.IsWhole) (x : Vec F S1x4096x128 .bf16) (n : ℕ) (hn : n < 16) :
    a.view.readAt (Elt F) (Rect.unit (s := S1x4096x128) ![0, 256 * n, 0] S1x256x128.size (inbC n hn)).toLoadRect (ha.unread x) = chunk x n hn := by
  rw [View.readAt_eq_ld, ha.read_unread]
  funext y
  exact congrArg x (embC n hn y)

/-- A row of the decays' block lies in it. -/
theorem inbD (r : Fin 8) : ∀ a, (![0, r.val, 0] : Fin 3 → ℕ) a + S1x1x256.size a ≤ S1x8x256.size a := fun a =>
  match a with
  | ⟨0, _⟩ => by show 0 + 1 ≤ 1; omega
  | ⟨1, _⟩ => by show r.val + 1 ≤ 8; omega
  | ⟨2, _⟩ => by show 0 + 256 ≤ 256; omega

/-- A load of row `r` of the decays' block. -/
theorem readD (a : Memref sig .tc .vmem S1x8x256 .f32) (ha : a.IsWhole) (x : Vec F S1x8x256 .f32) (r : Fin 8) :
    a.view.readAt (Elt F) (Rect.unit (s := S1x8x256) ![0, r.val, 0] S1x1x256.size (inbD r)).toLoadRect (ha.unread x) = decRow x r := by
  rw [View.readAt_eq_ld, ha.read_unread]
  funext y
  have h0 : (y 0).val < 1 := (y 0).isLt
  have h1 : (y 1).val < 1 := (y 1).isLt
  refine congrArg x (funext fun a => Fin.ext ((ValueKit.rect_emb_unit_val (s := S1x8x256) _ _ (inbD r) y a).trans ?_))
  match a with
  | ⟨0, _⟩ => show 0 + (y 0).val = 0; omega
  | ⟨1, _⟩ => show r.val + (y 1).val = r.val; omega
  | ⟨2, _⟩ => show 0 + (y 2).val = (y 2).val; omega

/-- A load of the whole of a normalisation parameter's block. -/
theorem readG (a : Memref sig .tc .vmem S1x128 .f32) (ha : a.IsWhole) (x : Vec F S1x128 .f32) :
    a.view.readAt (Elt F) (Rect.unit (s := S1x128) ![0, 0] S1x128.size inb_S1x128_S1x128_0_0).toLoadRect (ha.unread x) = x := by
  rw [View.readAt_eq_ld, ha.read_unread]
  funext y
  refine congrArg x (funext fun a => Fin.ext ((ValueKit.rect_emb_unit_val (s := S1x128) _ _ inb_S1x128_S1x128_0_0 y a).trans ?_))
  match a with
  | ⟨0, _⟩ => show 0 + (y 0).val = (y 0).val; omega
  | ⟨1, _⟩ => show 0 + (y 1).val = (y 1).val; omega

section
variable (c : Dev nD) (i : grid0.Coords) (arg2 : Memref sig .tc .vmem S1x8x256 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S16x256x128 .f32) (harg10 : arg10.IsWhole) (arg11 : Memref sig .tc .vmem S16x256x128 .bf16) (harg11 : arg11.IsWhole)
    (x0 : Vec F S1x8x256 .f32) (x1 : Vec F S1x4096x128 .bf16) (x2 : Vec F S1x4096x128 .bf16) (x3 : Vec F S1x4096x128 .bf16) (x4 : Vec F S1x4096x128 .bf16) (x5 : Vec F S1x128 .f32) (x6 : Vec F S1x128 .f32)
    (f10 : BufTy.Contents (Elt F) arg10.view.ty) (f11 : BufTy.Contents (Elt F) arg11.view.ty)

/-- One store into the buffer of key–value products is a restriction of `kvFun`. -/
theorem kv_piece (n : ℕ) (hn : n < 16) (pay : Vec F S1x256x128 .f32)
    (h : pay = k0_pay16 (k0_pay8 (k0_pay5 (arg2.view.readAt (Elt F) (Rect.unit (s := S1x8x256) ![0, (0 : Fin 8).val, 0] S1x1x256.size (inbD 0)).toLoadRect (harg2.unread x0))))
      (k0_pay9 (k0_pay6 (arg2.view.readAt (Elt F) (Rect.unit (s := S1x8x256) ![0, (1 : Fin 8).val, 0] S1x1x256.size (inbD 1)).toLoadRect (harg2.unread x0))))
      (arg4.view.readAt (Elt F) (Rect.unit (s := S1x4096x128) ![0, 256 * n, 0] S1x256x128.size (inbC n hn)).toLoadRect (harg4.unread x2))
      (arg5.view.readAt (Elt F) (Rect.unit (s := S1x4096x128) ![0, 256 * n, 0] S1x256x128.size (inbC n hn)).toLoadRect (harg5.unread x3)))
    (y : S1x256x128.Idx) :
    pay y = kvFun (decRow x0 0) (decRow x0 1) x2 x3 ((Rect.unit (s := S16x256x128) ![n, 0, 0] S1x256x128.size (inbS n hn)).emb y) := by
  rw [readD, readD, readC _ _ _ n hn, readC _ _ _ n hn] at h
  rw [embS n hn, h]
  have h0 : (y 0).val < 1 := (y 0).isLt
  refine congrArg (k0_pay16 _ _ _ _) (funext fun a => Fin.ext ?_)
  match a with
  | ⟨0, _⟩ => show (y 0).val = 0; omega
  | ⟨1, _⟩ => rfl
  | ⟨2, _⟩ => rfl

/-- After the sixteen stores the buffer of key–value products reads `kvFun`. -/
theorem kv_read : arg10.view.read (Elt F) (arg10.view.writes (Elt F) arg10.view.junk
      (bodyRun.sl.HS0_16 (F := F) c arg2 harg2 arg4 harg4 arg5 harg5 x0 x2 x3))
    = kvFun (decRow x0 0) (decRow x0 1) x2 x3 := by
  have hcov : ∀ y : S16x256x128.Idx, ∃ p ∈ bodyRun.sl.HS0_16 (F := F) c arg2 harg2 arg4 harg4 arg5 harg5 x0 x2 x3, y ∈ p.1.set :=
    View.cover_of_tiledL _ S1x256x128.size (by sl_kernel_rfl)
  rw [View.read_writes_eq_canon _ _ _ hcov]
  funext y
  refine View.canon_apply_of_pieces _ _ ?_ y (hcov y)
  unfold bodyRun.sl.HS0_16
  have K := kv_piece (F := F) arg2 harg2 arg4 harg4 arg5 harg5 x0 x2 x3
  refine List.forall_mem_cons.mpr ⟨K 15 (by norm_num) _ rfl, ?_⟩
  refine List.forall_mem_cons.mpr ⟨K 14 (by norm_num) _ rfl, ?_⟩
  refine List.forall_mem_cons.mpr ⟨K 13 (by norm_num) _ rfl, ?_⟩
  refine List.forall_mem_cons.mpr ⟨K 12 (by norm_num) _ rfl, ?_⟩
  refine List.forall_mem_cons.mpr ⟨K 11 (by norm_num) _ rfl, ?_⟩
  refine List.forall_mem_cons.mpr ⟨K 10 (by norm_num) _ rfl, ?_⟩
  refine List.forall_mem_cons.mpr ⟨K 9 (by norm_num) _ rfl, ?_⟩
  refine List.forall_mem_cons.mpr ⟨K 8 (by norm_num) _ rfl, ?_⟩
  refine List.forall_mem_cons.mpr ⟨K 7 (by norm_num) _ rfl, ?_⟩
  refine List.forall_mem_cons.mpr ⟨K 6 (by norm_num) _ rfl, ?_⟩
  refine List.forall_mem_cons.mpr ⟨K 5 (by norm_num) _ rfl, ?_⟩
  refine List.forall_mem_cons.mpr ⟨K 4 (by norm_num) _ rfl, ?_⟩
  refine List.forall_mem_cons.mpr ⟨K 3 (by norm_num) _ rfl, ?_⟩
  refine List.forall_mem_cons.mpr ⟨K 2 (by norm_num) _ rfl, ?_⟩
  refine List.forall_mem_cons.mpr ⟨K 1 (by norm_num) _ rfl, ?_⟩
  refine List.forall_mem_cons.mpr ⟨K 0 (by norm_num) _ rfl, ?_⟩
  exact fun p hp => (List.not_mem_nil hp).elim

/-- The contents of the state buffer after the loop, as the run states them. -/
def stBuf : BufTy.Contents (Elt F) arg11.view.ty :=
  arg11.view.writes (Elt F) f11 (st_k0_t1 (F := F) Variants.none c none i arg2 harg2 arg3 harg3 arg4 harg4 arg5 harg5 arg6 harg6 arg7 harg7 arg8 harg8 arg9 harg9 arg10 harg10 arg11 harg11
    (bodyRun.sl.r_3 (F := F) c arg2 harg2 x0) (bodyRun.sl.r_4 (F := F) c arg2 harg2 x0) (bodyRun.sl.r_7 (F := F) c arg2 harg2 x0) (bodyRun.sl.r_8 (F := F) c arg2 harg2 x0)
    0#32 15#32 (arg10.view.writes (Elt F) arg10.view.junk (bodyRun.sl.HS0_16 (F := F) c arg2 harg2 arg4 harg4 arg5 harg5 x0 x2 x3))
    (k0_pay36, k0_pay36) (Scf.trips k0_t1_loop.lb k0_t1_loop.ub k0_t1_loop.st)).2

/-- A load of slot `n` of the state buffer reads `stSlot`. -/
theorem readS (n : ℕ) (hn : n < 16) :
    arg11.view.readAt (Elt F) (Rect.unit (s := S16x256x128) ![n, 0, 0] S1x256x128.size (inbS n hn)).toLoadRect
      (stBuf c i arg2 harg2 arg3 harg3 arg4 harg4 arg5 harg5 arg6 harg6 arg7 harg7 arg8 harg8 arg9 harg9 arg10 harg10 arg11 harg11 x0 x2 x3 f11)
    = stSlot (decRow x0 0) (decRow x0 1) x2 x3 n hn := by
  have e7 : bodyRun.sl.r_7 (F := F) c arg2 harg2 x0 = k0_pay12 (k0_pay5 (decRow x0 0)) :=
    congrArg (fun z => k0_pay12 (k0_pay5 z)) (readD arg2 harg2 x0 0)
  have e8 : bodyRun.sl.r_8 (F := F) c arg2 harg2 x0 = k0_pay13 (k0_pay6 (decRow x0 1)) :=
    congrArg (fun z => k0_pay13 (k0_pay6 z)) (readD arg2 harg2 x0 1)
  rw [View.readAt_eq_ld]
  unfold stBuf
  rw [st_read (hX := kv_read c arg2 harg2 arg4 harg4 arg5 harg5 arg10 x0 x2 x3), e7, e8]
  funext y
  exact congrArg (stFun _ _ _) (embS n hn y)

/-- One store into the output block is a restriction of `outFun`. -/
theorem out_piece (n : ℕ) (hn : n < 16) (pay : Vec F S1x256x128 .bf16)
    (h : pay = outCh
      (k0_pay4 (arg2.view.readAt (Elt F) (Rect.unit (s := S1x8x256) ![0, (0 : Fin 8).val, 0] S1x1x256.size (inbD 0)).toLoadRect (harg2.unread x0))
        (arg2.view.readAt (Elt F) (Rect.unit (s := S1x8x256) ![0, (1 : Fin 8).val, 0] S1x1x256.size (inbD 1)).toLoadRect (harg2.unread x0)))
      (k0_pay10 (k0_pay5 (arg2.view.readAt (Elt F) (Rect.unit (s := S1x8x256) ![0, (0 : Fin 8).val, 0] S1x1x256.size (inbD 0)).toLoadRect (harg2.unread x0))))
      (k0_pay11 (k0_pay6 (arg2.view.readAt (Elt F) (Rect.unit (s := S1x8x256) ![0, (1 : Fin 8).val, 0] S1x1x256.size (inbD 1)).toLoadRect (harg2.unread x0))))
      (k0_pay41 (arg7.view.readAt (Elt F) (Rect.unit (s := S1x128) ![0, 0] S1x128.size inb_S1x128_S1x128_0_0).toLoadRect (harg7.unread x5)))
      (k0_pay42 (arg8.view.readAt (Elt F) (Rect.unit (s := S1x128) ![0, 0] S1x128.size inb_S1x128_S1x128_0_0).toLoadRect (harg8.unread x6)))
      (arg3.view.readAt (Elt F) (Rect.unit (s := S1x4096x128) ![0, 256 * n, 0] S1x256x128.size (inbC n hn)).toLoadRect (harg3.unread x1))
      (arg4.view.readAt (Elt F) (Rect.unit (s := S1x4096x128) ![0, 256 * n, 0] S1x256x128.size (inbC n hn)).toLoadRect (harg4.unread x2))
      (arg5.view.readAt (Elt F) (Rect.unit (s := S1x4096x128) ![0, 256 * n, 0] S1x256x128.size (inbC n hn)).toLoadRect (harg5.unread x3))
      (arg11.view.readAt (Elt F) (Rect.unit (s := S16x256x128) ![n, 0, 0] S1x256x128.size (inbS n hn)).toLoadRect
        (stBuf c i arg2 harg2 arg3 harg3 arg4 harg4 arg5 harg5 arg6 harg6 arg7 harg7 arg8 harg8 arg9 harg9 arg10 harg10 arg11 harg11 x0 x2 x3 f11))
      (arg6.view.readAt (Elt F) (Rect.unit (s := S1x4096x128) ![0, 256 * n, 0] S1x256x128.size (inbC n hn)).toLoadRect (harg6.unread x4)))
    (y : S1x256x128.Idx) :
    pay y = outFun x0 x1 x2 x3 x4 x5 x6 ((Rect.unit (s := S1x4096x128) ![0, 256 * n, 0] S1x256x128.size (inbC n hn)).emb y) := by
  rw [readD, readD, readC _ _ _ n hn, readC _ _ _ n hn, readC _ _ _ n hn, readC _ _ _ n hn, readG, readG, readS _ _ _ _ _ _ _ _ _ _ _ _ _ _ _ _ _ _ _ _ _ _ _ _ _ _ n hn] at h
  have h0 : (y 0).val < 1 := (y 0).isLt
  have h1 : (y 1).val < 256 := (y 1).isLt
  rw [embC n hn, h]
  unfold outFun
  show outChunk x0 x1 x2 x3 x4 x5 x6 n hn y = outChunk x0 x1 x2 x3 x4 x5 x6 ((256 * n + (y 1).val) / 256) _ _
  congr 1
  · omega
  · funext a
    refine Fin.ext ?_
    match a with
    | ⟨0, _⟩ => show (y 0).val = 0; omega
    | ⟨1, _⟩ => show (y 1).val = (256 * n + (y 1).val) % 256; omega
    | ⟨2, _⟩ => rfl

/-- The output block after the body reads `outFun`, whatever it and the scratch buffers held before. -/
theorem out_read (f9 : BufTy.Contents (Elt F) arg9.view.ty) :
    arg9.view.read (Elt F) (arg9.view.writes (Elt F) f9
      (bodyRun (F := F) c i arg2 harg2 arg3 harg3 arg4 harg4 arg5 harg5 arg6 harg6 arg7 harg7 arg8 harg8 arg9 harg9 arg10 harg10 arg11 harg11 x0 x1 x2 x3 x4 x5 x6 f10 f11).1)
    = outFun x0 x1 x2 x3 x4 x5 x6 := by
  have hcov : ∀ y : S1x4096x128.Idx, ∃ p ∈ (bodyRun (F := F) c i arg2 harg2 arg3 harg3 arg4 harg4 arg5 harg5 arg6 harg6 arg7 harg7 arg8 harg8 arg9 harg9 arg10 harg10 arg11 harg11 x0 x1 x2 x3 x4 x5 x6 f10 f11).1, y ∈ p.1.set :=
    View.cover_of_tiledL _ S1x256x128.size (by sl_kernel_rfl)
  rw [View.read_writes_eq_canon _ _ _ hcov]
  funext y
  refine View.canon_apply_of_pieces _ _ ?_ y (hcov y)
  unfold bodyRun
  have K := out_piece (F := F) c i arg2 harg2 arg3 harg3 arg4 harg4 arg5 harg5 arg6 harg6 arg7 harg7 arg8 harg8 arg9 harg9 arg10 harg10 arg11 harg11 x0 x1 x2 x3 x4 x5 x6 f11
  refine List.forall_mem_cons.mpr ⟨K 15 (by norm_num) _ rfl, ?_⟩
  refine List.forall_mem_cons.mpr ⟨K 14 (by norm_num) _ rfl, ?_⟩
  refine List.forall_mem_cons.mpr ⟨K 13 (by norm_num) _ rfl, ?_⟩
  refine List.forall_mem_cons.mpr ⟨K 12 (by norm_num) _ rfl, ?_⟩
  refine List.forall_mem_cons.mpr ⟨K 11 (by norm_num) _ rfl, ?_⟩
  refine List.forall_mem_cons.mpr ⟨K 10 (by norm_num) _ rfl, ?_⟩
  refine List.forall_mem_cons.mpr ⟨K 9 (by norm_num) _ rfl, ?_⟩
  refine List.forall_mem_cons.mpr ⟨K 8 (by norm_num) _ rfl, ?_⟩
  refine List.forall_mem_cons.mpr ⟨K 7 (by norm_num) _ rfl, ?_⟩
  refine List.forall_mem_cons.mpr ⟨K 6 (by norm_num) _ rfl, ?_⟩
  refine List.forall_mem_cons.mpr ⟨K 5 (by norm_num) _ rfl, ?_⟩
  refine List.forall_mem_cons.mpr ⟨K 4 (by norm_num) _ rfl, ?_⟩
  refine List.forall_mem_cons.mpr ⟨K 3 (by norm_num) _ rfl, ?_⟩
  refine List.forall_mem_cons.mpr ⟨K 2 (by norm_num) _ rfl, ?_⟩
  refine List.forall_mem_cons.mpr ⟨K 1 (by norm_num) _ rfl, ?_⟩
  refine List.forall_mem_cons.mpr ⟨K 0 (by norm_num) _ rfl, ?_⟩
  exact fun p hp => (List.not_mem_nil hp).elim

end

end Cert.KernelIdeal.Ret

end
-- ==== Proof.Ret.Run.lean ====
/-
  The retention kernel's run: from any memory with zero counters every execution of @main ends with the result array's
  block at each point of the grid at `outFun` of the input blocks there, and with every argument array unchanged.
-/
module

public import proofs.«01_k».proof.Proof.Ret.Block
public import Idealize.ShloMosaic.Lib.Pipeline.FrameValue
public import Idealize.ShloMosaic.Lib.Claim

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A buffer owned at some block is owned at some contents of its cells. -/
theorem owns_cells (c : Dev nD) {sp : Space} {sh : Shape} {e : EltTy} (M : Memref sig .tc sp sh e) :
    iprop(∃ d, owns (Val := Elt F) (c : Thread nD τ) M fullShare d)
      ⊢ (iprop(∃ f, M.view.loc (c : Thread nD τ) ↦[M.view.set]{fullShare} f) : sProp 𝕄) := by
  unfold owns
  iintro ⟨%d, %f, %h, H⟩
  iexists f
  iexact H

/-- The body over any whole buffers: the inputs are kept, the output buffer ends at `outFun` of them, and the two scratch
    buffers come and go at any contents. -/
theorem body_spec (c : Dev nD) (i : grid0.Coords) (arg2 : Memref sig .tc .vmem S1x8x256 .f32) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S16x256x128 .f32) (harg10 : arg10.IsWhole) (arg11 : Memref sig .tc .vmem S16x256x128 .bf16) (harg11 : arg11.IsWhole)
    (x0 : Vec F S1x8x256 .f32) (x1 : Vec F S1x4096x128 .bf16) (x2 : Vec F S1x4096x128 .bf16) (x3 : Vec F S1x4096x128 .bf16) (x4 : Vec F S1x4096x128 .bf16) (x5 : Vec F S1x128 .f32) (x6 : Vec F S1x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (outFun x0 x1 x2 x3 x4 x5 x6) ∗ (∃ d, owns (c : Thread nD τ) arg10 fullShare d) ∗ (∃ d, owns (c : Thread nD τ) arg11 fullShare d)) -∗ K ⟨⟩))
      ⊢ wp frame (wpE (defs₀ (F := F)) Variants.none c none) E (cc0_retention i arg2 harg2 arg3 harg3 arg4 harg4 arg5 harg5 arg6 harg6 arg7 harg7 arg8 harg8 arg9 harg9 arg10 harg10 arg11 harg11) K := by
  iintro ⟨H0, H1, H2, H3, H4, H5, H6, H7, HS0, HS1, Hk⟩
  icases (owns_cells c arg9) $$ H7 with ⟨%g7, H7⟩
  icases (owns_cells c arg10) $$ HS0 with ⟨%g0, HS0⟩
  icases (owns_cells c arg11) $$ HS1 with ⟨%g1, HS1⟩
  iapply ((bodyRun (F := F) c i arg2 harg2 arg3 harg3 arg4 harg4 arg5 harg5 arg6 harg6 arg7 harg7 arg8 harg8 arg9 harg9 arg10 harg10 arg11 harg11 x0 x1 x2 x3 x4 x5 x6 g0 g1).2 E K g7)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns
    iexists _
    isplitr; swap; · iexact H7
    ipureintro
    exact out_read (F := F) c i arg2 harg2 arg3 harg3 arg4 harg4 arg5 harg5 arg6 harg6 arg7 harg7 arg8 harg8 arg9 harg9 arg10 harg10 arg11 harg11 x0 x1 x2 x3 x4 x5 x6 g0 g1 g7
  isplitl [HS0]; · iexact HS0
  iexact HS1

variable (m : (ℓ : Loc nD τ sig) → Buf (Elt F) ℓ) (ρ : Dev nD → PrngReg)

/-- The block the body leaves at point `t`: `outFun` of the seven input blocks there. -/
def outAt (c : Dev nD) (t : Fin cfg0.N) : S1x4096x128.Idx → Elt F .bf16 :=
  outFun (iblk m c 0 t) (iblk m c 1 t) (iblk m c 2 t) (iblk m c 3 t) (iblk m c 4 t) (iblk m c 5 t) (iblk m c 6 t)

/-- The pipeline's proof data: the arrays as the region finds them; after the body each input block in place and the
    output block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ _ := Pipeline.ΦA spec0 c
  q w := Pipeline.shareOf spec0 w
  owed _ := 0

/-- The proof data's arrays are the contents the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The scratch buffers as whole memrefs. -/
abbrev kvM : Memref sig .tc .vmem S16x256x128 .f32 := Memref.whole cc0_scratch0
abbrev stM : Memref sig .tc .vmem S16x256x128 .bf16 := Memref.whole cc0_scratch1

/-- What the pipeline keeps for the body between points: the two scratch buffers and the generator register. -/
theorem kept_eq (c : Dev nD) :
    (Pipeline.ΦA spec0 c : sProp 𝕄)
      = iprop(iprop((∃ d, owns (c : Thread nD τ) kvM fullShare d) ∗ (∃ d, owns (c : Thread nD τ) stM fullShare d)) ∗ (∃ r, prngReg c r)) := by
  unfold Pipeline.ΦA; rw [scopedRest0_eq]; simp only [kvM, stM, owns_whole]; try rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1600000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, kept_eq]
  iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_spec (F := F) c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexists _; iexact HS0
  isplitl [HS1]; · iexists _; iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the proof data says, and every counter of the machine ends at zero. -/
theorem run_quiescent : θ_run defs (onTc (τ := τ) (main (F := F))) (s₀ m ρ)
    (fun r => Pipeline.FramePost cfgs (dats m) 0 (V m) r ∧ r.2.sem = fun _ => 0) :=
  Pipeline.θ_run_frame_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)
    (Q' := _) (hQ' := fun _ h => h)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

end Cert.KernelIdeal.Ret

end
-- ==== Proof.Ret.Dec.lean ====
/-
  The array of decays the host code prepares for the retention call: `8 × 8 × 256` zeros into whose rows 0 and 1 the
  forward and the backward decays are written, each head's at every lane.
-/
module

public import proofs.«01_k».proof.Proof.Ret.Run
public import Idealize.ShloMosaic.Lib.Routing.OpsOne
public import Idealize.ShloMosaic.Lib.StableHlo.ReadAt
public import Idealize.ShloMosaic.Lib.Pointwise

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI Idealize.SL.Sem
open Idealize.ShloMosaic.Routing
open Cert.KernelIdeal.Gen

/-- The writing of one row of the `8 × 8 × 256` array. -/
abbrev rowWrite : ScatterDims S8x8x256 S1 S8x256 := scatter_S8x8x256_S1_S8x256_01_1_1_0

theorem rowWrite_window (j : S8x256.Idx) :
    rowWrite.window j 0 = (j 0).val ∧ rowWrite.window j 1 = 0 ∧ rowWrite.window j 2 = (j 1).val :=
  ⟨rfl, rfl, rfl⟩

theorem rowWrite_start (j : S8x256.Idx) (idx : IVec S1 32) (k : BitVec 32) (hk : ∀ i, idx i = k) :
    rowWrite.start j idx 0 = 0 ∧ rowWrite.start j idx 1 = k.toInt ∧ rowWrite.start j idx 2 = 0 := by
  refine ⟨rfl, ?_, rfl⟩
  unfold ScatterDims.start
  rw [dif_pos (by decide)]
  rw [hk]

/-- Update `(h', l')` lands at `(h, r, l)` exactly when the heads and the lanes agree and the index word is the row. -/
theorem rowWrite_lands (j : S8x256.Idx) (idx : IVec S1 32) (k : BitVec 32) (hk : ∀ i, idx i = k) (h : Fin 8) (r : Fin 8) (l : Fin 256) :
    rowWrite.resultIdx? j idx = some (ix3 h r l) ↔ (j = ix2 h l ∧ k.toInt = (r.val : ℤ)) := by
  obtain ⟨w0, w1, w2⟩ := rowWrite_window j
  obtain ⟨s0, s1, s2⟩ := rowWrite_start j idx k hk
  rw [resultIdx?_eq_some]
  constructor
  · intro e
    have e0 : rowWrite.start j idx 0 + (rowWrite.window j 0 : ℤ) = (h.val : ℤ) := e 0
    have e1 : rowWrite.start j idx 1 + (rowWrite.window j 1 : ℤ) = (r.val : ℤ) := e 1
    have e2 : rowWrite.start j idx 2 + (rowWrite.window j 2 : ℤ) = (l.val : ℤ) := e 2
    rw [w0, s0] at e0
    rw [w1, s1] at e1
    rw [w2, s2] at e2
    refine ⟨?_, by omega⟩
    funext a
    match a with
    | ⟨0, _⟩ => exact Fin.ext (show (j 0).val = h.val by omega)
    | ⟨1, _⟩ => exact Fin.ext (show (j 1).val = l.val by omega)
  · rintro ⟨rfl, e⟩ a
    match a with
    | ⟨0, _⟩ => exact (congrArg₂ (fun (p : ℤ) (q : ℕ) => p + (q : ℤ)) s0 w0).trans (zero_add _)
    | ⟨1, _⟩ => exact (congrArg₂ (fun (p : ℤ) (q : ℕ) => p + (q : ℤ)) s1 w1).trans ((add_zero _).trans e)
    | ⟨2, _⟩ => exact (congrArg₂ (fun (p : ℤ) (q : ℕ) => p + (q : ℤ)) s2 w2).trans (zero_add _)

/-- The writing of row `k`, read at an index: the update in that row, the operand elsewhere. -/
theorem rowWrite_apply {α : Type} (x : S8x8x256.Idx → α) (idx : IVec S1 32) (upd : S8x256.Idx → α) (k : BitVec 32) (hk : ∀ i, idx i = k)
    (h : Fin 8) (r : Fin 8) (l : Fin 256) :
    Host.scatter rowWrite (fun _ b => b) x idx upd (ix3 h r l) = if k.toInt = (r.val : ℤ) then upd (ix2 h l) else x (ix3 h r l) := by
  split
  · next e =>
    exact scatter_set_hit rowWrite x idx upd _ _ (fun j hj => congrArg upd ((rowWrite_lands j idx k hk h r l).1 hj).1) (ix2 h l)
      ((rowWrite_lands _ idx k hk h r l).2 ⟨rfl, e⟩)
  · next e =>
    exact scatter_set_miss rowWrite x idx upd _ fun j hj => e ((rowWrite_lands j idx k hk h r l).1 hj).2

variable (m : (ℓ : Loc nD τ sig) → Buf (Elt Ideal) ℓ)

/-- Row 0 of the array the call finds holds each head's forward decay at every lane, -/
theorem dec_row0 (c : Dev nD) (h : Fin 8) (l : Fin 256) :
    V m c main_v8 (ix3 h 0 l) = m ((c : Thread nD τ).loc main_arg1) (ix1 h) := by
  unfold V
  after_reads_at
  refine (rowWrite_apply _ _ _ 1#32 (fun _ => rfl) h 0 l).trans ?_
  rw [if_neg (by decide)]
  refine (rowWrite_apply _ _ _ 0#32 (fun _ => rfl) h 0 l).trans ?_
  rw [if_pos (by decide)]
  pointwise

/-- and row 1 each head's backward decay. -/
theorem dec_row1 (c : Dev nD) (h : Fin 8) (l : Fin 256) :
    V m c main_v8 (ix3 h 1 l) = m ((c : Thread nD τ).loc main_arg2) (ix1 h) := by
  unfold V
  after_reads_at
  refine (rowWrite_apply _ _ _ 1#32 (fun _ => rfl) h 1 l).trans ?_
  rw [if_pos (by decide)]
  pointwise

/-- The norm's weights and biases as rows. -/
theorem gnw_row (c : Dev nD) (j : Fin 1024) :
    V m c main_v9 (ix2 0 j) = m ((c : Thread nD τ).loc main_arg3) (ix1 j) := by
  unfold V
  after_reads_at

theorem gnb_row (c : Dev nD) (j : Fin 1024) :
    V m c main_v10 (ix2 0 j) = m ((c : Thread nD τ).loc main_arg4) (ix1 j) := by
  unfold V
  after_reads_at

end Cert.KernelIdeal.Ret

end
-- ==== Proof.Ret.Sums.lean ====
/-
  The chunkwise recurrence and the plain sum agree, over the reals: a bidirectional retention computed chunk by chunk
  from two running states is the sum over every position, weighted by a power of the decay.
-/
module

public import Mathlib.Algebra.BigOperators.Intervals
public import Mathlib.Algebra.BigOperators.Ring.Finset
public import Mathlib.Data.Real.Basic
public import Mathlib.Tactic.Ring
public import Mathlib.Tactic.Linarith

@[expose] public section

noncomputable section

namespace Ret

open Finset

variable (q k v : ℕ → ℕ → ℝ) (s a b : ℝ)

/-- The forward state after `t` chunks: row `e`, column `d`. -/
def fwd (e d : ℕ) : ℕ → ℝ
  | 0 => 0
  | t + 1 => fwd e d t * a ^ 256 + ∑ j ∈ range 256, k (256 * t + j) e * (s * a ^ (255 - j)) * v (256 * t + j) d

/-- The backward state after `t` chunks, counted from the last one. -/
def bwd (e d : ℕ) : ℕ → ℝ
  | 0 => 0
  | t + 1 => bwd e d t * b ^ 256 + ∑ j ∈ range 256, k (256 * (15 - t) + j) e * (s * b ^ j) * v (256 * (15 - t) + j) d

/-- The forward state is the decayed sum over the positions before the chunk. -/
theorem fwd_eq (e d t : ℕ) :
    fwd k v s a e d t = ∑ m ∈ range (256 * t), k m e * (s * a ^ (256 * t - 1 - m)) * v m d := by
  induction t with
  | zero => simp [fwd]
  | succ t ih =>
    rw [show 256 * (t + 1) = 256 * t + 256 by ring, sum_range_add, fwd, ih, sum_mul]
    refine congrArg₂ (· + ·) (sum_congr rfl fun m hm => ?_) (sum_congr rfl fun j hj => ?_)
    · have hm' := mem_range.mp hm
      rw [show 256 * t + 256 - 1 - m = (256 * t - 1 - m) + 256 by omega, pow_add]; ring
    · rw [show 256 * t + 256 - 1 - (256 * t + j) = 255 - j by omega]

/-- The backward state is the decayed sum over the positions from the chunks taken so far. -/
theorem bwd_eq (e d t : ℕ) (ht : t ≤ 16) :
    bwd k v s b e d t = ∑ j ∈ range (256 * t), k (4096 - 256 * t + j) e * (s * b ^ j) * v (4096 - 256 * t + j) d := by
  induction t with
  | zero => simp [bwd]
  | succ t ih =>
    rw [show 256 * (t + 1) = 256 + 256 * t by ring, sum_range_add, bwd, ih (by omega), sum_mul, add_comm]
    refine congrArg₂ (· + ·) (sum_congr rfl fun j hj => ?_) (sum_congr rfl fun j hj => ?_)
    · rw [show 4096 - (256 + 256 * t) = 256 * (15 - t) by omega]
    · rw [show 4096 - (256 + 256 * t) + (256 + j) = 4096 - 256 * t + j by omega, pow_add]; ring

/-- The scaled scores: row `n` of the queries against row `m` of the keys. -/
def score (n m : ℕ) : ℝ := ∑ e ∈ range 128, q n e * (k m e * s)

/-- A sum over the lanes of a decayed query against a decayed state is a sum over positions of decayed scores. -/
theorem state_apply (n d : ℕ) (x : ℝ) (M : ℕ) (p : ℕ → ℕ) (w : ℕ → ℝ) :
    ∑ e ∈ range 128, q n e * x * (∑ m ∈ range M, k (p m) e * (s * w m) * v (p m) d)
      = ∑ m ∈ range M, score q k s n (p m) * (x * w m) * v (p m) d := by
  simp only [mul_sum, score, sum_mul]
  rw [sum_comm]
  exact sum_congr rfl fun m _ => sum_congr rfl fun e _ => by ring

/-- What the chunkwise kernel computes at row `r` of chunk `c`. -/
def chunked (c r d : ℕ) : ℝ :=
  (∑ j ∈ range 256, (∑ e ∈ range 128, q (256 * c + r) e * k (256 * c + j) e) * (s * if j ≤ r then a ^ (r - j) else b ^ (j - r)) * v (256 * c + j) d)
    + ((∑ e ∈ range 128, q (256 * c + r) e * a ^ (r + 1) * fwd k v s a e d c)
      + ∑ e ∈ range 128, q (256 * c + r) e * b ^ (256 - r) * bwd k v s b e d (15 - c))

/-- The plain sum at position `n`: the positions up to `n` decayed by `a`, those after it by `b`. -/
def plain (n d : ℕ) : ℝ :=
  (∑ m ∈ range 4096, score q k s n m * (if m ≤ n then a ^ (n - m) else 0) * v m d)
    + ∑ m ∈ range 4096, score q k s n m * (if n < m then b ^ (m - n) else 0) * v m d

/-- The chunkwise recurrence computes the plain sum. -/
theorem chunked_eq_plain (c r d : ℕ) (hc : c < 16) (hr : r < 256) :
    chunked q k v s a b c r d = plain q k v s a b (256 * c + r) d := by
  have hsplit : plain q k v s a b (256 * c + r) d
      = ∑ m ∈ range 4096, score q k s (256 * c + r) m * (if m ≤ 256 * c + r then a ^ (256 * c + r - m) else b ^ (m - (256 * c + r))) * v m d := by
    rw [plain, ← sum_add_distrib]
    refine sum_congr rfl fun m _ => ?_
    by_cases h : m ≤ 256 * c + r
    · rw [if_pos h, if_pos h, if_neg (by omega)]; ring
    · rw [if_neg h, if_neg h, if_pos (by omega)]; ring
  rw [hsplit, show 4096 = 256 * c + (256 + 256 * (15 - c)) by omega, sum_range_add, sum_range_add, chunked]
  have hf : ∑ e ∈ range 128, q (256 * c + r) e * a ^ (r + 1) * fwd k v s a e d c
      = ∑ m ∈ range (256 * c), score q k s (256 * c + r) m * (if m ≤ 256 * c + r then a ^ (256 * c + r - m) else b ^ (m - (256 * c + r))) * v m d := by
    simp only [fwd_eq]
    refine (state_apply q k v s (256 * c + r) d (a ^ (r + 1)) (256 * c) id (fun m => a ^ (256 * c - 1 - m))).trans ?_
    refine sum_congr rfl fun m hm => ?_
    have hm' := mem_range.mp hm
    rw [if_pos (by omega), ← pow_add, show r + 1 + (256 * c - 1 - m) = 256 * c + r - m by omega]; rfl
  have hb : ∑ e ∈ range 128, q (256 * c + r) e * b ^ (256 - r) * bwd k v s b e d (15 - c)
      = ∑ j ∈ range (256 * (15 - c)), score q k s (256 * c + r) (256 * c + (256 + j))
          * (if 256 * c + (256 + j) ≤ 256 * c + r then a ^ (256 * c + r - (256 * c + (256 + j))) else b ^ (256 * c + (256 + j) - (256 * c + r)))
          * v (256 * c + (256 + j)) d := by
    simp only [bwd_eq k v s b _ d (15 - c) (by omega)]
    rw [state_apply q k v s (256 * c + r) d (b ^ (256 - r)) (256 * (15 - c)) (fun j => 4096 - 256 * (15 - c) + j) (fun j => b ^ j)]
    refine sum_congr rfl fun j _ => ?_
    rw [if_neg (by omega), ← pow_add, show 4096 - 256 * (15 - c) + j = 256 * c + (256 + j) by omega,
      show 256 * c + (256 + j) - (256 * c + r) = 256 - r + j by omega]
  have hi : ∑ j ∈ range 256, (∑ e ∈ range 128, q (256 * c + r) e * k (256 * c + j) e) * (s * if j ≤ r then a ^ (r - j) else b ^ (j - r)) * v (256 * c + j) d
      = ∑ j ∈ range 256, score q k s (256 * c + r) (256 * c + j)
          * (if 256 * c + j ≤ 256 * c + r then a ^ (256 * c + r - (256 * c + j)) else b ^ (256 * c + j - (256 * c + r))) * v (256 * c + j) d := by
    refine sum_congr rfl fun j _ => ?_
    rw [show score q k s (256 * c + r) (256 * c + j) = (∑ e ∈ range 128, q (256 * c + r) e * k (256 * c + j) e) * s by
      rw [score, sum_mul]; exact sum_congr rfl fun e _ => by ring]
    by_cases h : j ≤ r
    · rw [if_pos h, if_pos (by omega), show 256 * c + r - (256 * c + j) = r - j by omega]; ring
    · rw [if_neg h, if_neg (by omega), show 256 * c + j - (256 * c + r) = j - r by omega]; ring
  rw [hf, hb, hi]; ring

end Ret

end
-- ==== Proof.Ret.Scalars.lean ====
/-
  The scalars of the retention at the ideal values: the log-sigmoid in the kernel's and in the reference's spelling, and
  a decay as a natural power of one real number.
-/
module

public import Idealize.ShloMosaic.PureOps.Ideal
public import Idealize.ShloMosaic.PureOps.Ideal.Laws
public import Idealize.ShloMosaic.Lib.IdealHost
public import Idealize.ShloMosaic.Lib.Pointwise

@[expose] public section

noncomputable section

namespace Ret

open Idealize.ShloMosaic Finset

/-- A finite sum of reals, taken in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- The log-sigmoid as the kernel spells it. -/
def logSig (z : EReal) : EReal := min z 0 - Ideal.log1p (Ideal.exp (0 - max z (-z)))

/-- The logarithm of a positive real. -/
theorem log_pos (r : ℝ) (h : 0 < r) : Ideal.log (r : EReal) = (Real.log r : EReal) := by
  show (if r ≤ 0 then (⊥ : EReal) else (Real.log r : EReal)) = _
  rw [if_neg (not_le.mpr h)]

/-- An exponential of a number other than +∞ is a nonnegative real. -/
theorem exp_real (z : EReal) (h : z ≠ ⊤) : ∃ r : ℝ, 0 ≤ r ∧ Ideal.exp z = (r : EReal) := by
  induction z using EReal.rec with
  | bot => exact ⟨0, le_rfl, by simp⟩
  | top => exact absurd rfl h
  | coe x => exact ⟨Real.exp x, (Real.exp_pos x).le, Ideal.exp_coe x⟩

/-- The correction term of the log-sigmoid is a real number. -/
theorem log1p_real (z : EReal) : ∃ r : ℝ, Ideal.log1p (Ideal.exp (0 - max z (-z))) = (r : EReal) := by
  have h0 : (0 : EReal) ≤ max z (-z) := by
    rcases le_total 0 z with h | h
    · exact le_max_of_le_left h
    · exact le_max_of_le_right (by simpa using EReal.neg_le_neg_iff.mpr h)
  have ht : (0 : EReal) - max z (-z) ≠ ⊤ := by
    rw [zero_sub]
    intro h
    rw [EReal.neg_eq_top_iff] at h
    rw [h] at h0
    exact absurd h0 (by simp)
  obtain ⟨r, hr, he⟩ := exp_real _ ht
  refine ⟨Real.log (1 + r), ?_⟩
  rw [he, Ideal.log1p, show (1 : EReal) + (r : EReal) = ((1 + r : ℝ) : EReal) by rw [EReal.coe_add]; rfl, log_pos _ (by positivity)]

/-- A log-sigmoid is never +∞. -/
theorem logSig_ne_top (z : EReal) : logSig z ≠ ⊤ := by
  obtain ⟨r, hr⟩ := log1p_real z
  rw [logSig, hr]
  have h : min z 0 ≠ ⊤ := ne_top_of_le_ne_top EReal.zero_ne_top (min_le_right _ _)
  rw [sub_eq_add_neg, ← EReal.coe_neg]
  exact EReal.add_ne_top h (EReal.coe_ne_top _)

/-- The reference's spelling, minus the softplus of the negation, is the same. -/
theorem logSig_eq (z : EReal) :
    -(max (-z) 0 + Ideal.log1p (Ideal.exp (-(max (-z - 0) (-(-z - 0)))))) = logSig z := by
  rw [sub_zero, neg_neg, max_comm (-z) z, ← zero_sub (max z (-z))]
  obtain ⟨r, hr⟩ := log1p_real z
  rw [logSig, hr, EReal.neg_add (.inr (EReal.coe_ne_top r)) (.inr (EReal.coe_ne_bot r))]
  congr 1
  rcases le_total z 0 with h | h
  · rw [min_eq_left h, max_eq_left (by simpa using EReal.neg_le_neg_iff.mpr h), neg_neg]
  · rw [min_eq_right h, max_eq_right (by simpa using EReal.neg_le_neg_iff.mpr h), neg_zero]

/-- The decay over one position, for a log-decay `l`. -/
def gam (l : EReal) : ℝ := (Ideal.exp l).toReal

/-- The decay over `j` positions is its `j`-th power. -/
theorem exp_mul_nat (l : EReal) (hl : l ≠ ⊤) (j : ℕ) : Ideal.exp (l * ((j : ℝ) : EReal)) = ((gam l ^ j : ℝ) : EReal) := by
  induction l using EReal.rec with
  | bot =>
    rcases Nat.eq_zero_or_pos j with rfl | hj
    · simp [gam, ← EReal.coe_zero, -EReal.coe_zero]
      rw [EReal.coe_zero]; simp [show Ideal.exp 0 = 1 by rw [← EReal.coe_zero, Ideal.exp_coe]; simp]
    · rw [EReal.bot_mul_coe_of_pos (by exact_mod_cast hj)]
      simp [gam, hj.ne']
  | top => exact absurd rfl hl
  | coe x =>
    rw [← EReal.coe_mul, Ideal.exp_coe, gam, Ideal.exp_coe, EReal.toReal_coe, ← Real.exp_nat_mul, mul_comm]

/-- The scale of the scores, as a real. -/
def scl : ℝ := (Ideal.ofBits .f32 0x3DB504F3#32).toReal

theorem scl_coe : Ideal.ofBits .f32 0x3DB504F3#32 = (scl : EReal) := by
  rw [scl, EReal.coe_toReal] <;> simp [Ideal.ofBits, Ideal.ieee, -EReal.coe_mul]

/-- A sum of reals over `Fin n`, taken in the extended reals, is a real sum over `range n`. -/
theorem sum_fin_coe {n : ℕ} (f : Fin n → EReal) (g : ℕ → ℝ) (h : ∀ i : Fin n, f i = (g i : EReal)) :
    ∑ i, f i = ((∑ i ∈ range n, g i : ℝ) : EReal) := by
  rw [coe_sum, ← Fin.sum_univ_eq_sum_range (fun i => ((g i : ℝ) : EReal)) n]
  exact sum_congr rfl fun i _ => h i

/-- A small number's bit pattern, read as a signed integer. -/
theorem toInt_small (r : ℕ) (h : r < 65536) : (BitVec.ofNat 32 r).toInt = (r : ℤ) := by
  rw [BitVec.toInt_eq_toNat_of_lt (by rw [BitVec.toNat_ofNat]; omega), BitVec.toNat_ofNat, Nat.mod_eq_of_lt (by omega)]

/-- An index of the rows, as a real. -/
theorem row_real (r : ℕ) (h : r < 65536) : (FloatOps.sitofp .f32 (BitVec.ofNat 32 r) : Ideal .f32) = ((r : ℝ) : EReal) := by
  show (((BitVec.ofNat 32 r).toInt : ℝ) : EReal) = _
  rw [toInt_small r h]
  norm_cast

/-- The difference of two indices, as a real. -/
theorem diff_real (r j : ℕ) (h : r < 65536) (h' : j < 65536) :
    (FloatOps.sitofp .f32 (IntOp.subi (BitVec.ofNat 32 r) (BitVec.ofNat 32 j)) : Ideal .f32) = (((r : ℝ) - (j : ℝ) : ℝ) : EReal) := by
  show (((BitVec.ofNat 32 r - BitVec.ofNat 32 j).toInt : ℝ) : EReal) = _
  rw [BitVec.toInt_sub, toInt_small r h, toInt_small j h', Int.bmod_eq_of_le (by omega) (by omega)]
  push_cast
  rfl

/-- The decay over `j` positions, whatever way `j` is spelt. -/
theorem exp_mul_real (l : EReal) (hl : l ≠ ⊤) (x : ℝ) (j : ℕ) (h : x = (j : ℝ)) :
    Ideal.exp (l * (x : EReal)) = ((gam l ^ j : ℝ) : EReal) := by
  rw [h, exp_mul_nat l hl]

end Ret

end
-- ==== Proof.Ret.Norm.lean ====
/-
  The group normalisation of one head's row, its scale and offset, and the gate, as one function of the row.
-/
module

public import proofs.«01_k».proof.Proof.Ret.Scalars

@[expose] public section

noncomputable section

namespace Ret

open Idealize.ShloMosaic

/-- The mean of the row. -/
def mean (y : Fin 128 → EReal) : EReal := Ideal.div (∑ e, y e) (Ideal.ofBits .f32 0x43000000#32)

/-- The row normalised to mean zero and variance one, times `w`, plus `b`, times the gate `g`, at lane `d`. -/
def gnRow (y : Fin 128 → EReal) (g w b : EReal) (d : Fin 128) : EReal :=
  ((y d - mean y) * Ideal.rsqrt (mean (fun e => (y e - mean y) * (y e - mean y)) + Ideal.ofBits .f32 0x3727C5AC#32) * w + b) * g

end Ret

end
-- ==== Proof.Ret.KernelValue.lean ====
/-
  The retention kernel's weights, states and chunk sums at the ideal values, as real numbers: what a chunk of the kernel
  computes before its normalisation is the real sum `chunked` of `Sums.lean`.
-/
module

public import proofs.«01_k».proof.Proof.Ret.Block
public import proofs.«01_k».proof.Proof.Ret.Sums
public import proofs.«01_k».proof.Proof.Ret.Norm
public import Idealize.ShloMosaic.Lib.Pointwise

@[expose] public section

set_option maxRecDepth 16384

noncomputable section

namespace Cert.KernelIdeal.Ret

open Idealize.ShloMosaic Idealize.ShloMosaic.TcCoe
open Cert.KernelIdeal.Gen
open _root_.Ret Finset

theorem c255 : Ideal.ofBits .f32 0x437F0000#32 = ((255 : ℝ) : EReal) := by
  simp [Ideal.ofBits, Ideal.ieee, -EReal.coe_mul]; norm_num

theorem c256 : Ideal.ofBits .f32 0x43800000#32 = ((256 : ℝ) : EReal) := by
  simp [Ideal.ofBits, Ideal.ieee, -EReal.coe_mul]; norm_num

theorem pay2_apply (v : Vec Ideal S1x1x256 .f32) (l : Fin 256) : k0_pay2 v (ix2 0 l) = logSig (v (ix3 0 0 l)) := by
  pointwise [k0_pay2]
  rfl

theorem pay3_apply (v : Vec Ideal S1x1x256 .f32) (l : Fin 256) : k0_pay3 v (ix2 0 l) = logSig (v (ix3 0 0 l)) := by
  pointwise [k0_pay3]
  rfl

theorem pay5_apply (v : Vec Ideal S1x1x256 .f32) (e : Fin 128) :
    k0_pay5 v (ix2 0 e) = logSig (v (ix3 0 0 ⟨e.val, by omega⟩)) := by
  rw [← pay2_apply]
  pointwise [k0_pay5]

theorem pay6_apply (v : Vec Ideal S1x1x256 .f32) (e : Fin 128) :
    k0_pay6 v (ix2 0 e) = logSig (v (ix3 0 0 ⟨e.val, by omega⟩)) := by
  rw [← pay3_apply]
  pointwise [k0_pay6]

section
variable (l : EReal) (hl : l ≠ ⊤) (v : FVec Ideal S1x128 .f32) (hv : ∀ e : Fin 128, v (ix2 0 e) = l)
include hl hv

/-- The weights of the keys for the forward state. -/
theorem pay8_apply (r : Fin 256) (e : Fin 128) : k0_pay8 v (ix2 r e) = ((scl * gam l ^ (255 - r.val) : ℝ) : EReal) := by
  pointwise [k0_pay8, k0_pay7]
  rw [hv, row_real _ (by omega), scl_coe, c255, ← EReal.coe_sub,
    exp_mul_real l hl _ (255 - r.val) (by rw [Nat.cast_sub (by omega)]; norm_num), EReal.coe_mul]

/-- The weights of the keys for the backward state. -/
theorem pay9_apply (r : Fin 256) (e : Fin 128) : k0_pay9 v (ix2 r e) = ((scl * gam l ^ r.val : ℝ) : EReal) := by
  pointwise [k0_pay9, k0_pay7]
  rw [hv, row_real _ (by omega), scl_coe, exp_mul_real l hl _ r.val rfl, EReal.coe_mul]

/-- The weights of the queries for the forward state. -/
theorem pay10_apply (r : Fin 256) (e : Fin 128) : k0_pay10 v (ix2 r e) = ((gam l ^ (r.val + 1) : ℝ) : EReal) := by
  pointwise [k0_pay10, k0_pay7]
  rw [hv, row_real _ (by omega), ← EReal.coe_one, ← EReal.coe_add, exp_mul_real l hl _ (r.val + 1) (by push_cast; ring)]

/-- The weights of the queries for the backward state. -/
theorem pay11_apply (r : Fin 256) (e : Fin 128) : k0_pay11 v (ix2 r e) = ((gam l ^ (256 - r.val) : ℝ) : EReal) := by
  pointwise [k0_pay11, k0_pay7]
  rw [hv, row_real _ (by omega), c256, ← EReal.coe_sub,
    exp_mul_real l hl _ (256 - r.val) (by rw [Nat.cast_sub (by omega)]; norm_num)]

/-- The decay of the forward state over a chunk. -/
theorem pay12_apply (e : Fin 128) : k0_pay12 v (ix2 0 e) = ((gam l ^ 256 : ℝ) : EReal) := by
  pointwise [k0_pay12]
  rw [hv, c256, exp_mul_real l hl _ 256 (by norm_num)]

/-- The decay of the backward state over a chunk. -/
theorem pay13_apply (e : Fin 128) : k0_pay13 v (ix2 0 e) = ((gam l ^ 256 : ℝ) : EReal) := by
  pointwise [k0_pay13]
  rw [hv, c256, exp_mul_real l hl _ 256 (by norm_num)]

end

/-- The weights inside a chunk. -/
theorem pay4_apply (v w : Vec Ideal S1x1x256 .f32) (zf zb : EReal) (hv : ∀ l : Fin 256, v (ix3 0 0 l) = zf)
    (hw : ∀ l : Fin 256, w (ix3 0 0 l) = zb) (r j : Fin 256) :
    k0_pay4 v w (ix2 r j)
      = ((scl * (if j.val ≤ r.val then gam (logSig zf) ^ (r.val - j.val) else gam (logSig zb) ^ (j.val - r.val)) : ℝ) : EReal) := by
  pointwise [k0_pay4]
  rw [diff_real _ _ (by omega) (by omega), scl_coe, pay2_apply, pay3_apply, hv, hw, EReal.coe_mul]
  congr 1
  by_cases h : j.val ≤ r.val
  · have h' : (j.val : ℝ) ≤ (r.val : ℝ) := by exact_mod_cast h
    have h0 : (0 : EReal) ≤ (((r.val : ℝ) - (j.val : ℝ) : ℝ) : EReal) := by
      rw [← EReal.coe_zero, EReal.coe_le_coe_iff]; linarith
    rw [if_pos h0, if_pos h, max_eq_left h0, exp_mul_real _ (logSig_ne_top zf) _ (r.val - j.val) (by rw [Nat.cast_sub h])]
  · have h' : (r.val : ℝ) < (j.val : ℝ) := by exact_mod_cast not_le.mp h
    have h0 : ¬ (0 : EReal) ≤ (((r.val : ℝ) - (j.val : ℝ) : ℝ) : EReal) := by
      rw [← EReal.coe_zero, EReal.coe_le_coe_iff]; linarith
    have h1 : (0 : EReal) - (((r.val : ℝ) - (j.val : ℝ) : ℝ) : EReal) = (((j.val : ℝ) - (r.val : ℝ) : ℝ) : EReal) := by
      rw [← EReal.coe_zero, ← EReal.coe_sub]; congr 1; ring
    have h2 : (0 : EReal) ≤ (((j.val : ℝ) - (r.val : ℝ) : ℝ) : EReal) := by
      rw [← EReal.coe_zero, EReal.coe_le_coe_iff]; linarith
    rw [if_neg h0, if_neg h, h1, max_eq_left h2, exp_mul_real _ (logSig_ne_top zb) _ (j.val - r.val) (by rw [Nat.cast_sub (by omega)])]

/-! ## The states -/

/-- A block of 4096 rows holds the reals `q`. -/
def Holds (x : Vec Ideal S1x4096x128 .bf16) (q : ℕ → ℕ → ℝ) : Prop :=
  ∀ (m : Fin 4096) (e : Fin 128), x (ix3 0 m e) = (q m e : EReal)

/-- A chunk at an index. -/
theorem chunk_apply (x : Vec Ideal S1x4096x128 .bf16) (q : ℕ → ℕ → ℝ) (hx : Holds x q) (n : ℕ) (hn : n < 16) (r : Fin 256) (e : Fin 128) :
    chunk x n hn (ix3 0 r e) = (q (256 * n + r) e : EReal) := by
  rw [← hx ⟨256 * n + r.val, by omega⟩ e, ix3_eq_valueIdx, ix3_eq_valueIdx]
  rfl

/-- A row of the decays at an index. -/
theorem decRow_apply (x : Vec Ideal S1x8x256 .f32) (r : Fin 8) (l : Fin 256) : decRow x r (ix3 0 0 l) = x (ix3 0 r l) := by
  rw [ix3_eq_valueIdx, ix3_eq_valueIdx]
  rfl

/-- A key–value product, upper half. -/
theorem pay16_lo (a b : FVec Ideal S256x128 .bf16) (x y : Vec Ideal S1x256x128 .bf16) (wa : ℕ → ℝ) (k v : ℕ → ℕ → ℝ)
    (ha : ∀ (r : Fin 256) (e : Fin 128), a (ix2 r e) = (wa r : EReal)) (hx : ∀ (r : Fin 256) (e : Fin 128), x (ix3 0 r e) = (k r e : EReal))
    (hy : ∀ (r : Fin 256) (e : Fin 128), y (ix3 0 r e) = (v r e : EReal)) (r : Fin 256) (hr : r.val < 128) (d : Fin 128) :
    k0_pay16 a b x y (ix3 0 r d) = ((∑ j ∈ range 256, k j r * wa j * v j d : ℝ) : EReal) := by
  pointwise [k0_pay16]
  refine sum_fin_coe _ _ fun j => ?_
  rw [dif_pos hr, hx, ha, hy, ← EReal.coe_mul, ← EReal.coe_mul]

/-- A key–value product, lower half. -/
theorem pay16_hi (a b : FVec Ideal S256x128 .bf16) (x y : Vec Ideal S1x256x128 .bf16) (wb : ℕ → ℝ) (k v : ℕ → ℕ → ℝ)
    (hb : ∀ (r : Fin 256) (e : Fin 128), b (ix2 r e) = (wb r : EReal)) (hx : ∀ (r : Fin 256) (e : Fin 128), x (ix3 0 r e) = (k r e : EReal))
    (hy : ∀ (r : Fin 256) (e : Fin 128), y (ix3 0 r e) = (v r e : EReal)) (r : Fin 256) (hr : ¬ r.val < 128) (d : Fin 128) :
    k0_pay16 a b x y (ix3 0 r d) = ((∑ j ∈ range 256, k j (r - 128) * wb j * v j d : ℝ) : EReal) := by
  pointwise [k0_pay16]
  refine sum_fin_coe _ _ fun j => ?_
  rw [dif_neg hr, hx, hb, hy, ← EReal.coe_mul, ← EReal.coe_mul]

section
variable (r0 r1 : Vec Ideal S1x1x256 .f32) (zf zb : EReal) (h0 : ∀ l : Fin 256, r0 (ix3 0 0 l) = zf) (h1 : ∀ l : Fin 256, r1 (ix3 0 0 l) = zb)
    (x y : Vec Ideal S1x4096x128 .bf16) (k v : ℕ → ℕ → ℝ) (hx : Holds x k) (hy : Holds y v)
include h0 h1 hx hy

/-- The key–value product of chunk `n` for the forward state. -/
theorem kvLo_apply (n : ℕ) (hn : n < 16) (e d : Fin 128) :
    kvLo (kvFun r0 r1 x y) n (ix3 0 e d)
      = ((∑ j ∈ range 256, k (256 * n + j) e * (scl * gam (logSig zf) ^ (255 - j)) * v (256 * n + j) d : ℝ) : EReal) := by
  have hm : kvLo (kvFun r0 r1 x y) n (ix3 0 e d)
      = kvFun r0 r1 x y (ValueIdx.ix3 ⟨n, hn⟩ ⟨e.val, by omega⟩ d) := by
    show kvFun r0 r1 x y (ValueIdx.ix3 ⟨n % 16, _⟩ ⟨e.val, _⟩ d) = _
    congr 2
    exact Fin.ext (Nat.mod_eq_of_lt hn)
  rw [hm]
  refine (congrArg (k0_pay16 (k0_pay8 (k0_pay5 r0)) (k0_pay9 (k0_pay6 r1)) (chunk x n hn) (chunk y n hn))
    (ix3_eq_valueIdx 0 (⟨e.val, by omega⟩ : Fin 256) d).symm).trans ?_
  exact pay16_lo _ _ _ _ (fun j => scl * gam (logSig zf) ^ (255 - j)) (fun j => k (256 * n + j)) (fun j => v (256 * n + j))
    (pay8_apply _ (logSig_ne_top zf) _ (fun e => by rw [pay5_apply, h0])) (chunk_apply x k hx n hn) (chunk_apply y v hy n hn)
    ⟨e.val, by omega⟩ e.isLt d

/-- The key–value product of chunk `15 - n` for the backward state. -/
theorem kvHi_apply (n : ℕ) (e d : Fin 128) :
    kvHi (kvFun r0 r1 x y) n (ix3 0 e d)
      = ((∑ j ∈ range 256, k (256 * (15 - n) + j) e * (scl * gam (logSig zb) ^ j) * v (256 * (15 - n) + j) d : ℝ) : EReal) := by
  refine (congrArg (k0_pay16 (k0_pay8 (k0_pay5 r0)) (k0_pay9 (k0_pay6 r1)) (chunk x (15 - n) (by omega)) (chunk y (15 - n) (by omega)))
    (ix3_eq_valueIdx 0 (⟨128 + e.val, by omega⟩ : Fin 256) d).symm).trans ?_
  refine (pay16_hi _ _ _ _ (fun j => scl * gam (logSig zb) ^ j) (fun j => k (256 * (15 - n) + j)) (fun j => v (256 * (15 - n) + j))
    (pay9_apply _ (logSig_ne_top zb) _ (fun e => by rw [pay6_apply, h1])) (chunk_apply x k hx (15 - n) (by omega)) (chunk_apply y v hy (15 - n) (by omega))
    ⟨128 + e.val, by omega⟩ (by simp) d).trans ?_
  simp only [Nat.add_sub_cancel_left]

/-- The forward state before chunk `n`. -/
theorem stF_lo (n : ℕ) (hn : n ≤ 16) (e d : Fin 128) :
    stF (k0_pay12 (k0_pay5 r0)) (kvLo (kvFun r0 r1 x y)) n (ix2 e d) = (fwd k v scl (gam (logSig zf)) e d n : EReal) := by
  induction n with
  | zero =>
    show k0_pay36 (ix2 e d) = _
    pointwise [k0_pay36]
    rfl
  | succ n ih =>
    show k0_pay39 _ _ _ (ix2 e d) = _
    pointwise [k0_pay39]
    rw [ih (by omega), kvLo_apply r0 r1 zf zb h0 h1 x y k v hx hy n (by omega),
      pay12_apply _ (logSig_ne_top zf) _ (fun e => by rw [pay5_apply, h0]), fwd, EReal.coe_add, EReal.coe_mul]

/-- The backward state after `n` trips. -/
theorem stF_hi (n : ℕ) (e d : Fin 128) :
    stF (k0_pay13 (k0_pay6 r1)) (kvHi (kvFun r0 r1 x y)) n (ix2 e d) = (bwd k v scl (gam (logSig zb)) e d n : EReal) := by
  induction n with
  | zero =>
    show k0_pay36 (ix2 e d) = _
    pointwise [k0_pay36]
    rfl
  | succ n ih =>
    show k0_pay39 _ _ _ (ix2 e d) = _
    pointwise [k0_pay39]
    rw [ih, kvHi_apply r0 r1 zf zb h0 h1 x y k v hx hy n,
      pay13_apply _ (logSig_ne_top zb) _ (fun e => by rw [pay6_apply, h1]), bwd, EReal.coe_add, EReal.coe_mul]

/-- Slot `n` of the states: the forward state in its upper half, the backward state in its lower half. -/
theorem stSlot_apply (n : ℕ) (hn : n < 16) (r : Fin 256) (d : Fin 128) :
    stSlot r0 r1 x y n hn (ix3 0 r d)
      = ((if r.val < 128 then fwd k v scl (gam (logSig zf)) r d n else bwd k v scl (gam (logSig zb)) (r - 128) d (15 - n) : ℝ) : EReal) := by
  have hs : stSlot r0 r1 x y n hn (ix3 0 r d) = if h : r.val < 128 then
      k0_pay37 (stF (k0_pay12 (k0_pay5 r0)) (kvLo (kvFun r0 r1 x y)) n) (ix3 0 ⟨r.val, h⟩ d)
    else k0_pay38 (stF (k0_pay13 (k0_pay6 r1)) (kvHi (kvFun r0 r1 x y)) (15 - n)) (ix3 0 ⟨r.val - 128, by omega⟩ d) := by
    simp only [ix3_eq_valueIdx]; rfl
  rw [hs]
  by_cases h : r.val < 128
  · rw [dif_pos h, if_pos h, ← stF_lo r0 r1 zf zb h0 h1 x y k v hx hy n (by omega) ⟨r.val, h⟩ d]
    pointwise [k0_pay37]
  · rw [dif_neg h, if_neg h, ← stF_hi r0 r1 zf zb h0 h1 x y k v hx hy (15 - n) ⟨r.val - 128, by omega⟩ d]
    pointwise [k0_pay38]

end

/-! ## A chunk before its normalisation -/

/-- What the chunk computes before its normalisation is the real sum `chunked`. -/
theorem yCh_apply (x0 : Vec Ideal S1x8x256 .f32) (x1 x2 x3 : Vec Ideal S1x4096x128 .bf16) (zf zb : EReal)
    (h0 : ∀ l : Fin 256, x0 (ix3 0 0 l) = zf) (h1 : ∀ l : Fin 256, x0 (ix3 0 1 l) = zb)
    (q k v : ℕ → ℕ → ℝ) (hq : Holds x1 q) (hk : Holds x2 k) (hv : Holds x3 v) (n : ℕ) (hn : n < 16) (r : Fin 256) (d : Fin 128) :
    yCh (k0_pay4 (decRow x0 0) (decRow x0 1)) (k0_pay10 (k0_pay5 (decRow x0 0))) (k0_pay11 (k0_pay6 (decRow x0 1)))
        (chunk x1 n hn) (chunk x2 n hn) (chunk x3 n hn) (stSlot (decRow x0 0) (decRow x0 1) x2 x3 n hn) (ix2 r d)
      = (chunked q k v scl (gam (logSig zf)) (gam (logSig zb)) n r d : EReal) := by
  have g0 : ∀ l : Fin 256, decRow x0 0 (ix3 0 0 l) = zf := fun l => by rw [decRow_apply, h0]
  have g1 : ∀ l : Fin 256, decRow x0 1 (ix3 0 0 l) = zb := fun l => by rw [decRow_apply, h1]
  pointwise [yCh]
  rw [chunked, EReal.coe_add]
  refine congrArg₂ (· + ·) (sum_fin_coe _ _ fun j => ?_) ?_
  · rw [sum_fin_coe _ (fun e => q (256 * n + r) e * k (256 * n + j) e) fun e => by
      rw [chunk_apply x1 q hq n hn, chunk_apply x2 k hk n hn, ← EReal.coe_mul]]
    rw [pay4_apply _ _ zf zb g0 g1, chunk_apply x3 v hv n hn, ← EReal.coe_mul, ← EReal.coe_mul]
  · rw [EReal.coe_add]
    refine congrArg₂ (· + ·) (sum_fin_coe _ _ fun e => ?_) (sum_fin_coe _ _ fun e => ?_)
    · rw [stSlot_apply _ _ zf zb g0 g1 x2 x3 k v hk hv n hn, if_pos e.isLt, chunk_apply x1 q hq n hn,
        pay10_apply _ (logSig_ne_top zf) _ (fun e => by rw [pay5_apply, g0]), ← EReal.coe_mul, ← EReal.coe_mul]
    · rw [stSlot_apply _ _ zf zb g0 g1 x2 x3 k v hk hv n hn, if_neg (by simp), chunk_apply x1 q hq n hn,
        pay11_apply _ (logSig_ne_top zb) _ (fun e => by rw [pay6_apply, g1]), ← EReal.coe_mul, ← EReal.coe_mul,
        Nat.add_sub_cancel_left]

/-- The normalisation at an index. -/
theorem normGate_apply (gw gb : FVec Ideal S1x128 .f32) (y : FVec Ideal S256x128 .f32) (g : Vec Ideal S1x256x128 .bf16) (r : Fin 256) (d : Fin 128) :
    normGate gw gb y g (ix3 0 r d) = gnRow (fun e => y (ix2 r e)) (g (ix3 0 r d)) (gw (ix2 0 d)) (gb (ix2 0 d)) d := by
  pointwise [normGate, centre, rowMean, gnRow, mean]

/-- The output block at an index, where the blocks of queries, keys and values hold reals and the decays do not depend on
    the lane. -/
theorem outFun_apply (x0 : Vec Ideal S1x8x256 .f32) (x1 x2 x3 x4 : Vec Ideal S1x4096x128 .bf16) (x5 x6 : Vec Ideal S1x128 .f32) (zf zb : EReal)
    (h0 : ∀ l : Fin 256, x0 (ix3 0 0 l) = zf) (h1 : ∀ l : Fin 256, x0 (ix3 0 1 l) = zb)
    (q k v : ℕ → ℕ → ℝ) (hq : Holds x1 q) (hk : Holds x2 k) (hv : Holds x3 v) (n : Fin 4096) (d : Fin 128) :
    outFun x0 x1 x2 x3 x4 x5 x6 (ix3 0 n d)
      = gnRow (fun e => (plain q k v scl (gam (logSig zf)) (gam (logSig zb)) n e : EReal)) (x4 (ix3 0 n d)) (x5 (ix2 0 d)) (x6 (ix2 0 d)) d := by
  have hc : n.val / 256 < 16 := by omega
  have hn : 256 * (n.val / 256) + n.val % 256 = n.val := by omega
  have e : outFun x0 x1 x2 x3 x4 x5 x6 (ix3 0 n d)
      = outChunk x0 x1 x2 x3 x4 x5 x6 (n.val / 256) hc (ix3 0 ⟨n.val % 256, Nat.mod_lt _ (by norm_num)⟩ d) := by
    simp only [ix3_eq_valueIdx]; rfl
  have g : chunk x4 (n.val / 256) hc (ix3 0 ⟨n.val % 256, Nat.mod_lt _ (by norm_num)⟩ d) = x4 (ix3 0 n d) := by
    have hn' : (⟨256 * (n.val / 256) + n.val % 256, by omega⟩ : Fin 4096) = n := Fin.ext hn
    show x4 (ValueIdx.ix3 0 ⟨256 * (n.val / 256) + n.val % 256, _⟩ d) = x4 (ix3 0 n d)
    rw [← ix3_eq_valueIdx]
    exact congrArg (fun t => x4 (ix3 0 t d)) hn'
  rw [e, outChunk, outCh, normGate_apply, g]
  simp only [yCh_apply x0 x1 x2 x3 zf zb h0 h1 q k v hq hk hv, chunked_eq_plain _ _ _ _ _ _ _ _ _ hc (Nat.mod_lt n.val (by norm_num : 256 > 0)), hn]
  refine congrArg₂ (fun a b => gnRow _ _ a b d) ?_ ?_
  · pointwise [k0_pay41]
  · pointwise [k0_pay42]

end Cert.KernelIdeal.Ret

end
-- ==== Proof.Ret.RefValue.lean ====
/-
  The retention reference at the ideal values, index by index: before its normalisation it is the real sum `plain` of
  `Sums.lean`; its normalisation, scale, offset and gate are `gnRow`.
-/
module

public import proofs.«01_k».proof.Proof.Gen.ReferenceIdeal.Read
public import proofs.«01_k».proof.Proof.Ret.Sums
public import proofs.«01_k».proof.Proof.Ret.Norm

@[expose] public section

set_option maxRecDepth 16384

noncomputable section

namespace Cert.ReferenceIdeal.Ret

open Idealize.ShloMosaic Idealize.ShloMosaic.TcCoe
open Cert.ReferenceIdeal.Read
open _root_.Ret Finset
open Cert.ReferenceIdeal

variable (x0 : Vec Ideal S32x16384x128 .bf16) (z zf zb : Vec Ideal S8 .f32) (w gw gb : Vec Ideal S1024 .f32)

/-- The queries of a head and batch row. -/
theorem v3_apply (b : Fin 4) (h : Fin 8) (n : Fin 4096) (e : Fin 128) :
    val_main_v3 (F := Ideal) x0 (ix4 b h n e) = x0 (ix3 ⟨h.val, by omega⟩ ⟨b.val * 4096 + n.val, by omega⟩ e) := by
  pointwise [val_main_v3, val_main_v2, val_main_v1, val_main_v0]

/-- The keys, scaled. -/
theorem v9_apply (b : Fin 4) (h : Fin 8) (n : Fin 4096) (e : Fin 128) :
    val_main_v9 (F := Ideal) x0 (ix4 b h n e) = x0 (ix3 ⟨8 + h.val, by omega⟩ ⟨b.val * 4096 + n.val, by omega⟩ e) * (scl : EReal) := by
  rw [← scl_coe]
  pointwise [val_main_v9, val_main_v8, val_main_cst, val_main_v7, val_main_v6, val_main_v5, val_main_v4]

/-- The values. -/
theorem v13_apply (b : Fin 4) (h : Fin 8) (n : Fin 4096) (e : Fin 128) :
    val_main_v13 (F := Ideal) x0 (ix4 b h n e) = x0 (ix3 ⟨16 + h.val, by omega⟩ ⟨b.val * 4096 + n.val, by omega⟩ e) := by
  pointwise [val_main_v13, val_main_v12, val_main_v11, val_main_v10]

/-- The gates. -/
theorem v17_apply (b : Fin 4) (h : Fin 8) (n : Fin 4096) (e : Fin 128) :
    val_main_v17 (F := Ideal) x0 (ix4 b h n e) = x0 (ix3 ⟨24 + h.val, by omega⟩ ⟨b.val * 4096 + n.val, by omega⟩ e) := by
  pointwise [val_main_v17, val_main_v16, val_main_v15, val_main_v14]

/-- The forward log-decay. -/
theorem v24_apply (h : Fin 8) : val_main_v24 (F := Ideal) z (ix1 h) = logSig (z (ix1 h)) := by
  pointwise [val_main_v24, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [if_neg (by simp), ← logSig_eq (z (ix1 h)), sub_zero]
  rfl

/-- The backward log-decay. -/
theorem v41_apply (h : Fin 8) : val_main_v41 (F := Ideal) z (ix1 h) = logSig (z (ix1 h)) := by
  pointwise [val_main_v41, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [if_neg (by simp), ← logSig_eq (z (ix1 h)), sub_zero]
  rfl

/-- The distance between two positions. -/
theorem v23_apply (n m : Fin 4096) : val_main_v23 (F := Ideal) (ix2 n m) = (((n.val : ℝ) - (m.val : ℝ) : ℝ) : EReal) := by
  pointwise [val_main_v23, val_main_v22, val_main_v21, val_main_v20, val_main_v19, val_main_v18]
  rw [row_real _ (by omega), row_real _ (by omega), EReal.coe_sub]

/-- The forward weights. -/
theorem v35_apply (h : Fin 8) (n m : Fin 4096) : val_main_v35 (F := Ideal) z (ix3 h n m)
    = ((if m.val ≤ n.val then gam (logSig (z (ix1 h))) ^ (n.val - m.val) else 0 : ℝ) : EReal) := by
  pointwise [val_main_v35, val_main_call2_v2, val_main_call2_v1, val_main_call2_v0, val_main_cst_2, val_main_v34, val_main_v33, val_main_v32, val_main_v31, val_main_v30, val_main_v29, val_main_call1_v1, val_main_call1_v0, val_main_cst_1, val_main_v28, val_main_v27, val_main_v26, val_main_v25, val_main_cst_0]
  rw [v23_apply, v24_apply]
  by_cases h : m.val ≤ n.val
  · have h' : (m.val : ℝ) ≤ (n.val : ℝ) := by exact_mod_cast h
    have h0 : (0 : EReal) ≤ (((n.val : ℝ) - (m.val : ℝ) : ℝ) : EReal) := by
      rw [← EReal.coe_zero, EReal.coe_le_coe_iff]; linarith
    rw [if_pos h0, if_pos h0, if_pos h, exp_mul_real _ (logSig_ne_top _) _ (n.val - m.val) (by rw [Nat.cast_sub h])]
  · have h' : (n.val : ℝ) < (m.val : ℝ) := by exact_mod_cast not_le.mp h
    have h0 : ¬ (0 : EReal) ≤ (((n.val : ℝ) - (m.val : ℝ) : ℝ) : EReal) := by
      rw [← EReal.coe_zero, EReal.coe_le_coe_iff]; linarith
    rw [if_neg h0, if_neg h]
    exact Ideal.ofBits_zero_f32

/-- The backward weights. -/
theorem v53_apply (h : Fin 8) (n m : Fin 4096) : val_main_v53 (F := Ideal) z (ix3 h n m)
    = ((if n.val < m.val then gam (logSig (z (ix1 h))) ^ (m.val - n.val) else 0 : ℝ) : EReal) := by
  pointwise [val_main_v53, val_main_call5_v2, val_main_call5_v1, val_main_call5_v0, val_main_cst_5, val_main_v52, val_main_v51, val_main_v50, val_main_v49, val_main_v48, val_main_v47, val_main_call4_v1, val_main_call4_v0, val_main_cst_4, val_main_v46, val_main_v45, val_main_v44, val_main_v43, val_main_v42, val_main_cst_3]
  rw [v23_apply, v41_apply]
  by_cases h : n.val < m.val
  · have h' : (n.val : ℝ) < (m.val : ℝ) := by exact_mod_cast h
    have h0 : (((n.val : ℝ) - (m.val : ℝ) : ℝ) : EReal) < 0 := by
      rw [← EReal.coe_zero, EReal.coe_lt_coe_iff]; linarith
    rw [if_pos h0, if_pos h0, if_pos h, ← EReal.coe_neg,
      exp_mul_real _ (logSig_ne_top _) _ (m.val - n.val) (by rw [Nat.cast_sub h.le]; ring)]
  · have h' : (m.val : ℝ) ≤ (n.val : ℝ) := by exact_mod_cast not_lt.mp h
    have h0 : ¬ (((n.val : ℝ) - (m.val : ℝ) : ℝ) : EReal) < 0 := by
      rw [← EReal.coe_zero, EReal.coe_lt_coe_iff]; linarith
    rw [if_neg h0, if_neg h]
    exact Ideal.ofBits_zero_f32

section
variable (b : Fin 4) (h : Fin 8) (q k v : ℕ → ℕ → ℝ)
  (hq : ∀ (n : Fin 4096) (e : Fin 128), x0 (ix3 ⟨h.val, by omega⟩ ⟨b.val * 4096 + n.val, by omega⟩ e) = (q n e : EReal))
  (hk : ∀ (n : Fin 4096) (e : Fin 128), x0 (ix3 ⟨8 + h.val, by omega⟩ ⟨b.val * 4096 + n.val, by omega⟩ e) = (k n e : EReal))
  (hv : ∀ (n : Fin 4096) (e : Fin 128), x0 (ix3 ⟨16 + h.val, by omega⟩ ⟨b.val * 4096 + n.val, by omega⟩ e) = (v n e : EReal))
include hq hk

/-- The scores of the forward pass. -/
theorem v36_apply (n m : Fin 4096) : val_main_v36 (F := Ideal) x0 (ix4 b h n m) = (score q k scl n m : EReal) := by
  pointwise [val_main_v36]
  refine sum_fin_coe _ (fun e => q n e * (k m e * scl)) fun e => ?_
  rw [v3_apply, v9_apply, hq, hk, ← EReal.coe_mul, ← EReal.coe_mul]

/-- The scores of the backward pass. -/
theorem v54_apply (n m : Fin 4096) : val_main_v54 (F := Ideal) x0 (ix4 b h n m) = (score q k scl n m : EReal) := by
  pointwise [val_main_v54]
  refine sum_fin_coe _ (fun e => q n e * (k m e * scl)) fun e => ?_
  rw [v3_apply, v9_apply, hq, hk, ← EReal.coe_mul, ← EReal.coe_mul]

include hv

/-- Before its normalisation the reference is the plain real sum. -/
theorem v59_apply (n : Fin 4096) (d : Fin 128) : val_main_v59 (F := Ideal) x0 zf zb (ix4 b h n d)
    = (plain q k v scl (gam (logSig (zf (ix1 h)))) (gam (logSig (zb (ix1 h)))) n d : EReal) := by
  pointwise [val_main_v59, val_main_v40, val_main_v58, val_main_v39, val_main_v57, val_main_v38, val_main_v37, val_main_v56, val_main_v55]
  rw [plain, EReal.coe_add]
  refine congrArg₂ (· + ·) (sum_fin_coe _ _ fun m => ?_) (sum_fin_coe _ _ fun m => ?_)
  · rw [v36_apply x0 b h q k hq hk, v35_apply, v13_apply, hv, ← EReal.coe_mul, ← EReal.coe_mul]
  · rw [v54_apply x0 b h q k hq hk, v53_apply, v13_apply, hv, ← EReal.coe_mul, ← EReal.coe_mul]

end

/-- The reference at an index: the normalisation, scale, offset and gate of the row. -/
theorem v87_apply (h : Fin 8) (b : Fin 4) (n : Fin 4096) (d : Fin 128) :
    val_main_v87 (F := Ideal) x0 zf zb gw gb (ix3 h ⟨b.val * 4096 + n.val, by omega⟩ d)
      = gnRow (fun e => val_main_v59 (F := Ideal) x0 zf zb (ix4 b h n e)) (x0 (ix3 ⟨24 + h.val, by omega⟩ ⟨b.val * 4096 + n.val, by omega⟩ d))
          (gw (ix1 ⟨h.val * 128 + d.val, by omega⟩)) (gb (ix1 ⟨h.val * 128 + d.val, by omega⟩)) d := by
  rw [← v17_apply x0 b h n d]
  pointwise [val_main_v87, val_main_v86, val_main_v85, val_main_v84, val_main_v83, val_main_v82, val_main_v81, val_main_v80, val_main_v79, val_main_v78, val_main_v77, val_main_v76, val_main_v75, val_main_v74, val_main_v73, val_main_cst_10, val_main_v72, val_main_v71, val_main_v70, val_main_v69, val_main_cst_9, val_main_v68, val_main_v67, val_main_cst_8, val_main_v66, val_main_v65, val_main_v64, val_main_v63, val_main_v62, val_main_cst_7, val_main_v61, val_main_v60, val_main_cst_6, gnRow, mean]

end Cert.ReferenceIdeal.Ret

end
-- ==== Proof.Ret.Array.lean ====
/-
  The retention kernel's result array is the reference's, from any memory whose queries, keys and values are finite.
-/
module

public import proofs.«01_k».proof.Proof.Ret.Dec
public import proofs.«01_k».proof.Proof.Ret.KernelValue
public import proofs.«01_k».proof.Proof.Ret.RefValue
public import proofs.«01_k».proof.Defs
public import Idealize.ShloMosaic.Lib.Pipeline.ValueKit

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI Idealize.SL.Sem
open Idealize.ShloMosaic.Pipeline
open Cert.KernelIdeal.Gen
open _root_.Ret

variable (m : (ℓ : Loc nD τ sig) → Buf (Elt Ideal) ℓ)

/-- The batch and the head of a grid point. -/
def bOf (t : Fin cfg0.N) : Fin 4 := grid0.coords t 0
def hOf (t : Fin cfg0.N) : Fin 8 := grid0.coords t 1

theorem idx0 : ∀ t : Fin cfg0.N, win0_0.index t = ![(hOf t).val, 0, 0] := (by decide +kernel : ∀ t : Fin grid0.N, _)
theorem idx1 : ∀ t : Fin cfg0.N, win0_1.index t = ![(hOf t).val, (bOf t).val, 0] := (by decide +kernel : ∀ t : Fin grid0.N, _)
theorem idx2 : ∀ t : Fin cfg0.N, win0_2.index t = ![8 + (hOf t).val, (bOf t).val, 0] := (by decide +kernel : ∀ t : Fin grid0.N, _)
theorem idx3 : ∀ t : Fin cfg0.N, win0_3.index t = ![16 + (hOf t).val, (bOf t).val, 0] := (by decide +kernel : ∀ t : Fin grid0.N, _)
theorem idx4 : ∀ t : Fin cfg0.N, win0_4.index t = ![24 + (hOf t).val, (bOf t).val, 0] := (by decide +kernel : ∀ t : Fin grid0.N, _)
theorem idx5 : ∀ t : Fin cfg0.N, win0_5.index t = ![0, (hOf t).val] := (by decide +kernel : ∀ t : Fin grid0.N, _)
theorem idx6 : ∀ t : Fin cfg0.N, win0_6.index t = ![0, (hOf t).val] := (by decide +kernel : ∀ t : Fin grid0.N, _)
theorem idx7 : ∀ t : Fin cfg0.N, win0_7.index t = ![(hOf t).val, (bOf t).val, 0] := (by decide +kernel : ∀ t : Fin grid0.N, _)

/-- Row `n` of batch `b` among the 16384 rows. -/
def rowOf (b : Fin 4) (n : Fin 4096) : Fin 16384 := ⟨b.val * 4096 + n.val, by have := b.isLt; have := n.isLt; omega⟩

/-! The input blocks at a point of the grid, in the coordinates of the arrays. -/

theorem blk0 (c : Dev nD) (t : Fin cfg0.N) (r : Fin 8) (l : Fin 256) :
    iblk m c 0 t (ix3 0 r l) = V m c main_v8 (ix3 (hOf t) r l) := by
  blk_simp [iblk]
  refine congrArg _ ?_
  blk_ext [idx0]

theorem blk1 (c : Dev nD) (t : Fin cfg0.N) (n : Fin 4096) (e : Fin 128) :
    iblk m c 1 t (ix3 0 n e) = m ((c : Thread nD τ).loc main_arg0) (ix3 ⟨(hOf t).val, by have := (hOf t).isLt; omega⟩ (rowOf (bOf t) n) e) := by
  blk_simp [iblk]
  rw [V_main_arg0]
  refine congrArg _ ?_
  unfold rowOf
  blk_ext [idx1]

theorem blk2 (c : Dev nD) (t : Fin cfg0.N) (n : Fin 4096) (e : Fin 128) :
    iblk m c 2 t (ix3 0 n e) = m ((c : Thread nD τ).loc main_arg0) (ix3 ⟨8 + (hOf t).val, by have := (hOf t).isLt; omega⟩ (rowOf (bOf t) n) e) := by
  blk_simp [iblk]
  rw [V_main_arg0]
  refine congrArg _ ?_
  unfold rowOf
  blk_ext [idx2]

theorem blk3 (c : Dev nD) (t : Fin cfg0.N) (n : Fin 4096) (e : Fin 128) :
    iblk m c 3 t (ix3 0 n e) = m ((c : Thread nD τ).loc main_arg0) (ix3 ⟨16 + (hOf t).val, by have := (hOf t).isLt; omega⟩ (rowOf (bOf t) n) e) := by
  blk_simp [iblk]
  rw [V_main_arg0]
  refine congrArg _ ?_
  unfold rowOf
  blk_ext [idx3]

theorem blk4 (c : Dev nD) (t : Fin cfg0.N) (n : Fin 4096) (e : Fin 128) :
    iblk m c 4 t (ix3 0 n e) = m ((c : Thread nD τ).loc main_arg0) (ix3 ⟨24 + (hOf t).val, by have := (hOf t).isLt; omega⟩ (rowOf (bOf t) n) e) := by
  blk_simp [iblk]
  rw [V_main_arg0]
  refine congrArg _ ?_
  unfold rowOf
  blk_ext [idx4]

theorem blk5 (c : Dev nD) (t : Fin cfg0.N) (d : Fin 128) :
    iblk m c 5 t (ix2 0 d) = V m c main_v9 (ix2 0 ⟨(hOf t).val * 128 + d.val, by have := (hOf t).isLt; omega⟩) := by
  blk_simp [iblk]
  refine congrArg _ ?_
  blk_ext [idx5]

theorem blk6 (c : Dev nD) (t : Fin cfg0.N) (d : Fin 128) :
    iblk m c 6 t (ix2 0 d) = V m c main_v10 (ix2 0 ⟨(hOf t).val * 128 + d.val, by have := (hOf t).isLt; omega⟩) := by
  blk_simp [iblk]
  refine congrArg _ ?_
  blk_ext [idx6]

/-- Part `i` of the stacked array, batch `b`, as reals. -/
def realAt (x : Vec Ideal S32x16384x128 .bf16) (i : Fin 32) (b : Fin 4) (n e : ℕ) : ℝ :=
  if h : n < 4096 ∧ e < 128 then (x (ix3 i (rowOf b ⟨n, h.1⟩) ⟨e, h.2⟩)).toReal else 0

/-- The queries, keys and values of the stacked array are real numbers. -/
def Finite (x : Vec Ideal S32x16384x128 .bf16) : Prop :=
  ∀ (i : Fin 32) (n : Fin 16384) (e : Fin 128), i.val < 24 → x (ix3 i n e) ≠ ⊤ ∧ x (ix3 i n e) ≠ ⊥

theorem realAt_coe {x : Vec Ideal S32x16384x128 .bf16} (hx : Finite x) (i : Fin 32) (hi : i.val < 24) (b : Fin 4) (n : Fin 4096) (e : Fin 128) :
    x (ix3 i (rowOf b n) e) = (realAt x i b n e : EReal) := by
  unfold realAt
  rw [dif_pos ⟨n.isLt, e.isLt⟩]
  exact (EReal.coe_toReal (hx i _ e hi).1 (hx i _ e hi).2).symm

/-- The result array holds the reference's value of the arguments. -/
theorem final (c : Dev nD) (hx : Finite (m ((c : Thread nD τ).loc main_arg0))) :
    (dats m 0 c).arrAt 7 cfg0.N
      = Cert.ReferenceIdeal.Read.val_main_v87 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after_7]
  obtain ⟨y0, n, d, rfl⟩ : ∃ (y0 : Fin 1) (n : Fin 4096) (d : Fin 128), y = ix3 y0 n d := ⟨y 0, y 1, y 2, eq_ix3 y⟩
  obtain rfl : y0 = 0 := Subsingleton.elim _ _
  have hb := (bOf t).isLt
  have hh := (hOf t).isLt
  have hemb : (win0_7.blk t).view.emb (ix3 0 n d) = ix3 (hOf t) (rowOf (bOf t) n) d := by
    unfold rowOf
    blk_ext [idx7]
  rw [hemb]
  refine (outFun_apply _ _ _ _ _ _ _ (m ((c : Thread nD τ).loc main_arg1) (ix1 (hOf t))) (m ((c : Thread nD τ).loc main_arg2) (ix1 (hOf t)))
    (fun l => (blk0 m c t 0 l).trans (dec_row0 m c _ l)) (fun l => (blk0 m c t 1 l).trans (dec_row1 m c _ l))
    (realAt (m ((c : Thread nD τ).loc main_arg0)) ⟨(hOf t).val, by omega⟩ (bOf t))
    (realAt (m ((c : Thread nD τ).loc main_arg0)) ⟨8 + (hOf t).val, by omega⟩ (bOf t))
    (realAt (m ((c : Thread nD τ).loc main_arg0)) ⟨16 + (hOf t).val, by omega⟩ (bOf t))
    (fun n e => (blk1 m c t n e).trans (realAt_coe hx _ (by show (hOf t).val < 24; omega) _ n e))
    (fun n e => (blk2 m c t n e).trans (realAt_coe hx _ (by show 8 + (hOf t).val < 24; omega) _ n e))
    (fun n e => (blk3 m c t n e).trans (realAt_coe hx _ (by show 16 + (hOf t).val < 24; omega) _ n e)) n d).trans ?_
  refine Eq.trans ?_ (Cert.ReferenceIdeal.Ret.v87_apply _ _ _ _ _ (hOf t) (bOf t) n d).symm
  rw [blk4, blk5, blk6, gnw_row, gnb_row]
  refine congrArg (fun y => gnRow y _ _ _ d) (funext fun e => ?_)
  exact (Cert.ReferenceIdeal.Ret.v59_apply _ _ _ (bOf t) (hOf t) _ _ _
    (fun n e => realAt_coe hx ⟨(hOf t).val, by omega⟩ (by show (hOf t).val < 24; omega) _ n e)
    (fun n e => realAt_coe hx ⟨8 + (hOf t).val, by omega⟩ (by show 8 + (hOf t).val < 24; omega) _ n e)
    (fun n e => realAt_coe hx ⟨16 + (hOf t).val, by omega⟩ (by show 16 + (hOf t).val < 24; omega) _ n e) n e).symm

/-- The facts the precondition's text cites. -/
theorem preFacts : Cert.Pre_operands_finite.Facts where
  slices_S32x16384x128_S24x16384x128_0_0_0 := by decide
  bitsLt_bf16_f32 := by decide
  bcast_S_S24x16384x128 := by decide

/-- What the precondition says: below part 24 every element is a real number. -/
theorem finite_of_pre [Cert.Pre_operands_finite.Facts] (x0 : Vec Ideal S32x16384x128 .bf16) (x1 x2 : Vec Ideal S8 .f32) (x3 x4 : Vec Ideal S1024 .f32)
    (h : Cert.Pre_operands_finite.fn (F := Ideal) x0 x1 x2 x3 x4 = fun _ => 1#1) : Finite x0 := by
  intro i n e hi
  have := congrFun h (ix3 (⟨i.val, hi⟩ : Fin 24) n e)
  unfold Cert.Pre_operands_finite.fn at this
  have h2 : FloatOps.cmpf (F := Ideal) .olt (FloatOps.absf (x0 (ix3 i n e))) (Ideal.ofBits .f32 0x7F800000#32) = 1#1 := by
    rw [← this]
    pointwise
  have htop : Ideal.ofBits .f32 0x7F800000#32 = ⊤ := by simp [Ideal.ofBits, Ideal.ieee]
  rw [htop] at h2
  generalize x0 (ix3 i n e) = y at h2
  change Ideal.cmp .olt (max (y : EReal) (-(y : EReal))) ⊤ = 1#1 at h2
  have h3 : max (y : EReal) (-(y : EReal)) < ⊤ := by
    by_contra hn
    simp [Ideal.cmp, hn] at h2
  have h4 := max_lt_iff.1 h3
  refine ⟨h4.1.ne, fun hy => ?_⟩
  have := h4.2
  rw [hy] at this
  simp at this

end Cert.KernelIdeal.Ret

end
-- ==== Proof.Ret.Claims.lean ====
/-
  The claims about the retention call.
-/
module

public import proofs.«01_k».proof.Proof.Ret.Array
public import proofs.«01_k».proof.Proof.Gen.Kernel
public import proofs.«01_k».proof.Proof.Gen.ReferenceIdeal.Run

@[expose] public section

set_option maxRecDepth 16384

noncomputable section

namespace Cert.Proof.Ret

open Idealize.ShloMosaic Idealize.ShloMosaic.TcCoe Idealize.SL.Sem

section
variable {F : FTy → Type} [FloatOps F]
open Cert.KernelIdeal Cert.KernelIdeal.Gen Cert.KernelIdeal.Ret

/-- The run, read at the argument arrays and the counters, over any scalars. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  θ_run_mono (θ_run_and (frame_of m ρ (dats m) (A_eq m) (run_main m ρ)) (run_quiescent m ρ)) fun _ h => ⟨h.1, h.2.2⟩

end

/-- The two programs' texts agree: the kernel's body, -/
theorem body_eq : @Cert.Kernel.cc0_retention Bits _ _ = @Cert.KernelIdeal.cc0_retention Bits _ _ := rfl

/-- the table of bodies (one label), -/
theorem defs₀_eq : Cert.Kernel.defs₀ (F := Bits) = Cert.KernelIdeal.defs₀ (F := Bits) := by
  unfold Cert.Kernel.defs₀ Cert.KernelIdeal.defs₀
  refine congrArg Defs.onTc (funext fun l => ?_)
  obtain rfl : l = 0 := Subsingleton.elim (α := Fin 1) _ _
  funext ⟨t, s⟩
  rfl

/-- and the table with the pipeline's own entries. -/
theorem defs_eq : Cert.Kernel.defs (F := Bits) = Cert.KernelIdeal.defs (F := Bits) :=
  congrArg (Pipeline.defs _) defs₀_eq

/-- The kernel as it is runs, leaves its arguments and its counters at zero: the same run at the machine's floats. -/
theorem frame_kernel : Cert.quiescent_Kernel := fun m ρ _ => by
  rw [defs_eq]
  exact (θ_run Cert.KernelIdeal.defs _ _).mono (fun _ h => h) (run_args (F := Bits) m ρ)

/-- The idealized kernel likewise, -/
theorem frame_kernelIdeal : Cert.quiescent_KernelIdeal := fun m ρ _ => run_args m ρ

/-- and where the operands are finite. -/
theorem frame_kernelIdeal_pre [Cert.Pre_operands_finite.Facts] : Cert.quiescent_KernelIdeal_pre_operands_finite := fun m ρ _ => run_args m ρ

/-- The idealized reference runs, leaves its arguments, and has no counters, -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- and where the operands are finite. -/
theorem frame_reference_pre [Cert.Pre_operands_finite.Facts] : Cert.quiescent_ReferenceIdeal_pre_operands_finite :=
  fun m ρ _ => frame_reference m ρ trivial

/-- Where the queries, keys and values are finite, both programs end with the same result array. -/
theorem algebraic [Cert.Pre_operands_finite.Facts] : Cert.algebraic_KernelIdeal_ReferenceIdeal_pre_operands_finite := by
  intro m g m' g' hpre hagree
  refine ⟨fun c => Cert.ReferenceIdeal.Value.res_main_v87 m' c, ?_, Cert.ReferenceIdeal.Value.run m' g'⟩
  refine θ_run_mono (θ_run_and (run_args m g) (Cert.KernelIdeal.Ret.run_main m g)) fun r h c => ⟨?_, h.1.1 c⟩
  refine ((h.2 c).1 7).trans ?_
  refine (Cert.KernelIdeal.Ret.final m c (Cert.KernelIdeal.Ret.finite_of_pre _ _ _ _ _ (hpre c))).trans ?_
  obtain ⟨h0, h1, h2, h3, h4⟩ := hagree c
  refine Eq.trans ?_ (Cert.ReferenceIdeal.Read.val_main_v87_eq m' c).symm
  rw [h0, h1, h2, h3, h4]

end Cert.Proof.Ret

end
-- ==== Proof.Out.Body.lean ====
/-  What one grid point of the output projection computes, as plain functions of its blocks. -/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.Out

open Idealize.ShloMosaic Idealize.ShloMosaic.TcCoe Idealize.ShloMosaic.Tactic
open Idealize.ShloMosaic.Pipeline
open Cert.Kernel2Ideal.Gen

/-- The gated row `r` of a block at column `k`: the eight retention heads side by side, then the attention. -/
def yAt (x1 : Vec Ideal S8x512x128 .bf16) (x2 : Vec Ideal S512x1024 .bf16) (r : Fin 512) (k : Fin 2048) : EReal :=
  if h : k.val < 1024 then x1 (ix3 ⟨k.val / 128, by omega⟩ r ⟨k.val % 128, by omega⟩) else x2 (ix2 r ⟨k.val - 1024, by omega⟩)

/-- The residual plus the projected row. -/
def zAt (x0 : Vec Ideal S512x2048 .f32) (x1 : Vec Ideal S8x512x128 .bf16) (x2 : Vec Ideal S512x1024 .bf16) (wb : Vec Ideal S2048x2048 .bf16)
    (r : Fin 512) (c : Fin 2048) : EReal :=
  x0 (ix2 r c) + ∑ k, yAt x1 x2 r k * wb (ix2 k c)

/-- The block the point leaves: the row over its root mean square, times the norm's weight. -/
def outOf (x0 : Vec Ideal S512x2048 .f32) (x1 : Vec Ideal S8x512x128 .bf16) (x2 : Vec Ideal S512x1024 .bf16) (x3 : Vec Ideal S1x2048 .f32)
    (wb : Vec Ideal S2048x2048 .bf16) : Vec Ideal S512x2048 .f32 := fun i =>
  zAt x0 x1 x2 wb (i 0) (i 1)
    * Ideal.rsqrt ((∑ c, zAt x0 x1 x2 wb (i 0) c * zAt x0 x1 x2 wb (i 0) c) * Ideal.ofBits .f32 0x3A000000#32 + Ideal.ofBits .f32 0x358637BD#32)
    * x3 (ix2 0 (i 1))

/-- The closed form at an index whose coordinates are known. -/
theorem outOf_at (x0 : Vec Ideal S512x2048 .f32) (x1 : Vec Ideal S8x512x128 .bf16) (x2 : Vec Ideal S512x1024 .bf16) (x3 : Vec Ideal S1x2048 .f32)
    (wb : Vec Ideal S2048x2048 .bf16) (i : S512x2048.Idx) (r : Fin 512) (c : Fin 2048) (h0 : (i 0).val = r.val) (h1 : (i 1).val = c.val) :
    zAt x0 x1 x2 wb r c
    * Ideal.rsqrt ((∑ c, zAt x0 x1 x2 wb r c * zAt x0 x1 x2 wb r c) * Ideal.ofBits .f32 0x3A000000#32 + Ideal.ofBits .f32 0x358637BD#32)
    * x3 (ix2 0 c) = outOf x0 x1 x2 x3 wb i := by
  obtain rfl : i 0 = r := Fin.ext h0
  obtain rfl : i 1 = c := Fin.ext h1
  rfl

/-- A rectangle's index at a place, along one axis of unit stride. -/
theorem emb_val {s : Shape} (off size : Fin s.rank → ℕ) (inb : ∀ a, off a + size a ≤ s.size a) (x : (Rect.unit off size inb).shape.Idx) (a : Fin s.rank) :
    ((Rect.unit off size inb).emb x a).val = off a + (x a).val := by
  exact Rect.idx_unit_val ..

/-- A sum over 2048 columns, taken as sixteen groups of 128 lanes. -/
theorem lanes16 (f : Fin 2048 → EReal) :
    ∑ x : Fin 128, (f ⟨x.val, by omega⟩ + f ⟨128 + x.val, by omega⟩ + f ⟨256 + x.val, by omega⟩ + f ⟨384 + x.val, by omega⟩
      + f ⟨512 + x.val, by omega⟩ + f ⟨512 + (128 + x.val), by omega⟩ + f ⟨512 + (256 + x.val), by omega⟩ + f ⟨512 + (384 + x.val), by omega⟩
      + f ⟨1024 + x.val, by omega⟩ + f ⟨1024 + (128 + x.val), by omega⟩ + f ⟨1024 + (256 + x.val), by omega⟩ + f ⟨1024 + (384 + x.val), by omega⟩
      + f ⟨1536 + x.val, by omega⟩ + f ⟨1536 + (128 + x.val), by omega⟩ + f ⟨1536 + (256 + x.val), by omega⟩ + f ⟨1536 + (384 + x.val), by omega⟩)
      = ∑ c, f c := by
  have h : ∑ c, f c = ∑ j : Fin 16, ∑ x : Fin 128, f ⟨j.val * 128 + x.val, by omega⟩ := by
    rw [← Fintype.sum_prod_type']
    refine (Fintype.sum_equiv (finProdFinEquiv (m := 16) (n := 128)) _ _ fun p => ?_).symm
    exact congrArg f (Fin.ext (by simp [finProdFinEquiv]; omega))
  have h16 (g : Fin 16 → EReal) : ∑ j, g j
      = g 0 + g 1 + g 2 + g 3 + g 4 + g 5 + g 6 + g 7 + g 8 + g 9 + g 10 + g 11 + g 12 + g 13 + g 14 + g 15 := by
    simp only [Fin.sum_univ_castSucc, Fin.sum_univ_zero, zero_add]; rfl
  rw [h, h16]
  simp only [Finset.sum_add_distrib]
  iterate 15 refine congrArg₂ (· + ·) ?_ ?_
  all_goals exact Finset.sum_congr rfl fun x _ => congrArg f (Fin.ext (by first | (simp only [Fin.isValue, Fin.coe_ofNat_eq_mod]; done) | (simp only [Fin.isValue, Fin.coe_ofNat_eq_mod]; omega)))

/-- The row's sum of squares, taken lane by lane, in the closed form. -/
theorem out_chain (z : Fin 2048 → EReal) (c : Fin 2048) (a b w : EReal) :
    z c * Ideal.rsqrt ((∑ x : Fin 128, (z ⟨x.val, by omega⟩ * z ⟨x.val, by omega⟩ + z ⟨128 + x.val, by omega⟩ * z ⟨128 + x.val, by omega⟩
      + z ⟨256 + x.val, by omega⟩ * z ⟨256 + x.val, by omega⟩ + z ⟨384 + x.val, by omega⟩ * z ⟨384 + x.val, by omega⟩
      + z ⟨512 + x.val, by omega⟩ * z ⟨512 + x.val, by omega⟩ + z ⟨512 + (128 + x.val), by omega⟩ * z ⟨512 + (128 + x.val), by omega⟩
      + z ⟨512 + (256 + x.val), by omega⟩ * z ⟨512 + (256 + x.val), by omega⟩ + z ⟨512 + (384 + x.val), by omega⟩ * z ⟨512 + (384 + x.val), by omega⟩
      + z ⟨1024 + x.val, by omega⟩ * z ⟨1024 + x.val, by omega⟩ + z ⟨1024 + (128 + x.val), by omega⟩ * z ⟨1024 + (128 + x.val), by omega⟩
      + z ⟨1024 + (256 + x.val), by omega⟩ * z ⟨1024 + (256 + x.val), by omega⟩ + z ⟨1024 + (384 + x.val), by omega⟩ * z ⟨1024 + (384 + x.val), by omega⟩
      + z ⟨1536 + x.val, by omega⟩ * z ⟨1536 + x.val, by omega⟩ + z ⟨1536 + (128 + x.val), by omega⟩ * z ⟨1536 + (128 + x.val), by omega⟩
      + z ⟨1536 + (256 + x.val), by omega⟩ * z ⟨1536 + (256 + x.val), by omega⟩ + z ⟨1536 + (384 + x.val), by omega⟩ * z ⟨1536 + (384 + x.val), by omega⟩))
        * a + b) * w
      = z c * Ideal.rsqrt ((∑ c, z c * z c) * a + b) * w := by
  rw [lanes16 fun c => z c * z c]

/-- The nine pieces laid side by side, at a column: heads of 128 lanes, then the attention's 1024. -/
theorem cat_heads (x1 : Vec Ideal S8x512x128 .bf16) (x2 : Vec Ideal S512x1024 .bf16) (r : Fin 512) (k : Fin 2048) :
    (if h : k.val < 128 then x1 (ix3 0 r ⟨k.val, h⟩)
    else if h : k.val - 128 < 128 then x1 (ix3 1 r ⟨k.val - 128, h⟩)
    else if h : k.val - 128 - 128 < 128 then x1 (ix3 2 r ⟨k.val - 128 - 128, h⟩)
    else if h : k.val - 128 - 128 - 128 < 128 then x1 (ix3 3 r ⟨k.val - 128 - 128 - 128, h⟩)
    else if h : k.val - 128 - 128 - 128 - 128 < 128 then x1 (ix3 4 r ⟨k.val - 128 - 128 - 128 - 128, h⟩)
    else if h : k.val - 128 - 128 - 128 - 128 - 128 < 128 then x1 (ix3 5 r ⟨k.val - 128 - 128 - 128 - 128 - 128, h⟩)
    else if h : k.val - 128 - 128 - 128 - 128 - 128 - 128 < 128 then x1 (ix3 6 r ⟨k.val - 128 - 128 - 128 - 128 - 128 - 128, h⟩)
    else if h : k.val - 128 - 128 - 128 - 128 - 128 - 128 - 128 < 128 then x1 (ix3 7 r ⟨k.val - 128 - 128 - 128 - 128 - 128 - 128 - 128, h⟩)
    else x2 (ix2 r ⟨k.val - 128 - 128 - 128 - 128 - 128 - 128 - 128 - 128, by omega⟩)) = yAt x1 x2 r k := by
  have key (g : Fin 8) (l : Fin 128) (h : k.val = g.val * 128 + l.val) : x1 (ix3 g r l) = yAt x1 x2 r k := by
    rw [yAt, dif_pos (by omega)]
    exact congrArg₂ (fun a b => x1 (ix3 a r b)) (Fin.ext (by dsimp only; omega)) (Fin.ext (by dsimp only; omega))
  split_ifs
  case neg => rw [yAt, dif_neg (by omega)]; exact congrArg (fun a => x2 (ix2 r a)) (Fin.ext (by dsimp only; omega))
  all_goals exact key _ _ (by first | omega | (simp only [Fin.isValue]; omega))

/-- Four stores side by side cover half of the block's rows. -/
theorem cover_half (o : ℕ) (y : S512x2048.Idx) (ho : o ≤ (y 0).val) (hy : (y 0).val < o + 256)
    (i3 : ∀ a, (![o, 1536] : Fin 2 → ℕ) a + ![256, 512] a ≤ S512x2048.size a) (i2 : ∀ a, (![o, 1024] : Fin 2 → ℕ) a + ![256, 512] a ≤ S512x2048.size a)
    (i1 : ∀ a, (![o, 512] : Fin 2 → ℕ) a + ![256, 512] a ≤ S512x2048.size a) (i0 : ∀ a, (![o, 0] : Fin 2 → ℕ) a + ![256, 512] a ≤ S512x2048.size a)
    (w3 : (Rect.unit (s := S512x2048) ![o, 1536] ![256, 512] i3).shape.Idx → Elt Ideal .f32) (w2 : (Rect.unit (s := S512x2048) ![o, 1024] ![256, 512] i2).shape.Idx → Elt Ideal .f32)
    (w1 : (Rect.unit (s := S512x2048) ![o, 512] ![256, 512] i1).shape.Idx → Elt Ideal .f32) (w0 : (Rect.unit (s := S512x2048) ![o, 0] ![256, 512] i0).shape.Idx → Elt Ideal .f32) :
    ∃ p ∈ ([⟨Rect.unit ![o, 1536] ![256, 512] i3, w3⟩, ⟨Rect.unit ![o, 1024] ![256, 512] i2, w2⟩, ⟨Rect.unit ![o, 512] ![256, 512] i1, w1⟩,
      ⟨Rect.unit ![o, 0] ![256, 512] i0, w0⟩] : List (View.Piece (Elt Ideal) S512x2048 .f32)), y ∈ p.1.set := by
  have h1 : (y 1).val < 2048 := (y 1).isLt
  by_cases a3 : 1536 ≤ (y 1).val
  · refine ⟨_, List.mem_cons_self .., ?_⟩
    rw [Rect.mem_set_unit]
    intro a; fin_cases a <;> simp <;> omega
  by_cases a2 : 1024 ≤ (y 1).val
  · refine ⟨_, List.mem_cons_of_mem _ (List.mem_cons_self ..), ?_⟩
    rw [Rect.mem_set_unit]
    intro a; fin_cases a <;> simp <;> omega
  by_cases a1 : 512 ≤ (y 1).val
  · refine ⟨_, List.mem_cons_of_mem _ (List.mem_cons_of_mem _ (List.mem_cons_self ..)), ?_⟩
    rw [Rect.mem_set_unit]
    intro a; fin_cases a <;> simp <;> omega
  · refine ⟨_, List.mem_cons_of_mem _ (List.mem_cons_of_mem _ (List.mem_cons_of_mem _ (List.mem_cons_self ..))), ?_⟩
    rw [Rect.mem_set_unit]
    intro a; fin_cases a <;> simp <;> omega

/-- A store into the lower half of the rows does not touch the upper half. -/
theorem drop_half (o : ℕ) (inb : ∀ a, (![256, o] : Fin 2 → ℕ) a + ![256, 512] a ≤ S512x2048.size a) (w) (L : List (View.Piece (Elt Ideal) S512x2048 .f32))
    (y : S512x2048.Idx) (hy : ¬256 ≤ (y 0).val) : View.canon (⟨Rect.unit ![256, o] ![256, 512] inb, w⟩ :: L) y = View.canon L y := by
  refine View.canon_cons_of_not_mem _ _ fun h => hy ?_
  rw [Rect.mem_set_unit] at h
  exact (h 0).1

/-- The column blocks stored so far hold `G`. -/
def Good (G : Vec Ideal S2048x2048 .bf16) (L : List (View.Piece (Elt Ideal) S2048x2048 .bf16)) : Prop :=
  ∀ y : S2048x2048.Idx, (y 1).val < 256 * L.length → View.canon L y = G y

theorem good_nil (G : Vec Ideal S2048x2048 .bf16) : Good G [] := fun _ h => absurd h (by simp)

/-- One more block of `G` that reaches the columns not yet stored. -/
theorem good_step (G : Vec Ideal S2048x2048 .bf16) (r : Rect S2048x2048) (w : r.shape.Idx → Elt Ideal .bf16)
    (L : List (View.Piece (Elt Ideal) S2048x2048 .bf16)) (hw : ∀ x, w x = G (r.emb x)) (h : Good G L)
    (hr : ∀ y : S2048x2048.Idx, (y 1).val < 256 * (L.length + 1) → ¬(y 1).val < 256 * L.length → y ∈ r.set) : Good G (⟨r, w⟩ :: L) := by
  intro y hy
  rw [List.length_cons] at hy
  by_cases hm : y ∈ r.set
  · obtain ⟨x, rfl⟩ := r.exists_idx_of_mem hm
    rw [show r.idx x = r.emb x from rfl, View.canon_cons_emb]
    exact hw x
  · rw [View.canon_cons_of_not_mem _ _ hm]
    exact h y (by by_contra hlt; exact hm (hr y hy hlt))

/-- One more column block of `G`, stored to the right of those before. -/
theorem good_cons (G : Vec Ideal S2048x2048 .bf16) (o : ℕ) (inb : ∀ a, (![0, o] : Fin 2 → ℕ) a + ![2048, 256] a ≤ S2048x2048.size a)
    (w : (Rect.unit (s := S2048x2048) ![0, o] ![2048, 256] inb).shape.Idx → Elt Ideal .bf16) (L : List (View.Piece (Elt Ideal) S2048x2048 .bf16))
    (ho : o = 256 * L.length) (hw : ∀ x, w x = G ((Rect.unit (s := S2048x2048) ![0, o] ![2048, 256] inb).emb x)) (h : Good G L) :
    Good G (⟨Rect.unit ![0, o] ![2048, 256] inb, w⟩ :: L) := by
  refine good_step G _ w L hw h fun y hy hlt => ?_
  rw [Rect.mem_set_unit]
  have h0 : (y 0).val < 2048 := (y 0).isLt
  intro a; fin_cases a
  · exact ⟨Nat.zero_le _, by show (y 0).val < 0 + 2048; omega⟩
  · exact ⟨by show o ≤ (y 1).val; omega, by show (y 1).val < o + 256; omega⟩

/-- A load of columns already stored. -/
theorem readCov_good (G : Vec Ideal S2048x2048 .bf16) {κ : Kind} {sp : Space} (v : View sig κ sp S2048x2048 .bf16) (o : ℕ)
    (inb : ∀ a, (![0, o] : Fin 2 → ℕ) a + ![2048, 512] a ≤ S2048x2048.size a) (L : List (View.Piece (Elt Ideal) S2048x2048 .bf16))
    (ho : o + 512 ≤ 256 * L.length) (h : Good G L) :
    v.readCov L (Rect.unit ![0, o] ![2048, 512] inb).toLoadRect = View.ld G (Rect.unit ![0, o] ![2048, 512] inb) := by
  rw [View.readCov_eq_canon']
  funext j
  refine h _ ?_
  have h1 : ((Rect.unit (s := S2048x2048) ![0, o] ![2048, 512] inb).emb j 1).val = o + (j 1).val := emb_val ..
  have h2 : (j 1).val < 512 := (j 1).isLt
  exact lt_of_eq_of_lt h1 (by omega)

end Cert.Kernel2Ideal.Out

end
-- ==== Proof.Out.BlockA.lean ====
/-  The output projection's block at the first grid point, and the weight it leaves in the scratch. -/
module

public import proofs.«01_k».proof.Proof.Out.Body

@[expose] public section

set_option maxRecDepth 16384
set_option maxHeartbeats 4000000

noncomputable section

namespace Cert.Kernel2Ideal.Out

open Idealize.ShloMosaic Idealize.ShloMosaic.TcCoe Idealize.ShloMosaic.Tactic
open Idealize.SL Idealize.SL.RA Idealize.SL.BI Idealize.SL.Sem
open Idealize.ShloMosaic.Pipeline
open Cert.Kernel2Ideal.Gen

variable (m : (ℓ : Loc nD τ sig) → Buf (Elt Ideal) ℓ)

/-- The weight, as the scratch holds it. -/
def wOf (c : Dev nD) : Vec Ideal S2048x2048 .bf16 := fun i => V m c main_arg3 (ix3 0 (i 0) (i 1))

theorem pay_w (c : Dev nD) (o : ℕ) (inb : ∀ a, (![0, 0, o] : Fin 3 → ℕ) a + ![1, 2048, 256] a ≤ S1x2048x2048.size a) (k : Fin 2048) (l : Fin 256) (i : S2048x2048.Idx)
    (h0 : (i 0).val = k.val) (h1 : (i 1).val = o + l.val) :
    ReadAs.same.apply (View.read (Elt Ideal) ((View.whole main_arg3).slice (Rect.unit ![0, 0, o] ![1, 2048, 256] inb)) (V m c main_arg3)) (ix3 0 k l) = wOf m c i := by
  unfold wOf
  show V m c main_arg3 _ = _
  congr 1
  funext a
  apply Fin.ext
  fin_cases a
  · simp
  · simp [h0]
  · simp [h1]

/-- What the point stores of columns 1792 to 2047. -/
theorem pay23 (c : Dev nD) (x : (Rect.unit (s := S2048x2048) ![0, 1792] ![2048, 256] inb_S2048x2048_S2048x256_0_1792).shape.Idx) :
    k0_pay23 (ReadAs.same.apply (View.read (Elt Ideal) ((View.whole main_arg3).slice (Rect.unit ![0, 0, 1792] ![1, 2048, 256] inb_S1x2048x2048_S1x2048x256_0_0_1792)) (V m c main_arg3))) x
      = wOf m c ((Rect.unit (s := S2048x2048) ![0, 1792] ![2048, 256] inb_S2048x2048_S2048x256_0_1792).emb x) := by
  obtain ⟨k, l, rfl⟩ : ∃ k l, x = ix2 k l := ⟨x 0, x 1, eq_ix2 x⟩
  pointwise [k0_pay23]
  refine pay_w m c _ _ k l _ ?_ ?_ <;> rw [emb_val] <;> simp

/-- What the point stores of columns 1536 to 1791. -/
theorem pay22 (c : Dev nD) (x : (Rect.unit (s := S2048x2048) ![0, 1536] ![2048, 256] inb_S2048x2048_S2048x256_0_1536).shape.Idx) :
    k0_pay22 (ReadAs.same.apply (View.read (Elt Ideal) ((View.whole main_arg3).slice (Rect.unit ![0, 0, 1536] ![1, 2048, 256] inb_S1x2048x2048_S1x2048x256_0_0_1536)) (V m c main_arg3))) x
      = wOf m c ((Rect.unit (s := S2048x2048) ![0, 1536] ![2048, 256] inb_S2048x2048_S2048x256_0_1536).emb x) := by
  obtain ⟨k, l, rfl⟩ : ∃ k l, x = ix2 k l := ⟨x 0, x 1, eq_ix2 x⟩
  pointwise [k0_pay22]
  refine pay_w m c _ _ k l _ ?_ ?_ <;> rw [emb_val] <;> simp

/-- What the point stores of columns 1280 to 1535. -/
theorem pay17 (c : Dev nD) (x : (Rect.unit (s := S2048x2048) ![0, 1280] ![2048, 256] inb_S2048x2048_S2048x256_0_1280).shape.Idx) :
    k0_pay17 (ReadAs.same.apply (View.read (Elt Ideal) ((View.whole main_arg3).slice (Rect.unit ![0, 0, 1280] ![1, 2048, 256] inb_S1x2048x2048_S1x2048x256_0_0_1280)) (V m c main_arg3))) x
      = wOf m c ((Rect.unit (s := S2048x2048) ![0, 1280] ![2048, 256] inb_S2048x2048_S2048x256_0_1280).emb x) := by
  obtain ⟨k, l, rfl⟩ : ∃ k l, x = ix2 k l := ⟨x 0, x 1, eq_ix2 x⟩
  pointwise [k0_pay17]
  refine pay_w m c _ _ k l _ ?_ ?_ <;> rw [emb_val] <;> simp

/-- What the point stores of columns 1024 to 1279. -/
theorem pay16 (c : Dev nD) (x : (Rect.unit (s := S2048x2048) ![0, 1024] ![2048, 256] inb_S2048x2048_S2048x256_0_1024).shape.Idx) :
    k0_pay16 (ReadAs.same.apply (View.read (Elt Ideal) ((View.whole main_arg3).slice (Rect.unit ![0, 0, 1024] ![1, 2048, 256] inb_S1x2048x2048_S1x2048x256_0_0_1024)) (V m c main_arg3))) x
      = wOf m c ((Rect.unit (s := S2048x2048) ![0, 1024] ![2048, 256] inb_S2048x2048_S2048x256_0_1024).emb x) := by
  obtain ⟨k, l, rfl⟩ : ∃ k l, x = ix2 k l := ⟨x 0, x 1, eq_ix2 x⟩
  pointwise [k0_pay16]
  refine pay_w m c _ _ k l _ ?_ ?_ <;> rw [emb_val] <;> simp

/-- What the point stores of columns 768 to 1023. -/
theorem pay13 (c : Dev nD) (x : (Rect.unit (s := S2048x2048) ![0, 768] ![2048, 256] inb_S2048x2048_S2048x256_0_768).shape.Idx) :
    k0_pay13 (ReadAs.same.apply (View.read (Elt Ideal) ((View.whole main_arg3).slice (Rect.unit ![0, 0, 768] ![1, 2048, 256] inb_S1x2048x2048_S1x2048x256_0_0_768)) (V m c main_arg3))) x
      = wOf m c ((Rect.unit (s := S2048x2048) ![0, 768] ![2048, 256] inb_S2048x2048_S2048x256_0_768).emb x) := by
  obtain ⟨k, l, rfl⟩ : ∃ k l, x = ix2 k l := ⟨x 0, x 1, eq_ix2 x⟩
  pointwise [k0_pay13]
  refine pay_w m c _ _ k l _ ?_ ?_ <;> rw [emb_val] <;> simp

/-- What the point stores of columns 512 to 767. -/
theorem pay12 (c : Dev nD) (x : (Rect.unit (s := S2048x2048) ![0, 512] ![2048, 256] inb_S2048x2048_S2048x256_0_512).shape.Idx) :
    k0_pay12 (ReadAs.same.apply (View.read (Elt Ideal) ((View.whole main_arg3).slice (Rect.unit ![0, 0, 512] ![1, 2048, 256] inb_S1x2048x2048_S1x2048x256_0_0_512)) (V m c main_arg3))) x
      = wOf m c ((Rect.unit (s := S2048x2048) ![0, 512] ![2048, 256] inb_S2048x2048_S2048x256_0_512).emb x) := by
  obtain ⟨k, l, rfl⟩ : ∃ k l, x = ix2 k l := ⟨x 0, x 1, eq_ix2 x⟩
  pointwise [k0_pay12]
  refine pay_w m c _ _ k l _ ?_ ?_ <;> rw [emb_val] <;> simp

/-- What the point stores of columns 256 to 511. -/
theorem pay9 (c : Dev nD) (x : (Rect.unit (s := S2048x2048) ![0, 256] ![2048, 256] inb_S2048x2048_S2048x256_0_256).shape.Idx) :
    k0_pay9 (ReadAs.same.apply (View.read (Elt Ideal) ((View.whole main_arg3).slice (Rect.unit ![0, 0, 256] ![1, 2048, 256] inb_S1x2048x2048_S1x2048x256_0_0_256)) (V m c main_arg3))) x
      = wOf m c ((Rect.unit (s := S2048x2048) ![0, 256] ![2048, 256] inb_S2048x2048_S2048x256_0_256).emb x) := by
  obtain ⟨k, l, rfl⟩ : ∃ k l, x = ix2 k l := ⟨x 0, x 1, eq_ix2 x⟩
  pointwise [k0_pay9]
  refine pay_w m c _ _ k l _ ?_ ?_ <;> rw [emb_val] <;> simp

/-- What the point stores of columns 0 to 255. -/
theorem pay8 (c : Dev nD) (x : (Rect.unit (s := S2048x2048) ![0, 0] ![2048, 256] inb_S2048x2048_S2048x256_0_0).shape.Idx) :
    k0_pay8 (ReadAs.same.apply (View.read (Elt Ideal) ((View.whole main_arg3).slice (Rect.unit ![0, 0, 0] ![1, 2048, 256] inb_S1x2048x2048_S1x2048x256_0_0_0)) (V m c main_arg3))) x
      = wOf m c ((Rect.unit (s := S2048x2048) ![0, 0] ![2048, 256] inb_S2048x2048_S2048x256_0_0).emb x) := by
  obtain ⟨k, l, rfl⟩ : ∃ k l, x = ix2 k l := ⟨x 0, x 1, eq_ix2 x⟩
  pointwise [k0_pay8]
  refine pay_w m c _ _ k l _ ?_ ?_ <;> rw [emb_val] <;> simp

/-- The first point leaves in its scratch the weight. -/
theorem outA2 (c : Dev nD) (t : Fin cfg0.N) (h0 : t.val % 32 = 0) (h1 : ¬1 ≤ t.val) :
    (outsAt0 m c t.val t.isLt).2 = wOf m c := by
  rw [outsAt0_A m c t h0 h1]
  frame_open
  simp (disch := decide) only [↓ View.readCov_skip, ↓ View.readCov_cons_toLoadRect, ↓ View.readCov_fill]
  frame_out
  funext y
  refine (?_ : Good (wOf m c) _) y (by have := (y 1).isLt; exact this)
  exact good_cons _ _ _ _ _ rfl (pay23 m c) <| good_cons _ _ _ _ _ rfl (pay22 m c) <| good_cons _ _ _ _ _ rfl (pay17 m c) <|
    good_cons _ _ _ _ _ rfl (pay16 m c) <| good_cons _ _ _ _ _ rfl (pay13 m c) <| good_cons _ _ _ _ _ rfl (pay12 m c) <|
    good_cons _ _ _ _ _ rfl (pay9 m c) <| good_cons _ _ _ _ _ rfl (pay8 m c) <| good_nil _

/-- The first point, which brings the weight in, leaves the closed form's block. -/
theorem outA (c : Dev nD) (t : Fin cfg0.N) (h0 : t.val % 32 = 0) (h1 : ¬1 ≤ t.val) (y : S512x2048.Idx) :
    (outsAt0 m c t.val t.isLt).1 y = outOf (iblk m c 0 t) (iblk m c 1 t) (iblk m c 2 t) (iblk m c 3 t) (wOf m c) y := by
  rw [outsAt0_A m c t h0 h1]
  frame_open
  simp (disch := decide) only [↓ View.readCov_skip, ↓ View.readCov_cons_toLoadRect, ↓ View.readCov_fill]
  frame_out
  have p23 := pay23 m c
  have p22 := pay22 m c
  have p17 := pay17 m c
  have p16 := pay16 m c
  have p13 := pay13 m c
  have p12 := pay12 m c
  have p9 := pay9 m c
  have p8 := pay8 m c
  simp (disch := first
    | exact Nat.le_of_ble_eq_true rfl
    | (repeat' first | exact good_nil _ | refine good_cons _ _ _ _ _ rfl (by assumption) ?_)) only [readCov_good (wOf m c)]
  generalize iblk m c 0 t = x0
  generalize iblk m c 1 t = x1
  generalize iblk m c 2 t = x2
  generalize iblk m c 3 t = x3
  generalize wOf m c = wb
  by_cases hy : 256 ≤ (y 0).val
  · refine View.canon_append_of_piecesOf (outOf x0 x1 x2 x3 wb) _ [_, _, _, _] ⟨?_, ?_, ?_, ?_, trivial⟩ y (cover_half 256 y hy (by have := (y 0).isLt; exact this) _ _ _ _ _ _ _ _)
    iterate 4
     · intro x
       obtain ⟨r, l, rfl⟩ : ∃ r l, x = ix2 r l := ⟨x 0, x 1, eq_ix2 x⟩
       pointwise [k0_pay1, k0_pay48, k0_pay47, k0_pay46, k0_pay45, k0_pay37, k0_pay38, k0_pay39, k0_pay40, k0_pay41, k0_pay42, k0_pay43, k0_pay44]
       generalize hY : k0_pay36 (F := Ideal) _ _ _ _ _ _ _ _ _ = Y
       have hY' : ∀ k, Y (ix2 r k) = yAt x1 x2 ⟨256 + r.val, by omega⟩ k := by
         intro k
         subst hY
         pointwise [k0_pay36, k0_pay31, k0_pay32, k0_pay33, k0_pay34, k0_pay35]
         exact cat_heads x1 x2 ⟨256 + r.val, by omega⟩ k
       simp only [hY']
       refine (out_chain (zAt x0 x1 x2 wb ⟨256 + r.val, by omega⟩) _ _ _ _).trans ?_
       refine outOf_at x0 x1 x2 x3 wb _ _ _ ?_ ?_ <;> rw [emb_val] <;> simp
  · rw [drop_half, drop_half, drop_half, drop_half, drop_half, drop_half, drop_half, drop_half]
    refine View.canon_append_of_piecesOf (outOf x0 x1 x2 x3 wb) _ [_, _, _, _] ⟨?_, ?_, ?_, ?_, trivial⟩ y (cover_half 0 y (by omega) (by omega) _ _ _ _ _ _ _ _)
    iterate 4
     · intro x
       obtain ⟨r, l, rfl⟩ : ∃ r l, x = ix2 r l := ⟨x 0, x 1, eq_ix2 x⟩
       pointwise [k0_pay30, k0_pay29, k0_pay28, k0_pay27, k0_pay26, k0_pay7, k0_pay10, k0_pay11, k0_pay14, k0_pay15, k0_pay18, k0_pay19, k0_pay20, k0_pay21, k0_pay24, k0_pay25]
       generalize hY : k0_pay6 (F := Ideal) _ _ _ _ _ _ _ _ _ = Y
       have hY' : ∀ k, Y (ix2 r k) = yAt x1 x2 ⟨r.val, by omega⟩ k := by
         intro k
         subst hY
         pointwise [k0_pay6, k0_pay4, k0_pay5]
         exact cat_heads x1 x2 ⟨r.val, by omega⟩ k
       simp only [hY']
       refine (out_chain (zAt x0 x1 x2 wb ⟨r.val, by omega⟩) _ _ _ _).trans ?_
       refine outOf_at x0 x1 x2 x3 wb _ _ _ ?_ ?_ <;> rw [emb_val] <;> simp
    all_goals omega

end Cert.Kernel2Ideal.Out

end
-- ==== Proof.Out.BlockB.lean ====
/-  The output projection's block at every grid point but the first. -/
module

public import proofs.«01_k».proof.Proof.Out.Body

@[expose] public section

set_option maxRecDepth 16384
set_option maxHeartbeats 4000000

noncomputable section

namespace Cert.Kernel2Ideal.Out

open Idealize.ShloMosaic Idealize.ShloMosaic.TcCoe Idealize.ShloMosaic.Tactic
open Idealize.SL Idealize.SL.RA Idealize.SL.BI Idealize.SL.Sem
open Idealize.ShloMosaic.Pipeline
open Cert.Kernel2Ideal.Gen

variable (m : (ℓ : Loc nD τ sig) → Buf (Elt Ideal) ℓ)

/-- A point that finds the weight in its scratch leaves the closed form's block. -/
theorem outB (c : Dev nD) (t : Fin cfg0.N) (h0 : ¬t.val % 32 = 0) (h1 : 1 ≤ t.val) (y : S512x2048.Idx) :
    (outsAt0 m c t.val t.isLt).1 y = outOf (iblk m c 0 t) (iblk m c 1 t) (iblk m c 2 t) (iblk m c 3 t) (outsAt0 m c (t.val - 1) (by omega)).2 y := by
  rw [outsAt0_B m c t h0 h1]
  frame_open
  simp (disch := decide) only [↓ View.readCov_skip, ↓ View.readCov_cons_toLoadRect, ↓ View.readCov_fill]
  frame_out
  generalize iblk m c 0 t = x0
  generalize iblk m c 1 t = x1
  generalize iblk m c 2 t = x2
  generalize iblk m c 3 t = x3
  simp only [read_unread_whole]
  generalize (outsAt0 m c (t.val - 1) _).2 = wb
  by_cases hy : 256 ≤ (y 0).val
  · refine View.canon_append_of_piecesOf (outOf x0 x1 x2 x3 wb) _ [_, _, _, _] ⟨?_, ?_, ?_, ?_, trivial⟩ y (cover_half 256 y hy (by have := (y 0).isLt; exact this) _ _ _ _ _ _ _ _)
    iterate 4
     · intro x
       obtain ⟨r, l, rfl⟩ : ∃ r l, x = ix2 r l := ⟨x 0, x 1, eq_ix2 x⟩
       pointwise [k0_pay3, k0_pay2, k0_pay76, k0_pay75, k0_pay74, k0_pay77, k0_pay73, k0_pay72, k0_pay71, k0_pay70, k0_pay69, k0_pay68, k0_pay67]
       generalize hY : k0_pay66 (F := Ideal) _ _ _ _ _ _ _ _ _ = Y
       have hY' : ∀ k, Y (ix2 r k) = yAt x1 x2 ⟨256 + r.val, by omega⟩ k := by
         intro k
         subst hY
         pointwise [k0_pay66, k0_pay63, k0_pay64, k0_pay65]
         exact cat_heads x1 x2 ⟨256 + r.val, by omega⟩ k
       simp only [hY']
       refine (out_chain (zAt x0 x1 x2 wb ⟨256 + r.val, by omega⟩) _ _ _ _).trans ?_
       refine outOf_at x0 x1 x2 x3 wb _ _ _ ?_ ?_ <;> rw [emb_val] <;> simp
  · rw [drop_half, drop_half, drop_half, drop_half, drop_half, drop_half, drop_half, drop_half]
    refine View.canon_append_of_piecesOf (outOf x0 x1 x2 x3 wb) _ [_, _, _, _] ⟨?_, ?_, ?_, ?_, trivial⟩ y (cover_half 0 y (by omega) (by omega) _ _ _ _ _ _ _ _)
    iterate 4
     · intro x
       obtain ⟨r, l, rfl⟩ : ∃ r l, x = ix2 r l := ⟨x 0, x 1, eq_ix2 x⟩
       pointwise [k0_pay62, k0_pay61, k0_pay60, k0_pay58, k0_pay57, k0_pay59, k0_pay50, k0_pay51, k0_pay52, k0_pay53, k0_pay54, k0_pay55, k0_pay56]
       generalize hY : k0_pay49 (F := Ideal) _ _ _ _ _ _ _ _ _ = Y
       have hY' : ∀ k, Y (ix2 r k) = yAt x1 x2 ⟨r.val, by omega⟩ k := by
         intro k
         subst hY
         pointwise [k0_pay49]
         exact cat_heads x1 x2 ⟨r.val, by omega⟩ k
       simp only [hY']
       refine (out_chain (zAt x0 x1 x2 wb ⟨r.val, by omega⟩) _ _ _ _).trans ?_
       refine outOf_at x0 x1 x2 x3 wb _ _ _ ?_ ?_ <;> rw [emb_val] <;> simp
    all_goals omega

end Cert.Kernel2Ideal.Out

end
-- ==== Proof.Out.RefValue.lean ====
/-  The output projection's reference, read at an index. -/
module

public import proofs.«01_k».proof.Proof.Gen.Reference2Ideal.Read
public import Idealize.ShloMosaic.Lib.Pipeline.ValueKit

@[expose] public section

set_option maxRecDepth 16384

noncomputable section

namespace Cert.Reference2Ideal.Out

open Idealize.ShloMosaic Idealize.ShloMosaic.Tactic
open Cert.Reference2Ideal.Read

variable (x0 : (⟨S4x4096x2048, .f32⟩ : BufTy).Contents (Elt Ideal)) (x1 : (⟨S8x16384x128, .bf16⟩ : BufTy).Contents (Elt Ideal))
  (x2 : (⟨S16384x1024, .bf16⟩ : BufTy).Contents (Elt Ideal)) (x3 : (⟨S1x2048x2048, .f32⟩ : BufTy).Contents (Elt Ideal))
  (x4 : (⟨S2048, .f32⟩ : BufTy).Contents (Elt Ideal))

/-- The gated row at a column. -/
def yRow (R : Fin 16384) (k : Fin 2048) : EReal :=
  if h : k.val < 1024 then x1 (ix3 ⟨k.val / 128, by omega⟩ R ⟨k.val % 128, by omega⟩) else x2 (ix2 R ⟨k.val - 1024, by omega⟩)

theorem v5_apply (b : Fin 4) (n : Fin 4096) (k : Fin 2048) :
    val_main_v5 (F := Ideal) x1 x2 (ix3 b n k) = yRow x1 x2 ⟨b.val * 4096 + n.val, by omega⟩ k := by
  pointwise [val_main_v5, val_main_v4, val_main_v3, val_main_v2, val_main_v1, val_main_v0]
  unfold yRow
  rfl

/-- The residual plus the projected row. -/
def zRow (b : Fin 4) (n : Fin 4096) (c : Fin 2048) : EReal :=
  x0 (ix3 b n c) + ∑ k, yRow x1 x2 ⟨b.val * 4096 + n.val, by omega⟩ k * x3 (ix3 0 k c)

theorem v8_apply (b : Fin 4) (n : Fin 4096) (c : Fin 2048) :
    val_main_v8 (F := Ideal) x0 x1 x2 x3 (ix3 b n c) = zRow x0 x1 x2 x3 b n c := by
  unfold zRow
  simp only [← v5_apply]
  pointwise [val_main_v8, val_main_v7, val_main_v6]

theorem v22_apply (b : Fin 4) (n : Fin 4096) (c : Fin 2048) :
    val_main_v22 (F := Ideal) x0 x1 x2 x3 x4 (ix2 ⟨b.val * 4096 + n.val, by omega⟩ c)
      = zRow x0 x1 x2 x3 b n c
        * Ideal.rsqrt (Ideal.div (∑ c, zRow x0 x1 x2 x3 b n c * zRow x0 x1 x2 x3 b n c) (Ideal.ofBits .f32 0x45000000#32) + Ideal.ofBits .f32 0x358637BD#32)
        * x4 (ix1 c) := by
  simp only [← v8_apply]
  pointwise [val_main_v22, val_main_v21, val_main_v20, val_main_v19, val_main_v18, val_main_v17, val_main_v16, val_main_v15, val_main_v14, val_main_cst_1, val_main_v13, val_main_v12, val_main_cst_0, val_main_v11, val_main_v10, val_main_cst, val_main_v9]

end Cert.Reference2Ideal.Out

end
-- ==== Proof.Out.Array.lean ====
/-  The output projection's result array is the reference's, from any memory. -/
module

public import proofs.«01_k».proof.Proof.Out.BlockA
public import proofs.«01_k».proof.Proof.Out.BlockB
public import proofs.«01_k».proof.Proof.Out.RefValue
public import Idealize.ShloMosaic.Lib.StableHlo.ReadAt
public import Idealize.ShloMosaic.Lib.Pointwise

@[expose] public section

set_option maxRecDepth 16384

noncomputable section

namespace Cert.Kernel2Ideal.Out

open Idealize.ShloMosaic Idealize.ShloMosaic.TcCoe Idealize.ShloMosaic.Tactic
open Idealize.SL Idealize.SL.RA Idealize.SL.BI Idealize.SL.Sem
open Idealize.ShloMosaic.Pipeline
open Cert.Kernel2Ideal.Gen

variable (m : (ℓ : Loc nD τ sig) → Buf (Elt Ideal) ℓ)

/-- After every point the scratch holds the weight. -/
theorem scratch (c : Dev nD) : ∀ (n : ℕ) (hn : n < cfg0.N), (outsAt0 m c n hn).2 = wOf m c
  | 0, hn => outA2 m c ⟨0, hn⟩ (Nat.zero_mod _) (by simp)
  | n + 1, hn => by
    have hN : n + 1 < 32 := lt_of_lt_of_eq hn (show cfg0.N = 32 from N_0)
    have h0 : ¬(⟨n + 1, hn⟩ : Fin cfg0.N).val % 32 = 0 := by show ¬(n + 1) % 32 = 0; omega
    have h1 : 1 ≤ (⟨n + 1, hn⟩ : Fin cfg0.N).val := by show 1 ≤ n + 1; omega
    exact (congrArg Prod.snd (outsAt0_B m c ⟨n + 1, hn⟩ h0 h1)).trans (scratch c n (by omega))

/-- Every point leaves the closed form's block. -/
theorem block (c : Dev nD) (t : Fin cfg0.N) :
    (outsAt0 m c t.val t.isLt).1 = outOf (iblk m c 0 t) (iblk m c 1 t) (iblk m c 2 t) (iblk m c 3 t) (wOf m c) := by
  have hN : t.val < 32 := lt_of_lt_of_eq t.isLt (show cfg0.N = 32 from N_0)
  funext y
  by_cases h1 : 1 ≤ t.val
  · rw [outB m c t (by omega) h1 y, scratch]
  · exact outA m c t (by omega) h1 y

theorem idx0 : ∀ t : Fin cfg0.N, win0_0.index t = ![t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

/-! The input blocks at a point, in the arguments' coordinates: point `t` reads rows `512 t` to `512 t + 511`, of batch `t / 8`. -/

theorem tlt (t : Fin cfg0.N) : t.val < 32 := lt_of_lt_of_eq t.isLt (show cfg0.N = 32 from N_0)

/-- The batch of a point and a row's place in it. -/
def bAt (t : Fin cfg0.N) : Fin 4 := ⟨t.val / 8, by have := tlt t; omega⟩
def nAt (t : Fin cfg0.N) (r : Fin 512) : Fin 4096 := ⟨t.val % 8 * 512 + r.val, by have := tlt t; omega⟩

theorem v0_apply (c : Dev nD) (b : Fin 4) (n : Fin 4096) (l : Fin 2048) :
    V m c main_v0 (ix2 ⟨b.val * 4096 + n.val, by omega⟩ l) = m ((c : Thread nD τ).loc main_arg0) (ix3 b n l) := by
  unfold V
  after_reads_at

theorem v1_apply (c : Dev nD) (l : Fin 2048) : V m c main_v1 (ix2 0 l) = m ((c : Thread nD τ).loc main_arg4) (ix1 l) := by
  unfold V
  after_reads_at

theorem blk0 (c : Dev nD) (t : Fin cfg0.N) (r : Fin 512) (l : Fin 2048) :
    iblk m c 0 t (ix2 r l) = m ((c : Thread nD τ).loc main_arg0) (ix3 (bAt t) (nAt t r) l) := by
  rw [← v0_apply m c]
  blk_simp [iblk]
  refine congrArg _ ?_
  have := tlt t
  unfold bAt nAt
  blk_ext [idx0]

theorem blk1 (c : Dev nD) (t : Fin cfg0.N) (g : Fin 8) (r : Fin 512) (l : Fin 128) :
    iblk m c 1 t (ix3 g r l) = m ((c : Thread nD τ).loc main_arg1) (ix3 g ⟨(bAt t).val * 4096 + (nAt t r).val, by omega⟩ l) := by
  blk_simp [iblk]
  rw [V_main_arg1]
  refine congrArg _ ?_
  have := tlt t
  unfold bAt nAt
  blk_ext [idx1]

theorem blk2 (c : Dev nD) (t : Fin cfg0.N) (r : Fin 512) (l : Fin 1024) :
    iblk m c 2 t (ix2 r l) = m ((c : Thread nD τ).loc main_arg2) (ix2 ⟨(bAt t).val * 4096 + (nAt t r).val, by omega⟩ l) := by
  blk_simp [iblk]
  rw [V_main_arg2]
  refine congrArg _ ?_
  have := tlt t
  unfold bAt nAt
  blk_ext [idx2]

theorem blk3 (c : Dev nD) (t : Fin cfg0.N) (l : Fin 2048) :
    iblk m c 3 t (ix2 0 l) = m ((c : Thread nD τ).loc main_arg4) (ix1 l) := by
  rw [← v1_apply m c]
  blk_simp [iblk]
  refine congrArg _ ?_
  blk_ext [idx3]

/-- The mean over 2048 columns: the kernel multiplies by the reciprocal, the reference divides. -/
theorem div_eq (s : EReal) : s * Ideal.ofBits .f32 0x3A000000#32 = Ideal.div s (Ideal.ofBits .f32 0x45000000#32) := by
  have h1 : Ideal.ofBits .f32 0x3A000000#32 = ((1 / 2048 : ℝ) : EReal) := by
    simp [Ideal.ofBits, Ideal.ieee]; norm_cast; norm_num
  have h2 : Ideal.ofBits .f32 0x45000000#32 = ((2048 : ℝ) : EReal) := by
    simp [Ideal.ofBits, Ideal.ieee]; norm_cast; norm_num
  rw [h1, h2]
  unfold Ideal.div
  rw [if_neg (by norm_cast), ← EReal.coe_inv]
  norm_num

theorem wOf_apply (c : Dev nD) (k l : Fin 2048) : wOf m c (ix2 k l) = m ((c : Thread nD τ).loc main_arg3) (ix3 0 k l) := by
  unfold wOf
  rw [V_main_arg3]
  rfl

/-- The row the kernel projects is the reference's. -/
theorem z_eq (c : Dev nD) (t : Fin cfg0.N) (r : Fin 512) (l : Fin 2048) :
    zAt (iblk m c 0 t) (iblk m c 1 t) (iblk m c 2 t) (wOf m c) r l
      = Cert.Reference2Ideal.Out.zRow (m ((c : Thread nD τ).loc main_arg0)) (m ((c : Thread nD τ).loc main_arg1))
          (m ((c : Thread nD τ).loc main_arg2)) (m ((c : Thread nD τ).loc main_arg3)) (bAt t) (nAt t r) l := by
  unfold zAt Cert.Reference2Ideal.Out.zRow yAt Cert.Reference2Ideal.Out.yRow
  simp only [blk0, blk1, blk2, wOf_apply]

/-- The result array holds the reference's value of the arguments. -/
theorem final (c : Dev nD) :
    (dats m 0 c).arrAt 4 cfg0.N
      = Cert.Reference2Ideal.Read.val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 4 _ (by decide +kernel) fun t hf y => ?_
  blk_simp
  rw [after0_4, block]
  obtain ⟨r, l, rfl⟩ : ∃ (r : Fin 512) (l : Fin 2048), y = ix2 r l := ⟨y 0, y 1, eq_ix2 y⟩
  have hemb : (win0_4.blk t).view.emb (ix2 r l) = ix2 ⟨(bAt t).val * 4096 + (nAt t r).val, by omega⟩ l := by
    have := tlt t
    unfold bAt nAt
    blk_ext [idx4]
  rw [hemb]
  refine Eq.trans ?_ (Cert.Reference2Ideal.Out.v22_apply _ _ _ _ _ (bAt t) (nAt t r) l).symm
  rw [← div_eq, ← blk3 m c t]
  simp only [← z_eq]
  rfl

end Cert.Kernel2Ideal.Out

end
-- ==== Proof.Out.Claims.lean ====
/-
  The claims about the output projection's call.
-/
module

public import proofs.«01_k».proof.Proof.Out.Array
public import proofs.«01_k».proof.Defs
public import proofs.«01_k».proof.Proof.Gen.Kernel2
public import proofs.«01_k».proof.Proof.Gen.Kernel2Ideal.Value
public import proofs.«01_k».proof.Proof.Gen.Reference2Ideal.Run

@[expose] public section

set_option maxRecDepth 16384

noncomputable section

namespace Cert.Proof.Out

open Idealize.ShloMosaic Idealize.ShloMosaic.TcCoe Idealize.SL.Sem

/-- The two programs' texts agree: the kernel's body, -/
theorem body_eq : @Cert.Kernel2.cc0_out_proj Bits _ _ = @Cert.Kernel2Ideal.cc0_out_proj Bits _ _ := rfl

/-- the table of bodies (one label), -/
theorem defs₀_eq : Cert.Kernel2.defs₀ (F := Bits) = Cert.Kernel2Ideal.defs₀ (F := Bits) := by
  unfold Cert.Kernel2.defs₀ Cert.Kernel2Ideal.defs₀
  refine congrArg Defs.onTc (funext fun l => ?_)
  obtain rfl : l = 0 := Subsingleton.elim (α := Fin 1) _ _
  funext ⟨t, s⟩
  rfl

/-- and the table with the pipeline's own entries. -/
theorem defs_eq : Cert.Kernel2.defs (F := Bits) = Cert.Kernel2Ideal.defs (F := Bits) :=
  congrArg (Pipeline.defs _) defs₀_eq

/-- The kernel as it is runs, leaves its arguments and its counters at zero: the same run at the machine's floats. -/
theorem frame_kernel : Cert.quiescent_Kernel2 := fun m ρ _ => by
  rw [defs_eq]
  exact (θ_run Cert.Kernel2Ideal.defs _ _).mono (fun _ h => h) (Cert.Kernel2Ideal.Gen.frame (F := Bits) m ρ)

/-- The idealized kernel likewise. -/
theorem frame_kernelIdeal : Cert.quiescent_Kernel2Ideal := fun m ρ _ => Cert.Kernel2Ideal.Gen.frame m ρ

/-- The idealized reference runs, leaves its arguments, and has no counters. -/
theorem frame_reference : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

/-- Both programs end with the same result array. -/
theorem algebraic : Cert.algebraic_Kernel2Ideal_Reference2Ideal := by
  intro m g m' g' hpre hagree
  refine ⟨fun c => Cert.Reference2Ideal.Read.val_main_v22 (F := Ideal) (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4)), ?_, ?_⟩
  · exact θ_run_mono (Cert.Kernel2Ideal.Value.run_blocks m g) fun r h c => ⟨((h c).1).trans (Cert.Kernel2Ideal.Out.final m c), (h c).2⟩
  · refine θ_run_mono (Cert.Reference2Ideal.Value.run m' g') fun r h c => ⟨((h c).1).trans ?_, (h c).2⟩
    refine (Cert.Reference2Ideal.Read.val_main_v22_eq _ _ _ _ _).trans ?_
    obtain ⟨h0, h1, h2, h3, h4⟩ := hagree c
    rw [h0, h1, h2, h3, h4]

end Cert.Proof.Out

end
-- ==== Proof.In.Cell.lean ====
/-  What becomes of a row of the input projection, and the rotations' cosines and sines, as plain functions. -/
module

public import Idealize.ShloMosaic.Lib.Pipeline.ValueKit

@[expose] public section

noncomputable section

namespace Cert.In

open Idealize.ShloMosaic

/-- What becomes of a row `a` of the projection, in 52 groups of 128 columns, at group `g` and lane `l`, with the four rows
    `t` of the tables of cosines and signed sines: the retention's queries and keys are rotated over all lanes, its values are
    left, its gate is passed through SiLU; the attention's queries are rotated over 32 lanes and scaled, its keys rotated, its
    values left, its gate passed through SiLU. -/
def cell (a : Fin 52 → Fin 128 → EReal) (t : Fin 4 → Fin 128 → EReal) (g : Fin 52) (l : Fin 128) : EReal :=
  if g.val < 16 then a g l * t 0 l + a g ⟨(l.val + 64) % 128, by omega⟩ * t 1 l
  else if g.val < 24 then a g l
  else if g.val < 32 then a g l * Ideal.logistic (a g l)
  else if g.val < 40 then
    (a g l * t 2 l + (if l.val < 16 then a g ⟨(l.val + 16) % 128, by omega⟩ else a g ⟨(l.val + 112) % 128, by omega⟩) * t 3 l) * Ideal.ofBits .f32 0x3E0293EE#32
  else if g.val < 42 then
    a g l * t 2 l + (if l.val < 16 then a g ⟨(l.val + 16) % 128, by omega⟩ else a g ⟨(l.val + 112) % 128, by omega⟩) * t 3 l
  else if g.val < 44 then a g l
  else a g l * Ideal.logistic (a g l)

/-- The rotations' frequencies: of the retention, one for each of 64 pairs of lanes, -/
def freq64 (j : ℕ) : ℝ := Real.rpow 10000 (-(j : ℝ) / 64)

/-- and of the attention, one for each of 16. -/
def freq16 (j : ℕ) : ℝ := Real.rpow 500000 (-(j : ℝ) / 16)

/-- The retention's row of cosines at position `n`, -/
def cosRet (n : ℕ) (l : ℕ) : ℝ := Real.cos (n * freq64 (l % 64))

/-- its row of signed sines, -/
def sinRet (n : ℕ) (l : ℕ) : ℝ := if l < 64 then -Real.sin (n * freq64 (l % 64)) else Real.sin (n * freq64 (l % 64))

/-- the attention's row of cosines, which leaves the last 96 lanes, -/
def cosAtt (n : ℕ) (l : ℕ) : ℝ := if l < 32 then Real.cos (n * freq16 (l % 16)) else 1

/-- and its row of signed sines. -/
def sinAtt (n : ℕ) (l : ℕ) : ℝ := if l < 16 then -Real.sin (n * freq16 (l % 16)) else if l < 32 then Real.sin (n * freq16 (l % 16)) else 0

/-- The four rows at position `n`. -/
def rotTab (n : ℕ) : Fin 4 → Fin 128 → EReal := ![fun l => (cosRet n l.val : EReal), fun l => (sinRet n l.val : EReal), fun l => (cosAtt n l.val : EReal), fun l => (sinAtt n l.val : EReal)]

/-- The rotation over all lanes, pair by pair. -/
theorem rot_ret (a : Fin 128 → EReal) (n : ℕ) (l : Fin 128) :
    a l * rotTab n 0 l + a ⟨(l.val + 64) % 128, by omega⟩ * rotTab n 1 l
      = if h : l.val < 64 then a l * (Real.cos (n * freq64 l.val) : EReal) - a ⟨l.val + 64, by omega⟩ * (Real.sin (n * freq64 l.val) : EReal)
        else a l * (Real.cos (n * freq64 (l.val - 64)) : EReal) + a ⟨l.val - 64, by omega⟩ * (Real.sin (n * freq64 (l.val - 64)) : EReal) := by
  show a l * (cosRet n l.val : EReal) + a _ * (sinRet n l.val : EReal) = _
  unfold cosRet sinRet
  split_ifs with h
  · rw [Nat.mod_eq_of_lt h, EReal.coe_neg, mul_neg, ← sub_eq_add_neg]
    congr 4
    exact Nat.mod_eq_of_lt (by omega)
  · rw [show l.val % 64 = l.val - 64 by omega]
    congr 4
    omega

/-- The rotation over 32 lanes, pair by pair. -/
theorem rot_att (a : Fin 128 → EReal) (n : ℕ) (l : Fin 128) :
    a l * rotTab n 2 l + (if l.val < 16 then a ⟨(l.val + 16) % 128, by omega⟩ else a ⟨(l.val + 112) % 128, by omega⟩) * rotTab n 3 l
      = if h : l.val < 16 then a l * (Real.cos (n * freq16 l.val) : EReal) - a ⟨l.val + 16, by omega⟩ * (Real.sin (n * freq16 l.val) : EReal)
        else if h' : l.val < 32 then a l * (Real.cos (n * freq16 (l.val - 16)) : EReal) + a ⟨l.val - 16, by omega⟩ * (Real.sin (n * freq16 (l.val - 16)) : EReal)
        else a l := by
  show a l * (cosAtt n l.val : EReal) + _ * (sinAtt n l.val : EReal) = _
  unfold cosAtt sinAtt
  by_cases h : l.val < 16
  · rw [if_pos (by omega), if_pos h, if_pos h, dif_pos h, Nat.mod_eq_of_lt h, EReal.coe_neg, mul_neg, ← sub_eq_add_neg]
    congr 4
    exact Nat.mod_eq_of_lt (by omega)
  rw [if_neg h, if_neg h, dif_neg h]
  by_cases h' : l.val < 32
  · rw [if_pos h', if_pos h', dif_pos h', show l.val % 16 = l.val - 16 by omega]
    congr 4
    omega
  · rw [if_neg h', if_neg h', dif_neg h', EReal.coe_one, EReal.coe_zero, mul_one, mul_zero, add_zero]

/-- A small natural number as a float. -/
theorem nat_f32 {n : ℕ} (hn : n < 4096) : FloatOps.sitofp (F := Ideal) .f32 (BitVec.ofNat 32 n) = ((n : ℝ) : EReal) := by
  show (((BitVec.ofNat 32 n).toInt : ℝ) : EReal) = _
  have h : (BitVec.ofNat 32 n).toInt = (n : ℤ) := by
    rw [BitVec.toInt_ofNat']
    exact Int.bmod_eq_of_le (by omega) (by omega)
  rw [h]
  norm_cast

/-- The retention's frequencies as they are computed, -/
theorem pow64 {j : ℕ} (hj : j < 64) :
    Ideal.pow (Ideal.ofBits .f32 0x461C4000#32) (Ideal.div (-FloatOps.sitofp (F := Ideal) .f32 (BitVec.ofNat 32 j)) (Ideal.ofBits .f32 0x42800000#32)) = (freq64 j : EReal) := by
  have a : Ideal.ofBits .f32 0x461C4000#32 = ((10000 : ℝ) : EReal) := by
    simp [Ideal.ofBits, Ideal.ieee]; norm_cast; norm_num
  have b : Ideal.ofBits .f32 0x42800000#32 = ((64 : ℝ) : EReal) := by
    simp [Ideal.ofBits, Ideal.ieee]; norm_cast; norm_num
  rw [nat_f32 (by omega), a, b, ← EReal.coe_neg, Ideal.div, if_neg (by norm_cast), ← EReal.coe_inv, ← EReal.coe_mul]
  rfl

/-- and the attention's. -/
theorem pow16 {j : ℕ} (hj : j < 16) :
    Ideal.pow (Ideal.ofBits .f32 0x48F42400#32) (Ideal.div (-FloatOps.sitofp (F := Ideal) .f32 (BitVec.ofNat 32 j)) (Ideal.ofBits .f32 0x41800000#32)) = (freq16 j : EReal) := by
  have a : Ideal.ofBits .f32 0x48F42400#32 = ((500000 : ℝ) : EReal) := by
    simp [Ideal.ofBits, Ideal.ieee]; norm_cast; norm_num
  have b : Ideal.ofBits .f32 0x41800000#32 = ((16 : ℝ) : EReal) := by
    simp [Ideal.ofBits, Ideal.ieee]; norm_cast; norm_num
  rw [nat_f32 (by omega), a, b, ← EReal.coe_neg, Ideal.div, if_neg (by norm_cast), ← EReal.coe_inv, ← EReal.coe_mul]
  rfl

end Cert.In

end
-- ==== Proof.In.Body.lean ====
/-  What one grid point of the input projection computes, as plain functions of its blocks. -/
module

public import proofs.«01_k».proof.Proof.In.Cell
public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.In

open Idealize.ShloMosaic Idealize.ShloMosaic.TcCoe Idealize.ShloMosaic.Tactic
open Idealize.ShloMosaic.Pipeline
open Cert.Kernel3Ideal.Gen
open Cert.In

/-- The rows of a block over their root mean squares, times the norm's weight. -/
def normOf (x : Vec Ideal S256x2048 .f32) (nw : Vec Ideal S1x2048 .f32) : Vec Ideal S256x2048 .bf16 := fun i =>
  x i * Ideal.rsqrt (Ideal.div (∑ k, x (ix2 (i 0) k) * x (ix2 (i 0) k)) (Ideal.ofBits .f32 0x45000000#32) + Ideal.ofBits .f32 0x358637BD#32)
    * nw (ix2 0 (i 1))

/-- `normOf` at an index given by its coordinates' values. -/
theorem normOf_at (x : Vec Ideal S256x2048 .f32) (nw : Vec Ideal S1x2048 .f32) (r R : Fin 256) (l L : Fin 2048) (hr : R.val = r.val) (hl : L.val = l.val) :
    x (ix2 r l) * Ideal.rsqrt (Ideal.div (∑ k, x (ix2 r k) * x (ix2 r k)) (Ideal.ofBits .f32 0x45000000#32) + Ideal.ofBits .f32 0x358637BD#32) * nw (ix2 0 l)
      = normOf x nw (ix2 R L) := by
  obtain rfl := Fin.ext hr
  obtain rfl := Fin.ext hl
  rfl

/-- A row of the projection at a column. -/
def proj (h : Vec Ideal S256x2048 .bf16) (w : Vec Ideal S2048x6656 .bf16) (r : Fin 256) (c : Fin 6656) : EReal :=
  ∑ k, h (ix2 r k) * w (ix2 k c)

/-- The point's value at row `r`, group `g`, lane `l`. -/
def cellOf (h : Vec Ideal S256x2048 .bf16) (w : Vec Ideal S2048x6656 .bf16) (tab : Vec Ideal S4x256x128 .f32) (r : Fin 256) (g : Fin 52) (l : Fin 128) : EReal :=
  cell (fun g l => proj h w r ⟨g.val * 128 + l.val, by omega⟩) (fun a l => tab (ix3 a r l)) g l

/-- The retention's block: the first 32 groups. -/
def retOf (h : Vec Ideal S256x2048 .bf16) (w : Vec Ideal S2048x6656 .bf16) (tab : Vec Ideal S4x256x128 .f32) : Vec Ideal S32x256x128 .bf16 := fun i =>
  cellOf h w tab (i 1) ⟨(i 0).val, by have : (i 0).val < 32 := (i 0).isLt; omega⟩ (i 2)

/-- A block of eight groups from group `g` on, side by side, -/
def wideOf (g : ℕ) (hg : g + 8 ≤ 52) (h : Vec Ideal S256x2048 .bf16) (w : Vec Ideal S2048x6656 .bf16) (tab : Vec Ideal S4x256x128 .f32) :
    Vec Ideal S256x1024 .bf16 := fun i =>
  cellOf h w tab (i 0) ⟨g + (i 1).val / 128, by have : (i 1).val < 1024 := (i 1).isLt; omega⟩ ⟨(i 1).val % 128, by omega⟩

/-- and of two. -/
def thinOf (g : ℕ) (hg : g + 2 ≤ 52) (h : Vec Ideal S256x2048 .bf16) (w : Vec Ideal S2048x6656 .bf16) (tab : Vec Ideal S4x256x128 .f32) :
    Vec Ideal S256x256 .bf16 := fun i =>
  cellOf h w tab (i 0) ⟨g + (i 1).val / 128, by have : (i 1).val < 256 := (i 1).isLt; omega⟩ ⟨(i 1).val % 128, by omega⟩

/-- A choice by whether a lane is one of the first sixteen. -/
theorem select_lane {n : ℕ} (hn : n < 128) (a b : EReal) : Scalar.select (IntOp.cmpi .slt (BitVec.ofNat 32 n) 16#32) a b = if n < 16 then a else b := by
  have h : ∀ n : Fin 128, IntOp.cmpi .slt (BitVec.ofNat 32 n.val) 16#32 = if n.val < 16 then 1#1 else 0#1 := by decide
  have h' := h ⟨n, hn⟩
  dsimp only at h'
  rw [h']
  split_ifs <;> rfl

section
variable (h : Vec Ideal S256x2048 .bf16) (w : Vec Ideal S2048x6656 .bf16) (tab : Vec Ideal S4x256x128 .f32)
  (R r : Fin 256) (G : Fin 52) (L l : Fin 128) (c c₁ c₂ : Fin 6656)
  (hr : R.val = r.val) (hl : L.val = l.val) (hc : c.val = G.val * 128 + l.val)
include hr hl hc

theorem cellOf_rot (hg : G.val < 16) (hc₁ : c₁.val = G.val * 128 + (l.val + 64) % 128) :
    (∑ k, h (ix2 r k) * w (ix2 k c)) * tab (ix3 0 r l) + (∑ k, h (ix2 r k) * w (ix2 k c₁)) * tab (ix3 1 r l) = cellOf h w tab R G L := by
  obtain rfl := Fin.ext hr
  obtain rfl := Fin.ext hl
  obtain ⟨c, _⟩ := c
  dsimp only at hc
  subst hc
  obtain ⟨c₁, _⟩ := c₁
  dsimp only at hc₁
  subst hc₁
  rw [cellOf, cell, if_pos hg]
  rfl

theorem cellOf_plain (hg : 16 ≤ G.val ∧ G.val < 24 ∨ 42 ≤ G.val ∧ G.val < 44) : ∑ k, h (ix2 r k) * w (ix2 k c) = cellOf h w tab R G L := by
  obtain rfl := Fin.ext hr
  obtain rfl := Fin.ext hl
  obtain ⟨c, _⟩ := c
  dsimp only at hc
  subst hc
  rw [cellOf, cell, if_neg (by omega)]
  split_ifs <;> first | omega | rfl

theorem cellOf_silu (hg : 24 ≤ G.val ∧ G.val < 32 ∨ 44 ≤ G.val) :
    (∑ k, h (ix2 r k) * w (ix2 k c)) * Ideal.logistic (∑ k, h (ix2 r k) * w (ix2 k c)) = cellOf h w tab R G L := by
  obtain rfl := Fin.ext hr
  obtain rfl := Fin.ext hl
  obtain ⟨c, _⟩ := c
  dsimp only at hc
  subst hc
  rw [cellOf, cell, if_neg (by omega)]
  split_ifs <;> first | omega | rfl

theorem cellOf_key (hg : 40 ≤ G.val ∧ G.val < 42) (hc₁ : c₁.val = G.val * 128 + (l.val + 16) % 128) (hc₂ : c₂.val = G.val * 128 + (l.val + 112) % 128) :
    (∑ k, h (ix2 r k) * w (ix2 k c)) * tab (ix3 2 r l)
      + (if l.val < 16 then ∑ k, h (ix2 r k) * w (ix2 k c₁) else ∑ k, h (ix2 r k) * w (ix2 k c₂)) * tab (ix3 3 r l) = cellOf h w tab R G L := by
  obtain rfl := Fin.ext hr
  obtain rfl := Fin.ext hl
  obtain ⟨c, _⟩ := c
  dsimp only at hc
  subst hc
  obtain ⟨c₁, _⟩ := c₁
  dsimp only at hc₁
  subst hc₁
  obtain ⟨c₂, _⟩ := c₂
  dsimp only at hc₂
  subst hc₂
  rw [cellOf, cell, if_neg (show ¬G.val < 16 by omega), if_neg (show ¬G.val < 24 by omega), if_neg (show ¬G.val < 32 by omega), if_neg (show ¬G.val < 40 by omega), if_pos hg.2]
  rfl

theorem cellOf_query (hg : 32 ≤ G.val ∧ G.val < 40) (hc₁ : c₁.val = G.val * 128 + (l.val + 16) % 128) (hc₂ : c₂.val = G.val * 128 + (l.val + 112) % 128) :
    ((∑ k, h (ix2 r k) * w (ix2 k c)) * tab (ix3 2 r l)
      + (if l.val < 16 then ∑ k, h (ix2 r k) * w (ix2 k c₁) else ∑ k, h (ix2 r k) * w (ix2 k c₂)) * tab (ix3 3 r l)) * Ideal.ofBits .f32 0x3E0293EE#32
      = cellOf h w tab R G L := by
  obtain rfl := Fin.ext hr
  obtain rfl := Fin.ext hl
  obtain ⟨c, _⟩ := c
  dsimp only at hc
  subst hc
  obtain ⟨c₁, _⟩ := c₁
  dsimp only at hc₁
  subst hc₁
  obtain ⟨c₂, _⟩ := c₂
  dsimp only at hc₂
  subst hc₂
  rw [cellOf, cell, if_neg (show ¬G.val < 16 by omega), if_neg (show ¬G.val < 24 by omega), if_neg (show ¬G.val < 32 by omega), if_pos hg.2]
  rfl

end

end Cert.Kernel3Ideal.In

end
-- ==== Proof.In.Weight.lean ====
/-  The weight that the first grid point of the input projection brings into its scratch, thirteen blocks of 512 columns. -/
module

public import proofs.«01_k».proof.Proof.In.Body

@[expose] public section

set_option maxRecDepth 16384
set_option maxHeartbeats 4000000

noncomputable section

namespace Cert.Kernel3Ideal.In

open Idealize.ShloMosaic Idealize.ShloMosaic.TcCoe Idealize.ShloMosaic.Tactic
open Idealize.SL Idealize.SL.RA Idealize.SL.BI Idealize.SL.Sem
open Idealize.ShloMosaic.Pipeline
open Cert.Kernel3Ideal.Gen

variable (m : (ℓ : Loc nD τ sig) → Buf (Elt Ideal) ℓ)

/-- The weight, as the scratch holds it. -/
def wOf (c : Dev nD) : Vec Ideal S2048x6656 .bf16 := fun i => V m c main_arg1 (ix3 0 (i 0) (i 1))

theorem pay_w (c : Dev nD) (o : ℕ) (inb : ∀ a, (![0, 0, o] : Fin 3 → ℕ) a + ![1, 2048, 512] a ≤ S1x2048x6656.size a) (k k' : Fin 2048) (l : Fin 512) (l' : Fin 6656)
    (h0 : k'.val = k.val) (h1 : l'.val = o + l.val) :
    ReadAs.same.apply (View.read (Elt Ideal) ((View.whole main_arg1).slice (Rect.unit ![0, 0, o] ![1, 2048, 512] inb)) (V m c main_arg1)) (ix3 0 k l) = wOf m c (ix2 k' l') := by
  unfold wOf
  show V m c main_arg1 _ = _
  congr 1
  funext a
  apply Fin.ext
  fin_cases a
  · simp
  · simp [h0]
  · simp [h1]

/-- A weight's 512 columns from column `o` on, -/
def wCols (w : Vec Ideal S2048x6656 .bf16) (o : ℕ) (ho : o + 512 ≤ 6656) : Vec Ideal S1x2048x512 .bf16 := fun i =>
  w (ix2 (i 1) ⟨o + (i 2).val, by have : (i 2).val < 512 := (i 2).isLt; omega⟩)

/-- as a transfer brings them in. -/
theorem pay_cols (c : Dev nD) (o : ℕ) (inb : ∀ a, (![0, 0, o] : Fin 3 → ℕ) a + ![1, 2048, 512] a ≤ S1x2048x6656.size a) :
    ReadAs.same.apply (View.read (Elt Ideal) ((View.whole main_arg1).slice (Rect.unit ![0, 0, o] ![1, 2048, 512] inb)) (V m c main_arg1)) = wCols (wOf m c) o (inb 2) := by
  funext i
  obtain ⟨z, k, l, rfl⟩ : ∃ (z : Fin 1) (k : Fin 2048) (l : Fin 512), i = ix3 z k l := ⟨i 0, i 1, i 2, eq_ix3 i⟩
  obtain rfl : z = 0 := by omega
  exact pay_w m c o inb k k l _ rfl rfl

/-- The first block's rows, normed, which the first point stores in halves and reads whole. -/
theorem rowsA (x : Vec Ideal S256x2048 .f32) (nw : Vec Ideal S1x2048 .f32) :
    (View.whole cc0_scratch3).readCov
        [⟨Rect.unit ![128, 0] ![128, 2048] inb_S256x2048_S128x2048_128_0,
            k0_pay12 (k0_pay1 nw) (k0_pay9 (View.ld x (Rect.unit ![128, 0] ![128, 2048] inb_S256x2048_S128x2048_128_0)))
              (k0_pay10 (View.ld x (Rect.unit ![128, 0] ![128, 2048] inb_S256x2048_S128x2048_128_0))) k0_pay11⟩,
          ⟨Rect.unit ![0, 0] ![128, 2048] inb_S256x2048_S128x2048_0_0,
            k0_pay8 (k0_pay1 nw) (View.ld x (Rect.unit ![0, 0] ![128, 2048] inb_S256x2048_S128x2048_0_0))⟩]
        (Rect.unit ![0, 0] ![256, 2048] inb_S256x2048_S256x2048_0_0).toLoadRect = normOf x nw := by
  rw [View.readCov_eq_canon']
  funext j
  obtain ⟨r, l, rfl⟩ : ∃ (r : Fin 256) (l : Fin 2048), j = ix2 r l := ⟨j 0, j 1, eq_ix2 j⟩
  have e : (Rect.unit (s := S256x2048) ![0, 0] ![256, 2048] inb_S256x2048_S256x2048_0_0).emb (ix2 r l) = ix2 r l := by
    funext a
    apply Fin.ext
    refine (Rect.idx_unit_val ..).trans ?_
    fin_cases a <;> simp
  refine (congrArg (View.canon _) e).trans ?_
  canon_tiles y k
  all_goals
    change r.val = _ at k0
    change l.val = _ at k1
    open_payloads
    pointwise
    exact normOf_at x nw _ _ _ _ k0 k1

/-- The first point leaves in its scratch the weight. -/
theorem outA_w (c : Dev nD) (t : Fin cfg0.N) (h0 : t.val % 64 = 0) (h1 : ¬1 ≤ t.val) (h2 : ¬t.val % 2 = 1) :
    (outsAt0 m c t.val t.isLt).2.2.2.2.2.1 = wOf m c := by
  rw [outsAt0_A m c t h0 h1 h2]
  frame_open
  simp (disch := decide) only [↓ View.readCov_skip, ↓ View.readCov_cons_toLoadRect, ↓ View.readCov_fill]
  frame_out
  funext y
  obtain ⟨r, l, rfl⟩ : ∃ r l, y = ix2 r l := ⟨y 0, y 1, eq_ix2 y⟩
  canon_tiles y k
  all_goals
    change r.val = _ at k0
    change l.val = _ at k1
    open_payloads
    pointwise
    first | exact pay_w m c _ _ _ _ _ _ k0 k1 | exact pay_w m c _ _ _ _ _ _ k0 (k1.trans (Nat.zero_add _).symm)

end Cert.Kernel3Ideal.In

end
-- ==== Proof.In.RetA.lean ====
/-  The retention's block at the first grid point, which brings the weight in. -/
module

public import proofs.«01_k».proof.Proof.In.Weight

@[expose] public section

set_option maxRecDepth 16384
set_option maxHeartbeats 4000000

noncomputable section

namespace Cert.Kernel3Ideal.In

open Idealize.ShloMosaic Idealize.ShloMosaic.TcCoe Idealize.ShloMosaic.Tactic
open Idealize.SL Idealize.SL.RA Idealize.SL.BI Idealize.SL.Sem
open Idealize.ShloMosaic.Pipeline
open Cert.Kernel3Ideal.Gen

variable (m : (ℓ : Loc nD τ sig) → Buf (Elt Ideal) ℓ)

/-- The first point leaves the retention's block of its rows. -/
theorem outA_ret (c : Dev nD) (t : Fin cfg0.N) (h0 : t.val % 64 = 0) (h1 : ¬1 ≤ t.val) (h2 : ¬t.val % 2 = 1) (i : S32x256x128.Idx) :
    (outsAt0 m c t.val t.isLt).1 i
      = retOf (normOf (iblk m c 0 t) (iblk m c 2 t)) (wOf m c) (iblk m c 3 t) i := by
  rw [outsAt0_A m c t h0 h1 h2]
  frame_open
  simp (disch := decide) only [↓ View.readCov_skip, ↓ View.readCov_cons_toLoadRect, ↓ View.readCov_fill]
  frame_out
  rw [rowsA]
  repeat rw [pay_cols]
  generalize normOf (iblk m c 0 t) (iblk m c 2 t) = h
  generalize wOf m c = w
  generalize iblk m c 3 t = tab
  obtain ⟨a, r, l, rfl⟩ : ∃ a r l, i = ix3 a r l := ⟨i 0, i 1, i 2, eq_ix3 i⟩
  canon_tiles y k
  all_goals
    change a.val = _ at k0
    change r.val = _ at k1
    change l.val = _ at k2
    open_payloads
    unfold retOf
    pointwise [wCols]
    first
    | (refine cellOf_silu h w tab _ _ _ _ _ _ k1 k2 ?_ ?_ <;> dsimp only <;> omega)
    | (refine cellOf_plain h w tab _ _ _ _ _ _ k1 k2 ?_ ?_ <;> dsimp only <;> omega)
    | (refine cellOf_rot h w tab _ _ _ _ _ _ _ k1 k2 ?_ ?_ ?_ <;> dsimp only <;> omega)

end Cert.Kernel3Ideal.In

end
-- ==== Proof.In.RetB.lean ====
/-  The retention's block at the odd grid points, which read the second of the two scratches of rows. -/
module

public import proofs.«01_k».proof.Proof.In.Body

@[expose] public section

set_option maxRecDepth 16384
set_option maxHeartbeats 4000000

noncomputable section

namespace Cert.Kernel3Ideal.In

open Idealize.ShloMosaic Idealize.ShloMosaic.TcCoe Idealize.ShloMosaic.Tactic
open Idealize.SL Idealize.SL.RA Idealize.SL.BI Idealize.SL.Sem
open Idealize.ShloMosaic.Pipeline
open Cert.Kernel3Ideal.Gen

variable (m : (ℓ : Loc nD τ sig) → Buf (Elt Ideal) ℓ)

/-- An odd point leaves the retention's block of its rows. -/
theorem outB_ret (c : Dev nD) (t : Fin cfg0.N) (h0 : ¬t.val % 64 = 0) (h1 : 1 ≤ t.val) (h2 : t.val % 2 = 1) (h3 : ¬t.val % 2 = 0) (i : S32x256x128.Idx) :
    (outsAt0 m c t.val t.isLt).1 i
      = retOf (outsAt0 m c (t.val - 1) (by omega)).2.2.2.2.2.2.2 (outsAt0 m c (t.val - 1) (by omega)).2.2.2.2.2.1 (iblk m c 3 t) i := by
  rw [outsAt0_B m c t h0 h1 h2 h3]
  frame_open
  simp (disch := decide) only [↓ View.readCov_skip, ↓ View.readCov_cons_toLoadRect, ↓ View.readCov_fill]
  frame_out
  generalize iblk m c 3 t = tab
  simp only [read_unread_whole]
  generalize (outsAt0 m c (t.val - 1) _).2.2.2.2.2.2.2 = h
  generalize (outsAt0 m c (t.val - 1) _).2.2.2.2.2.1 = w
  obtain ⟨a, r, l, rfl⟩ : ∃ a r l, i = ix3 a r l := ⟨i 0, i 1, i 2, eq_ix3 i⟩
  canon_tiles y k
  all_goals
    change a.val = _ at k0
    change r.val = _ at k1
    change l.val = _ at k2
    open_payloads
    unfold retOf
    pointwise
    first
    | (refine cellOf_silu h w tab _ _ _ _ _ _ k1 k2 ?_ ?_ <;> dsimp only <;> omega)
    | (refine cellOf_plain h w tab _ _ _ _ _ _ k1 k2 ?_ ?_ <;> dsimp only <;> omega)
    | (refine cellOf_rot h w tab _ _ _ _ _ _ _ k1 k2 ?_ ?_ ?_ <;> dsimp only <;> omega)

end Cert.Kernel3Ideal.In

end
-- ==== Proof.In.RetC.lean ====
/-  The retention's block at the even grid points after the first, which read the first of the two scratches of rows. -/
module

public import proofs.«01_k».proof.Proof.In.Body

@[expose] public section

set_option maxRecDepth 16384
set_option maxHeartbeats 4000000

noncomputable section

namespace Cert.Kernel3Ideal.In

open Idealize.ShloMosaic Idealize.ShloMosaic.TcCoe Idealize.ShloMosaic.Tactic
open Idealize.SL Idealize.SL.RA Idealize.SL.BI Idealize.SL.Sem
open Idealize.ShloMosaic.Pipeline
open Cert.Kernel3Ideal.Gen

variable (m : (ℓ : Loc nD τ sig) → Buf (Elt Ideal) ℓ)

/-- A later even point leaves the retention's block of its rows. -/
theorem outC_ret (c : Dev nD) (t : Fin cfg0.N) (h0 : ¬t.val % 64 = 0) (h1 : 1 ≤ t.val) (h2 : ¬t.val % 2 = 1) (h3 : t.val % 2 = 0) (i : S32x256x128.Idx) :
    (outsAt0 m c t.val t.isLt).1 i
      = retOf (outsAt0 m c (t.val - 1) (by omega)).2.2.2.2.2.2.1 (outsAt0 m c (t.val - 1) (by omega)).2.2.2.2.2.1 (iblk m c 3 t) i := by
  rw [outsAt0_C m c t h0 h1 h2 h3]
  frame_open
  simp (disch := decide) only [↓ View.readCov_skip, ↓ View.readCov_cons_toLoadRect, ↓ View.readCov_fill]
  frame_out
  generalize iblk m c 3 t = tab
  simp only [read_unread_whole]
  generalize (outsAt0 m c (t.val - 1) _).2.2.2.2.2.2.1 = h
  generalize (outsAt0 m c (t.val - 1) _).2.2.2.2.2.1 = w
  obtain ⟨a, r, l, rfl⟩ : ∃ a r l, i = ix3 a r l := ⟨i 0, i 1, i 2, eq_ix3 i⟩
  canon_tiles y k
  all_goals
    change a.val = _ at k0
    change r.val = _ at k1
    change l.val = _ at k2
    open_payloads
    unfold retOf
    pointwise
    first
    | (refine cellOf_silu h w tab _ _ _ _ _ _ k1 k2 ?_ ?_ <;> dsimp only <;> omega)
    | (refine cellOf_plain h w tab _ _ _ _ _ _ k1 k2 ?_ ?_ <;> dsimp only <;> omega)
    | (refine cellOf_rot h w tab _ _ _ _ _ _ _ k1 k2 ?_ ?_ ?_ <;> dsimp only <;> omega)

end Cert.Kernel3Ideal.In

end
-- ==== Proof.In.RestA.lean ====
/-  The attention's blocks and the scratches at the first grid point, which brings the weight in. -/
module

public import proofs.«01_k».proof.Proof.In.Weight

@[expose] public section

set_option maxRecDepth 16384
set_option maxHeartbeats 4000000

noncomputable section

namespace Cert.Kernel3Ideal.In

open Idealize.ShloMosaic Idealize.ShloMosaic.TcCoe Idealize.ShloMosaic.Tactic
open Idealize.SL Idealize.SL.RA Idealize.SL.BI Idealize.SL.Sem
open Idealize.ShloMosaic.Pipeline
open Cert.Kernel3Ideal.Gen

variable (m : (ℓ : Loc nD τ sig) → Buf (Elt Ideal) ℓ)

/-- The first point leaves the attention's queries of its rows, -/
theorem outA_aq (c : Dev nD) (t : Fin cfg0.N) (h0 : t.val % 64 = 0) (h1 : ¬1 ≤ t.val) (h2 : ¬t.val % 2 = 1) (i : S256x1024.Idx) :
    (outsAt0 m c t.val t.isLt).2.1 i
      = wideOf 32 (by omega) (normOf (iblk m c 0 t) (iblk m c 2 t)) (wOf m c) (iblk m c 3 t) i := by
  rw [outsAt0_A m c t h0 h1 h2]
  frame_open
  simp (disch := decide) only [↓ View.readCov_skip, ↓ View.readCov_cons_toLoadRect, ↓ View.readCov_fill]
  frame_out
  rw [rowsA]
  repeat rw [pay_cols]
  generalize normOf (iblk m c 0 t) (iblk m c 2 t) = h
  generalize wOf m c = w
  generalize iblk m c 3 t = tab
  obtain ⟨r, l, rfl⟩ : ∃ r l, i = ix2 r l := ⟨i 0, i 1, eq_ix2 i⟩
  canon_tiles y k
  all_goals
    change r.val = _ at k0
    change l.val = _ at k1
    open_payloads
    unfold wideOf
    pointwise [wCols]
    simp only [select_lane (n := (y 1).val) (by omega)]
    refine cellOf_query h w tab _ _ _ _ _ _ _ _ k0 ?_ ?_ ?_ ?_ ?_ <;> dsimp only <;> omega

/-- The first point leaves the keys, -/
theorem outA_ak (c : Dev nD) (t : Fin cfg0.N) (h0 : t.val % 64 = 0) (h1 : ¬1 ≤ t.val) (h2 : ¬t.val % 2 = 1) (i : S256x256.Idx) :
    (outsAt0 m c t.val t.isLt).2.2.1 i
      = thinOf 40 (by omega) (normOf (iblk m c 0 t) (iblk m c 2 t)) (wOf m c) (iblk m c 3 t) i := by
  rw [outsAt0_A m c t h0 h1 h2]
  frame_open
  simp (disch := decide) only [↓ View.readCov_skip, ↓ View.readCov_cons_toLoadRect, ↓ View.readCov_fill]
  frame_out
  rw [rowsA]
  repeat rw [pay_cols]
  generalize normOf (iblk m c 0 t) (iblk m c 2 t) = h
  generalize wOf m c = w
  generalize iblk m c 3 t = tab
  obtain ⟨r, l, rfl⟩ : ∃ r l, i = ix2 r l := ⟨i 0, i 1, eq_ix2 i⟩
  canon_tiles y k
  all_goals
    change r.val = _ at k0
    change l.val = _ at k1
    open_payloads
    unfold thinOf
    pointwise [wCols]
    simp only [select_lane (n := (y 1).val) (by omega)]
    refine cellOf_key h w tab _ _ _ _ _ _ _ _ k0 ?_ ?_ ?_ ?_ ?_ <;> dsimp only <;> omega

/-- The first point leaves the values, -/
theorem outA_av (c : Dev nD) (t : Fin cfg0.N) (h0 : t.val % 64 = 0) (h1 : ¬1 ≤ t.val) (h2 : ¬t.val % 2 = 1) (i : S256x256.Idx) :
    (outsAt0 m c t.val t.isLt).2.2.2.1 i
      = thinOf 42 (by omega) (normOf (iblk m c 0 t) (iblk m c 2 t)) (wOf m c) (iblk m c 3 t) i := by
  rw [outsAt0_A m c t h0 h1 h2]
  frame_open
  simp (disch := decide) only [↓ View.readCov_skip, ↓ View.readCov_cons_toLoadRect, ↓ View.readCov_fill]
  frame_out
  rw [rowsA]
  repeat rw [pay_cols]
  generalize normOf (iblk m c 0 t) (iblk m c 2 t) = h
  generalize wOf m c = w
  generalize iblk m c 3 t = tab
  obtain ⟨r, l, rfl⟩ : ∃ r l, i = ix2 r l := ⟨i 0, i 1, eq_ix2 i⟩
  canon_tiles y k
  all_goals
    change r.val = _ at k0
    change l.val = _ at k1
    open_payloads
    unfold thinOf
    pointwise [wCols]
    refine cellOf_plain h w tab _ _ _ _ (y 1) _ k0 ?_ ?_ ?_ <;> dsimp only <;> omega

/-- The first point leaves and the gate. -/
theorem outA_ag (c : Dev nD) (t : Fin cfg0.N) (h0 : t.val % 64 = 0) (h1 : ¬1 ≤ t.val) (h2 : ¬t.val % 2 = 1) (i : S256x1024.Idx) :
    (outsAt0 m c t.val t.isLt).2.2.2.2.1 i
      = wideOf 44 (by omega) (normOf (iblk m c 0 t) (iblk m c 2 t)) (wOf m c) (iblk m c 3 t) i := by
  rw [outsAt0_A m c t h0 h1 h2]
  frame_open
  simp (disch := decide) only [↓ View.readCov_skip, ↓ View.readCov_cons_toLoadRect, ↓ View.readCov_fill]
  frame_out
  rw [rowsA]
  repeat rw [pay_cols]
  generalize normOf (iblk m c 0 t) (iblk m c 2 t) = h
  generalize wOf m c = w
  generalize iblk m c 3 t = tab
  obtain ⟨r, l, rfl⟩ : ∃ r l, i = ix2 r l := ⟨i 0, i 1, eq_ix2 i⟩
  canon_tiles y k
  all_goals
    change r.val = _ at k0
    change l.val = _ at k1
    open_payloads
    unfold wideOf
    pointwise [wCols]
    refine cellOf_silu h w tab _ _ _ _ (y 1) _ k0 ?_ ?_ ?_ <;> dsimp only <;> omega

/-- The first point leaves in the other scratch the next block's rows, normed, -/
theorem outA_next (c : Dev nD) (t : Fin cfg0.N) (h0 : t.val % 64 = 0) (h1 : ¬1 ≤ t.val) (h2 : ¬t.val % 2 = 1) (i : S256x2048.Idx) :
    (outsAt0 m c t.val t.isLt).2.2.2.2.2.2.2 i = normOf (iblk m c 1 t) (iblk m c 2 t) i := by
  rw [outsAt0_A m c t h0 h1 h2]
  frame_open
  simp (disch := decide) only [↓ View.readCov_skip, ↓ View.readCov_cons_toLoadRect, ↓ View.readCov_fill]
  frame_out
  generalize iblk m c 1 t = x
  generalize iblk m c 2 t = nw
  obtain ⟨r, l, rfl⟩ : ∃ r l, i = ix2 r l := ⟨i 0, i 1, eq_ix2 i⟩
  canon_tiles y k
  all_goals
    change r.val = _ at k0
    change l.val = _ at k1
    open_payloads
    pointwise [wCols]
    exact normOf_at x nw _ _ _ _ k0 k1

end Cert.Kernel3Ideal.In

end
-- ==== Proof.In.RestB.lean ====
/-  The attention's blocks and the scratches at the odd grid points, which read the second of the two scratches of rows. -/
module

public import proofs.«01_k».proof.Proof.In.Body

@[expose] public section

set_option maxRecDepth 16384
set_option maxHeartbeats 4000000

noncomputable section

namespace Cert.Kernel3Ideal.In

open Idealize.ShloMosaic Idealize.ShloMosaic.TcCoe Idealize.ShloMosaic.Tactic
open Idealize.SL Idealize.SL.RA Idealize.SL.BI Idealize.SL.Sem
open Idealize.ShloMosaic.Pipeline
open Cert.Kernel3Ideal.Gen

variable (m : (ℓ : Loc nD τ sig) → Buf (Elt Ideal) ℓ)

/-- An odd point leaves the attention's queries of its rows, -/
theorem outB_aq (c : Dev nD) (t : Fin cfg0.N) (h0 : ¬t.val % 64 = 0) (h1 : 1 ≤ t.val) (h2 : t.val % 2 = 1) (h3 : ¬t.val % 2 = 0) (i : S256x1024.Idx) :
    (outsAt0 m c t.val t.isLt).2.1 i
      = wideOf 32 (by omega) (outsAt0 m c (t.val - 1) (by omega)).2.2.2.2.2.2.2 (outsAt0 m c (t.val - 1) (by omega)).2.2.2.2.2.1 (iblk m c 3 t) i := by
  rw [outsAt0_B m c t h0 h1 h2 h3]
  frame_open
  simp (disch := decide) only [↓ View.readCov_skip, ↓ View.readCov_cons_toLoadRect, ↓ View.readCov_fill]
  frame_out
  generalize iblk m c 3 t = tab
  simp only [read_unread_whole]
  generalize (outsAt0 m c (t.val - 1) _).2.2.2.2.2.2.2 = h
  generalize (outsAt0 m c (t.val - 1) _).2.2.2.2.2.1 = w
  obtain ⟨r, l, rfl⟩ : ∃ r l, i = ix2 r l := ⟨i 0, i 1, eq_ix2 i⟩
  canon_tiles y k
  all_goals
    change r.val = _ at k0
    change l.val = _ at k1
    open_payloads
    unfold wideOf
    pointwise
    simp only [select_lane (n := (y 1).val) (by omega)]
    refine cellOf_query h w tab _ _ _ _ _ _ _ _ k0 ?_ ?_ ?_ ?_ ?_ <;> dsimp only <;> omega

/-- An odd point leaves the keys, -/
theorem outB_ak (c : Dev nD) (t : Fin cfg0.N) (h0 : ¬t.val % 64 = 0) (h1 : 1 ≤ t.val) (h2 : t.val % 2 = 1) (h3 : ¬t.val % 2 = 0) (i : S256x256.Idx) :
    (outsAt0 m c t.val t.isLt).2.2.1 i
      = thinOf 40 (by omega) (outsAt0 m c (t.val - 1) (by omega)).2.2.2.2.2.2.2 (outsAt0 m c (t.val - 1) (by omega)).2.2.2.2.2.1 (iblk m c 3 t) i := by
  rw [outsAt0_B m c t h0 h1 h2 h3]
  frame_open
  simp (disch := decide) only [↓ View.readCov_skip, ↓ View.readCov_cons_toLoadRect, ↓ View.readCov_fill]
  frame_out
  generalize iblk m c 3 t = tab
  simp only [read_unread_whole]
  generalize (outsAt0 m c (t.val - 1) _).2.2.2.2.2.2.2 = h
  generalize (outsAt0 m c (t.val - 1) _).2.2.2.2.2.1 = w
  obtain ⟨r, l, rfl⟩ : ∃ r l, i = ix2 r l := ⟨i 0, i 1, eq_ix2 i⟩
  canon_tiles y k
  all_goals
    change r.val = _ at k0
    change l.val = _ at k1
    open_payloads
    unfold thinOf
    pointwise
    simp only [select_lane (n := (y 1).val) (by omega)]
    refine cellOf_key h w tab _ _ _ _ _ _ _ _ k0 ?_ ?_ ?_ ?_ ?_ <;> dsimp only <;> omega

/-- An odd point leaves the values, -/
theorem outB_av (c : Dev nD) (t : Fin cfg0.N) (h0 : ¬t.val % 64 = 0) (h1 : 1 ≤ t.val) (h2 : t.val % 2 = 1) (h3 : ¬t.val % 2 = 0) (i : S256x256.Idx) :
    (outsAt0 m c t.val t.isLt).2.2.2.1 i
      = thinOf 42 (by omega) (outsAt0 m c (t.val - 1) (by omega)).2.2.2.2.2.2.2 (outsAt0 m c (t.val - 1) (by omega)).2.2.2.2.2.1 (iblk m c 3 t) i := by
  rw [outsAt0_B m c t h0 h1 h2 h3]
  frame_open
  simp (disch := decide) only [↓ View.readCov_skip, ↓ View.readCov_cons_toLoadRect, ↓ View.readCov_fill]
  frame_out
  generalize iblk m c 3 t = tab
  simp only [read_unread_whole]
  generalize (outsAt0 m c (t.val - 1) _).2.2.2.2.2.2.2 = h
  generalize (outsAt0 m c (t.val - 1) _).2.2.2.2.2.1 = w
  obtain ⟨r, l, rfl⟩ : ∃ r l, i = ix2 r l := ⟨i 0, i 1, eq_ix2 i⟩
  canon_tiles y k
  all_goals
    change r.val = _ at k0
    change l.val = _ at k1
    open_payloads
    unfold thinOf
    pointwise
    refine cellOf_plain h w tab _ _ _ _ (y 1) _ k0 ?_ ?_ ?_ <;> dsimp only <;> omega

/-- An odd point leaves and the gate. -/
theorem outB_ag (c : Dev nD) (t : Fin cfg0.N) (h0 : ¬t.val % 64 = 0) (h1 : 1 ≤ t.val) (h2 : t.val % 2 = 1) (h3 : ¬t.val % 2 = 0) (i : S256x1024.Idx) :
    (outsAt0 m c t.val t.isLt).2.2.2.2.1 i
      = wideOf 44 (by omega) (outsAt0 m c (t.val - 1) (by omega)).2.2.2.2.2.2.2 (outsAt0 m c (t.val - 1) (by omega)).2.2.2.2.2.1 (iblk m c 3 t) i := by
  rw [outsAt0_B m c t h0 h1 h2 h3]
  frame_open
  simp (disch := decide) only [↓ View.readCov_skip, ↓ View.readCov_cons_toLoadRect, ↓ View.readCov_fill]
  frame_out
  generalize iblk m c 3 t = tab
  simp only [read_unread_whole]
  generalize (outsAt0 m c (t.val - 1) _).2.2.2.2.2.2.2 = h
  generalize (outsAt0 m c (t.val - 1) _).2.2.2.2.2.1 = w
  obtain ⟨r, l, rfl⟩ : ∃ r l, i = ix2 r l := ⟨i 0, i 1, eq_ix2 i⟩
  canon_tiles y k
  all_goals
    change r.val = _ at k0
    change l.val = _ at k1
    open_payloads
    unfold wideOf
    pointwise
    refine cellOf_silu h w tab _ _ _ _ (y 1) _ k0 ?_ ?_ ?_ <;> dsimp only <;> omega

/-- An odd point leaves in the other scratch the next block's rows, normed, -/
theorem outB_next (c : Dev nD) (t : Fin cfg0.N) (h0 : ¬t.val % 64 = 0) (h1 : 1 ≤ t.val) (h2 : t.val % 2 = 1) (h3 : ¬t.val % 2 = 0) (i : S256x2048.Idx) :
    (outsAt0 m c t.val t.isLt).2.2.2.2.2.2.1 i = normOf (iblk m c 1 t) (iblk m c 2 t) i := by
  rw [outsAt0_B m c t h0 h1 h2 h3]
  frame_open
  simp (disch := decide) only [↓ View.readCov_skip, ↓ View.readCov_cons_toLoadRect, ↓ View.readCov_fill]
  frame_out
  generalize iblk m c 1 t = x
  generalize iblk m c 2 t = nw
  obtain ⟨r, l, rfl⟩ : ∃ r l, i = ix2 r l := ⟨i 0, i 1, eq_ix2 i⟩
  canon_tiles y k
  all_goals
    change r.val = _ at k0
    change l.val = _ at k1
    open_payloads
    pointwise
    exact normOf_at x nw _ _ _ _ k0 k1

/-- and the weight as it was. -/
theorem outB_w (c : Dev nD) (t : Fin cfg0.N) (h0 : ¬t.val % 64 = 0) (h1 : 1 ≤ t.val) (h2 : t.val % 2 = 1) (h3 : ¬t.val % 2 = 0) :
    (outsAt0 m c t.val t.isLt).2.2.2.2.2.1 = (outsAt0 m c (t.val - 1) (by omega)).2.2.2.2.2.1 := by
  rw [outsAt0_B m c t h0 h1 h2 h3]
  frame_open
  rfl

end Cert.Kernel3Ideal.In

end
-- ==== Proof.In.RestC.lean ====
/-  The attention's blocks and the scratches at the even grid points after the first, which read the first of the two scratches of rows. -/
module

public import proofs.«01_k».proof.Proof.In.Body

@[expose] public section

set_option maxRecDepth 16384
set_option maxHeartbeats 4000000

noncomputable section

namespace Cert.Kernel3Ideal.In

open Idealize.ShloMosaic Idealize.ShloMosaic.TcCoe Idealize.ShloMosaic.Tactic
open Idealize.SL Idealize.SL.RA Idealize.SL.BI Idealize.SL.Sem
open Idealize.ShloMosaic.Pipeline
open Cert.Kernel3Ideal.Gen

variable (m : (ℓ : Loc nD τ sig) → Buf (Elt Ideal) ℓ)

/-- A later even point leaves the attention's queries of its rows, -/
theorem outC_aq (c : Dev nD) (t : Fin cfg0.N) (h0 : ¬t.val % 64 = 0) (h1 : 1 ≤ t.val) (h2 : ¬t.val % 2 = 1) (h3 : t.val % 2 = 0) (i : S256x1024.Idx) :
    (outsAt0 m c t.val t.isLt).2.1 i
      = wideOf 32 (by omega) (outsAt0 m c (t.val - 1) (by omega)).2.2.2.2.2.2.1 (outsAt0 m c (t.val - 1) (by omega)).2.2.2.2.2.1 (iblk m c 3 t) i := by
  rw [outsAt0_C m c t h0 h1 h2 h3]
  frame_open
  simp (disch := decide) only [↓ View.readCov_skip, ↓ View.readCov_cons_toLoadRect, ↓ View.readCov_fill]
  frame_out
  generalize iblk m c 3 t = tab
  simp only [read_unread_whole]
  generalize (outsAt0 m c (t.val - 1) _).2.2.2.2.2.2.1 = h
  generalize (outsAt0 m c (t.val - 1) _).2.2.2.2.2.1 = w
  obtain ⟨r, l, rfl⟩ : ∃ r l, i = ix2 r l := ⟨i 0, i 1, eq_ix2 i⟩
  canon_tiles y k
  all_goals
    change r.val = _ at k0
    change l.val = _ at k1
    open_payloads
    unfold wideOf
    pointwise
    simp only [select_lane (n := (y 1).val) (by omega)]
    refine cellOf_query h w tab _ _ _ _ _ _ _ _ k0 ?_ ?_ ?_ ?_ ?_ <;> dsimp only <;> omega

/-- A later even point leaves the keys, -/
theorem outC_ak (c : Dev nD) (t : Fin cfg0.N) (h0 : ¬t.val % 64 = 0) (h1 : 1 ≤ t.val) (h2 : ¬t.val % 2 = 1) (h3 : t.val % 2 = 0) (i : S256x256.Idx) :
    (outsAt0 m c t.val t.isLt).2.2.1 i
      = thinOf 40 (by omega) (outsAt0 m c (t.val - 1) (by omega)).2.2.2.2.2.2.1 (outsAt0 m c (t.val - 1) (by omega)).2.2.2.2.2.1 (iblk m c 3 t) i := by
  rw [outsAt0_C m c t h0 h1 h2 h3]
  frame_open
  simp (disch := decide) only [↓ View.readCov_skip, ↓ View.readCov_cons_toLoadRect, ↓ View.readCov_fill]
  frame_out
  generalize iblk m c 3 t = tab
  simp only [read_unread_whole]
  generalize (outsAt0 m c (t.val - 1) _).2.2.2.2.2.2.1 = h
  generalize (outsAt0 m c (t.val - 1) _).2.2.2.2.2.1 = w
  obtain ⟨r, l, rfl⟩ : ∃ r l, i = ix2 r l := ⟨i 0, i 1, eq_ix2 i⟩
  canon_tiles y k
  all_goals
    change r.val = _ at k0
    change l.val = _ at k1
    open_payloads
    unfold thinOf
    pointwise
    simp only [select_lane (n := (y 1).val) (by omega)]
    refine cellOf_key h w tab _ _ _ _ _ _ _ _ k0 ?_ ?_ ?_ ?_ ?_ <;> dsimp only <;> omega

/-- A later even point leaves the values, -/
theorem outC_av (c : Dev nD) (t : Fin cfg0.N) (h0 : ¬t.val % 64 = 0) (h1 : 1 ≤ t.val) (h2 : ¬t.val % 2 = 1) (h3 : t.val % 2 = 0) (i : S256x256.Idx) :
    (outsAt0 m c t.val t.isLt).2.2.2.1 i
      = thinOf 42 (by omega) (outsAt0 m c (t.val - 1) (by omega)).2.2.2.2.2.2.1 (outsAt0 m c (t.val - 1) (by omega)).2.2.2.2.2.1 (iblk m c 3 t) i := by
  rw [outsAt0_C m c t h0 h1 h2 h3]
  frame_open
  simp (disch := decide) only [↓ View.readCov_skip, ↓ View.readCov_cons_toLoadRect, ↓ View.readCov_fill]
  frame_out
  generalize iblk m c 3 t = tab
  simp only [read_unread_whole]
  generalize (outsAt0 m c (t.val - 1) _).2.2.2.2.2.2.1 = h
  generalize (outsAt0 m c (t.val - 1) _).2.2.2.2.2.1 = w
  obtain ⟨r, l, rfl⟩ : ∃ r l, i = ix2 r l := ⟨i 0, i 1, eq_ix2 i⟩
  canon_tiles y k
  all_goals
    change r.val = _ at k0
    change l.val = _ at k1
    open_payloads
    unfold thinOf
    pointwise
    refine cellOf_plain h w tab _ _ _ _ (y 1) _ k0 ?_ ?_ ?_ <;> dsimp only <;> omega

/-- A later even point leaves and the gate. -/
theorem outC_ag (c : Dev nD) (t : Fin cfg0.N) (h0 : ¬t.val % 64 = 0) (h1 : 1 ≤ t.val) (h2 : ¬t.val % 2 = 1) (h3 : t.val % 2 = 0) (i : S256x1024.Idx) :
    (outsAt0 m c t.val t.isLt).2.2.2.2.1 i
      = wideOf 44 (by omega) (outsAt0 m c (t.val - 1) (by omega)).2.2.2.2.2.2.1 (outsAt0 m c (t.val - 1) (by omega)).2.2.2.2.2.1 (iblk m c 3 t) i := by
  rw [outsAt0_C m c t h0 h1 h2 h3]
  frame_open
  simp (disch := decide) only [↓ View.readCov_skip, ↓ View.readCov_cons_toLoadRect, ↓ View.readCov_fill]
  frame_out
  generalize iblk m c 3 t = tab
  simp only [read_unread_whole]
  generalize (outsAt0 m c (t.val - 1) _).2.2.2.2.2.2.1 = h
  generalize (outsAt0 m c (t.val - 1) _).2.2.2.2.2.1 = w
  obtain ⟨r, l, rfl⟩ : ∃ r l, i = ix2 r l := ⟨i 0, i 1, eq_ix2 i⟩
  canon_tiles y k
  all_goals
    change r.val = _ at k0
    change l.val = _ at k1
    open_payloads
    unfold wideOf
    pointwise
    refine cellOf_silu h w tab _ _ _ _ (y 1) _ k0 ?_ ?_ ?_ <;> dsimp only <;> omega

/-- A later even point leaves in the other scratch the next block's rows, normed, -/
theorem outC_next (c : Dev nD) (t : Fin cfg0.N) (h0 : ¬t.val % 64 = 0) (h1 : 1 ≤ t.val) (h2 : ¬t.val % 2 = 1) (h3 : t.val % 2 = 0) (i : S256x2048.Idx) :
    (outsAt0 m c t.val t.isLt).2.2.2.2.2.2.2 i = normOf (iblk m c 1 t) (iblk m c 2 t) i := by
  rw [outsAt0_C m c t h0 h1 h2 h3]
  frame_open
  simp (disch := decide) only [↓ View.readCov_skip, ↓ View.readCov_cons_toLoadRect, ↓ View.readCov_fill]
  frame_out
  generalize iblk m c 1 t = x
  generalize iblk m c 2 t = nw
  obtain ⟨r, l, rfl⟩ : ∃ r l, i = ix2 r l := ⟨i 0, i 1, eq_ix2 i⟩
  canon_tiles y k
  all_goals
    change r.val = _ at k0
    change l.val = _ at k1
    open_payloads
    pointwise
    exact normOf_at x nw _ _ _ _ k0 k1

/-- and the weight as it was. -/
theorem outC_w (c : Dev nD) (t : Fin cfg0.N) (h0 : ¬t.val % 64 = 0) (h1 : 1 ≤ t.val) (h2 : ¬t.val % 2 = 1) (h3 : t.val % 2 = 0) :
    (outsAt0 m c t.val t.isLt).2.2.2.2.2.1 = (outsAt0 m c (t.val - 1) (by omega)).2.2.2.2.2.1 := by
  rw [outsAt0_C m c t h0 h1 h2 h3]
  frame_open
  rfl

end Cert.Kernel3Ideal.In

end
-- ==== Proof.In.Tables.lean ====
/-  The rotation's rows as the host code of the input projection computes them, element by element. -/
module

public import proofs.«01_k».proof.Proof.In.Body
public import Idealize.ShloMosaic.Lib.StableHlo.ReadAt
public import Idealize.ShloMosaic.Lib.Pointwise

@[expose] public section

set_option maxRecDepth 16384
set_option maxHeartbeats 4000000

noncomputable section

namespace Cert.Kernel3Ideal.In

open Idealize.ShloMosaic Idealize.ShloMosaic.TcCoe Idealize.ShloMosaic.Tactic
open Idealize.ShloMosaic.Pipeline
open Cert.Kernel3Ideal.Gen
open Cert.In

variable (m : (ℓ : Loc nD τ sig) → Buf (Elt Ideal) ℓ)

/-- The constant 64. -/
theorem ofBits_64 : Ideal.ofBits .f32 0x42800000#32 = ((64 : ℝ) : EReal) := by
  simp [Ideal.ofBits, Ideal.ieee]; norm_cast; norm_num

/-- The cosine of a sum, as it is computed of a row's two parts, -/
theorem cos_split (a b : ℕ) (f : ℝ) (F : EReal) (hF : F = (f : EReal)) (ha : a < 64) (hb : b < 64) :
    Ideal.cos (FloatOps.sitofp (F := Ideal) .f32 (BitVec.ofNat 32 a) * Ideal.ofBits .f32 0x42800000#32 * F) * Ideal.cos (FloatOps.sitofp (F := Ideal) .f32 (BitVec.ofNat 32 b) * F)
      - Ideal.sin (FloatOps.sitofp (F := Ideal) .f32 (BitVec.ofNat 32 a) * Ideal.ofBits .f32 0x42800000#32 * F) * Ideal.sin (FloatOps.sitofp (F := Ideal) .f32 (BitVec.ofNat 32 b) * F)
      = (Real.cos ((a * 64 + b : ℕ) * f) : EReal) := by
  rw [hF, nat_f32 (by omega), nat_f32 (by omega), ofBits_64, ← EReal.coe_mul, ← EReal.coe_mul, ← EReal.coe_mul, Ideal.cos_coe, Ideal.cos_coe, Ideal.sin_coe, Ideal.sin_coe,
    ← EReal.coe_mul, ← EReal.coe_mul, ← EReal.coe_sub, ← Real.cos_add]
  congr 2
  push_cast
  ring

/-- and the sine. -/
theorem sin_split (a b : ℕ) (f : ℝ) (F : EReal) (hF : F = (f : EReal)) (ha : a < 64) (hb : b < 64) :
    Ideal.sin (FloatOps.sitofp (F := Ideal) .f32 (BitVec.ofNat 32 a) * Ideal.ofBits .f32 0x42800000#32 * F) * Ideal.cos (FloatOps.sitofp (F := Ideal) .f32 (BitVec.ofNat 32 b) * F)
      + Ideal.cos (FloatOps.sitofp (F := Ideal) .f32 (BitVec.ofNat 32 a) * Ideal.ofBits .f32 0x42800000#32 * F) * Ideal.sin (FloatOps.sitofp (F := Ideal) .f32 (BitVec.ofNat 32 b) * F)
      = (Real.sin ((a * 64 + b : ℕ) * f) : EReal) := by
  rw [hF, nat_f32 (by omega), nat_f32 (by omega), ofBits_64, ← EReal.coe_mul, ← EReal.coe_mul, ← EReal.coe_mul, Ideal.cos_coe, Ideal.cos_coe, Ideal.sin_coe, Ideal.sin_coe,
    ← EReal.coe_mul, ← EReal.coe_mul, ← EReal.coe_add, ← Real.sin_add]
  congr 2
  push_cast
  ring

section
variable (c : Dev nD) (a b : Fin 64)

/-- The retention's cosines at position 64·a + b, -/
theorem v36_apply (j : Fin 64) : V m c main_v36 (ix2 ⟨a.val * 64 + b.val, by omega⟩ j) = (Real.cos ((a.val * 64 + b.val : ℕ) * freq64 j.val) : EReal) := by
  unfold V
  after_reads_at
  exact cos_split _ _ _ _ (pow64 j.isLt) a.isLt b.isLt

/-- its sines, -/
theorem v44_apply (j : Fin 64) : V m c main_v44 (ix2 ⟨a.val * 64 + b.val, by omega⟩ j) = (Real.sin ((a.val * 64 + b.val : ℕ) * freq64 j.val) : EReal) := by
  unfold V
  after_reads_at
  exact sin_split _ _ _ _ (pow64 j.isLt) a.isLt b.isLt

/-- the attention's cosines -/
theorem v79_apply (j : Fin 16) : V m c main_v79 (ix2 ⟨a.val * 64 + b.val, by omega⟩ j) = (Real.cos ((a.val * 64 + b.val : ℕ) * freq16 j.val) : EReal) := by
  unfold V
  after_reads_at
  exact cos_split _ _ _ _ (pow16 j.isLt) a.isLt b.isLt

/-- and its sines. -/
theorem v87_apply (j : Fin 16) : V m c main_v87 (ix2 ⟨a.val * 64 + b.val, by omega⟩ j) = (Real.sin ((a.val * 64 + b.val : ℕ) * freq16 j.val) : EReal) := by
  unfold V
  after_reads_at
  exact sin_split _ _ _ _ (pow16 j.isLt) a.isLt b.isLt

end

section
variable (c : Dev nD) (n : Fin 4096) (l : Fin 128)

/-- The retention's row of cosines among the four, -/
theorem v101_0 : V m c main_v101 (ix3 0 n l) = V m c main_v89 (ix2 n l) := by
  generalize hz : V m c main_v89 = z
  unfold V at hz ⊢
  after_reads_at
  rw [StableHlo.unary_result']
  simp only [StableHlo.readAfter] at hz
  simp only [StableHlo.readUpto]
  rw [hz]
  pointwise

/-- and its row of sines. -/
theorem v101_1 : V m c main_v101 (ix3 1 n l) = V m c main_v91 (ix2 n l) := by
  generalize hz : V m c main_v91 = z
  unfold V at hz ⊢
  after_reads_at
  rw [StableHlo.unary_result']
  simp only [StableHlo.readAfter] at hz
  simp only [StableHlo.readUpto]
  rw [hz]
  pointwise

/-- The row of cosines is the 64 angles' cosines twice. -/
theorem v89_apply : V m c main_v89 (ix2 n l) = if h : l.val < 64 then V m c main_v36 (ix2 n ⟨l.val, h⟩) else V m c main_v36 (ix2 n ⟨l.val - 64, by omega⟩) := by
  generalize hz : V m c main_v36 = z
  unfold V at hz ⊢
  simp only [StableHlo.readAfter] at hz ⊢
  rw [StableHlo.binary_result', show StableHlo.upto hostOps0 (fun b => m (c, b)) 96 (Proc.tc.devRef main_v36) = z from by simp only [StableHlo.readUpto]; exact hz]
  pointwise

/-- The row of sines is the 64 angles' sines, negated and plain. -/
theorem v91_apply : V m c main_v91 (ix2 n l) = if h : l.val < 64 then Neg.neg (α := EReal) (V m c main_v44 (ix2 n ⟨l.val, h⟩)) else V m c main_v44 (ix2 n ⟨l.val - 64, by omega⟩) := by
  generalize hz : V m c main_v44 = z
  unfold V at hz ⊢
  simp only [StableHlo.readAfter] at hz ⊢
  rw [StableHlo.binary_result', show StableHlo.upto hostOps0 (fun b => m (c, b)) 98 (Proc.tc.devRef main_v44) = z from by simp only [StableHlo.readUpto]; exact hz]
  pointwise
  by_cases h : l.val < 64
  · rw [dif_pos h, dif_pos h]
    simp only [StableHlo.readUpto]
    rw [StableHlo.unary_result']
    simp only [StableHlo.readUpto]
    rw [hz]
    rfl
  · rw [dif_neg h, dif_neg h]

/-- The attention's row of cosines is the 16 angles' twice, then the lanes that do not rotate. -/
theorem v101_2 : V m c main_v101 (ix3 2 n l) = if h : l.val < 16 then V m c main_v79 (ix2 n ⟨l.val, h⟩) else if h' : l.val - 16 < 16 then V m c main_v79 (ix2 n ⟨l.val - 16, h'⟩)
    else V m c main_v93 (ix2 n ⟨l.val - 16 - 16, by omega⟩) := by
  generalize hz : V m c main_v79 = z
  generalize hy : V m c main_v93 = y
  unfold V at hz hy ⊢
  simp only [StableHlo.readAfter] at hz hy
  after_reads_at
  after_reads_at
  simp only [StableHlo.readUpto]
  rw [hz, hy]

/-- The attention's row of sines is the 16 angles', negated and plain, then the lanes that do not rotate. -/
theorem v101_3 : V m c main_v101 (ix3 3 n l) = if h : l.val < 16 then Neg.neg (α := EReal) (V m c main_v87 (ix2 n ⟨l.val, h⟩)) else if h' : l.val - 16 < 16 then V m c main_v87 (ix2 n ⟨l.val - 16, h'⟩)
    else V m c main_v88 (ix2 n ⟨l.val - 16 - 16, by omega⟩) := by
  generalize hz : V m c main_v87 = z
  generalize hy : V m c main_v88 = y
  unfold V at hz hy ⊢
  simp only [StableHlo.readAfter] at hz hy
  after_reads_at
  after_reads_at
  simp only [StableHlo.readUpto]
  rw [StableHlo.unary_result']
  simp only [StableHlo.readUpto]
  rw [hz, hy]
  rfl

/-- The lanes that do not rotate: sine 0 -/
theorem v88_apply (j : Fin 96) : V m c main_v88 (ix2 n j) = (0 : EReal) := by
  unfold V
  after_reads_at

/-- and cosine 1. -/
theorem v93_apply (j : Fin 96) : V m c main_v93 (ix2 n j) = (1 : EReal) := by
  unfold V
  after_reads_at

/-- The first row of the table, -/
theorem tab0 : V m c main_v101 (ix3 0 n l) = rotTab n.val 0 l := by
  rw [v101_0, v89_apply]
  obtain ⟨a, b, hn⟩ : ∃ a b : Fin 64, n = ⟨a.val * 64 + b.val, by omega⟩ := ⟨⟨n.val / 64, by omega⟩, ⟨n.val % 64, by omega⟩, Fin.ext (by dsimp only; omega)⟩
  subst hn
  show _ = ((cosRet (a.val * 64 + b.val) l.val : ℝ) : EReal)
  unfold cosRet
  by_cases h : l.val < 64
  · rw [dif_pos h, v36_apply, Nat.mod_eq_of_lt h]
  · rw [dif_neg h, v36_apply, show l.val % 64 = l.val - 64 by omega]

/-- the second, -/
theorem tab1 : V m c main_v101 (ix3 1 n l) = rotTab n.val 1 l := by
  rw [v101_1, v91_apply]
  obtain ⟨a, b, hn⟩ : ∃ a b : Fin 64, n = ⟨a.val * 64 + b.val, by omega⟩ := ⟨⟨n.val / 64, by omega⟩, ⟨n.val % 64, by omega⟩, Fin.ext (by dsimp only; omega)⟩
  subst hn
  show _ = ((sinRet (a.val * 64 + b.val) l.val : ℝ) : EReal)
  unfold sinRet
  by_cases h : l.val < 64
  · rw [dif_pos h, if_pos h, v44_apply, Nat.mod_eq_of_lt h, EReal.coe_neg]
  · rw [dif_neg h, if_neg h, v44_apply, show l.val % 64 = l.val - 64 by omega]

/-- the third -/
theorem tab2 : V m c main_v101 (ix3 2 n l) = rotTab n.val 2 l := by
  rw [v101_2]
  obtain ⟨a, b, hn⟩ : ∃ a b : Fin 64, n = ⟨a.val * 64 + b.val, by omega⟩ := ⟨⟨n.val / 64, by omega⟩, ⟨n.val % 64, by omega⟩, Fin.ext (by dsimp only; omega)⟩
  subst hn
  show _ = ((cosAtt (a.val * 64 + b.val) l.val : ℝ) : EReal)
  unfold cosAtt
  by_cases h : l.val < 16
  · rw [dif_pos h, if_pos (by omega), v79_apply, Nat.mod_eq_of_lt h]
  rw [dif_neg h]
  by_cases h' : l.val - 16 < 16
  · rw [dif_pos h', if_pos (by omega), v79_apply, show l.val % 16 = l.val - 16 by omega]
  · rw [dif_neg h', if_neg (by omega), v93_apply, EReal.coe_one]

/-- and the fourth. -/
theorem tab3 : V m c main_v101 (ix3 3 n l) = rotTab n.val 3 l := by
  rw [v101_3]
  obtain ⟨a, b, hn⟩ : ∃ a b : Fin 64, n = ⟨a.val * 64 + b.val, by omega⟩ := ⟨⟨n.val / 64, by omega⟩, ⟨n.val % 64, by omega⟩, Fin.ext (by dsimp only; omega)⟩
  subst hn
  show _ = ((sinAtt (a.val * 64 + b.val) l.val : ℝ) : EReal)
  unfold sinAtt
  by_cases h : l.val < 16
  · rw [dif_pos h, if_pos h, v87_apply, Nat.mod_eq_of_lt h, EReal.coe_neg]
  rw [dif_neg h, if_neg h]
  by_cases h' : l.val - 16 < 16
  · rw [dif_pos h', if_pos (by omega), v87_apply, show l.val % 16 = l.val - 16 by omega]
  · rw [dif_neg h', if_neg (by omega), v88_apply, EReal.coe_zero]

/-- All four rows. -/
theorem tab_apply (a : Fin 4) : V m c main_v101 (ix3 a n l) = rotTab n.val a l := by
  match a with
  | ⟨0, _⟩ => exact tab0 m c n l
  | ⟨1, _⟩ => exact tab1 m c n l
  | ⟨2, _⟩ => exact tab2 m c n l
  | ⟨3, _⟩ => exact tab3 m c n l

end

end Cert.Kernel3Ideal.In

end
-- ==== Proof.In.RefValue.lean ====
/-  The plain input projection's results, element by element. -/
module

public import proofs.«01_k».proof.Proof.In.Cell
public import proofs.«01_k».proof.Proof.Gen.Reference3Ideal.Read
public import Idealize.ShloMosaic.Lib.Pointwise

@[expose] public section

set_option maxRecDepth 16384
set_option maxHeartbeats 4000000

noncomputable section

namespace Cert.Reference3Ideal.In

open Idealize.ShloMosaic Idealize.ShloMosaic.Tactic
open Cert.In
open Cert.Reference3Ideal.Read

variable (x0 : (⟨S4x4096x2048, .f32⟩ : BufTy).Contents (Elt Ideal)) (x1 : (⟨S1x2048x6656, .f32⟩ : BufTy).Contents (Elt Ideal))
  (x2 : (⟨S1x2048, .f32⟩ : BufTy).Contents (Elt Ideal))

/-- The normed row at a column. -/
def hRow (b : Fin 4) (n : Fin 4096) (k : Fin 2048) : EReal :=
  x0 (ix3 b n k) * Ideal.rsqrt (Ideal.div (∑ k, x0 (ix3 b n k) * x0 (ix3 b n k)) (Ideal.ofBits .f32 0x45000000#32) + Ideal.ofBits .f32 0x358637BD#32)
    * x2 (ix2 0 k)

/-- Its projection at a column. -/
def pRow (b : Fin 4) (n : Fin 4096) (c : Fin 6656) : EReal := ∑ k, hRow x0 x2 b n k * x1 (ix3 0 k c)

/-- The projection in groups of lanes. -/
def gRow (b : Fin 4) (n : Fin 4096) (g : Fin 52) (l : Fin 128) : EReal := pRow x0 x1 x2 b n ⟨g.val * 128 + l.val, by omega⟩

theorem v13_apply (b : Fin 4) (n : Fin 4096) (k : Fin 2048) :
    val_main_v13 (F := Ideal) x0 x2 (ix3 b n k) = hRow x0 x2 b n k := by
  unfold hRow
  pointwise [val_main_v13, val_main_v12, val_main_v11, val_main_v10, val_main_v9, val_main_v8, val_main_v7, val_main_v6, val_main_v5, val_main_cst_1, val_main_v4, val_main_v3, val_main_cst_0, val_main_v2, val_main_v1, val_main_cst, val_main_v0]

theorem v15_apply (b : Fin 4) (n : Fin 4096) (c : Fin 6656) :
    val_main_v15 (F := Ideal) x0 x1 x2 (ix3 b n c) = pRow x0 x1 x2 b n c := by
  unfold pRow
  simp only [← v13_apply]
  pointwise [val_main_v15, val_main_v14]

theorem p_at (b : Fin 4) (n : Fin 4096) (g : Fin 52) (l : Fin 128) (c : Fin 6656) (h : c.val = g.val * 128 + l.val) :
    pRow x0 x1 x2 b n c = gRow x0 x1 x2 b n g l := congrArg _ (Fin.ext h)

theorem v36_apply (n : Fin 4096) (j : Fin 64) : val_main_v36 (F := Ideal) (ix2 n j) = ((n.val * freq64 j.val : ℝ) : EReal) := by
  pointwise [val_main_v36, val_main_v35, val_main_v34, val_main_v33, val_main_v32, val_main_v31, val_main_v30, val_main_v29, val_main_cst_3, val_main_v28, val_main_v27, val_main_cst_2, val_main_v26, val_main_v25]
  rw [pow64 j.isLt, nat_f32 n.isLt, EReal.coe_mul]

theorem v67_apply (n : Fin 4096) (j : Fin 64) : val_main_v67 (F := Ideal) (ix2 n j) = ((n.val * freq64 j.val : ℝ) : EReal) := by
  pointwise [val_main_v67, val_main_v66, val_main_v65, val_main_v64, val_main_v63, val_main_v62, val_main_v61, val_main_v60, val_main_cst_5, val_main_v59, val_main_v58, val_main_cst_4, val_main_v57, val_main_v56]
  rw [pow64 j.isLt, nat_f32 n.isLt, EReal.coe_mul]

theorem v98_apply (n : Fin 4096) (j : Fin 16) : val_main_v98 (F := Ideal) (ix2 n j) = ((n.val * freq16 j.val : ℝ) : EReal) := by
  pointwise [val_main_v98, val_main_v97, val_main_v96, val_main_v95, val_main_v94, val_main_v93, val_main_v92, val_main_v91, val_main_cst_7, val_main_v90, val_main_v89, val_main_cst_6, val_main_v88, val_main_v87]
  rw [pow16 j.isLt, nat_f32 n.isLt, EReal.coe_mul]

theorem v131_apply (n : Fin 4096) (j : Fin 16) : val_main_v131 (F := Ideal) (ix2 n j) = ((n.val * freq16 j.val : ℝ) : EReal) := by
  pointwise [val_main_v131, val_main_v130, val_main_v129, val_main_v128, val_main_v127, val_main_v126, val_main_v125, val_main_v124, val_main_cst_10, val_main_v123, val_main_v122, val_main_cst_9, val_main_v121, val_main_v120]
  rw [pow16 j.isLt, nat_f32 n.isLt, EReal.coe_mul]

section
variable (a : Fin 52 → Fin 128 → EReal) (t : Fin 4 → Fin 128 → EReal) (g : Fin 52) (l : Fin 128)

theorem cell_plain (hg : 16 ≤ g.val ∧ g.val < 24 ∨ 42 ≤ g.val ∧ g.val < 44) : cell a t g l = a g l := by
  rw [cell, if_neg (by omega)]
  split_ifs <;> first | omega | rfl

theorem cell_silu (hg : 24 ≤ g.val ∧ g.val < 32 ∨ 44 ≤ g.val) : cell a t g l = a g l * Ideal.logistic (a g l) := by
  rw [cell, if_neg (by omega)]
  split_ifs <;> first | omega | rfl

theorem cell_key (hg : 40 ≤ g.val ∧ g.val < 42) :
    cell a t g l = a g l * t 2 l + (if l.val < 16 then a g ⟨(l.val + 16) % 128, by omega⟩ else a g ⟨(l.val + 112) % 128, by omega⟩) * t 3 l := by
  rw [cell, if_neg (show ¬g.val < 16 by omega), if_neg (show ¬g.val < 24 by omega), if_neg (show ¬g.val < 32 by omega), if_neg (show ¬g.val < 40 by omega), if_pos hg.2]

theorem cell_query (hg : 32 ≤ g.val ∧ g.val < 40) :
    cell a t g l = (a g l * t 2 l + (if l.val < 16 then a g ⟨(l.val + 16) % 128, by omega⟩ else a g ⟨(l.val + 112) % 128, by omega⟩) * t 3 l) * Ideal.ofBits .f32 0x3E0293EE#32 := by
  rw [cell, if_neg (show ¬g.val < 16 by omega), if_neg (show ¬g.val < 24 by omega), if_neg (show ¬g.val < 32 by omega), if_pos hg.2]

end

/-- The retention's queries, rotated, -/
theorem v54_apply (b : Fin 4) (n : Fin 4096) (g : Fin 8) (l : Fin 128) :
    val_main_v54 (F := Ideal) x0 x1 x2 (ix4 b n g l) = cell (gRow x0 x1 x2 b n) (rotTab n.val) ⟨g.val, by omega⟩ l := by
  rw [cell, if_pos (by dsimp only <;> omega)]
  refine Eq.trans ?_ (rot_ret (gRow x0 x1 x2 b n ⟨g.val, by omega⟩) n.val l).symm
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v24, val_main_v16, v36_apply, v15_apply]
  by_cases h : l.val < 64
  · rw [dif_pos h, dif_pos h, p_at x0 x1 x2 b n ⟨g.val, by omega⟩ l _ (by dsimp only <;> omega),
      p_at x0 x1 x2 b n ⟨g.val, by omega⟩ ⟨l.val + 64, by omega⟩ _ (by dsimp only <;> omega)]
    rw [Ideal.cos_coe, Ideal.sin_coe]
  · rw [dif_neg h, dif_neg h, dif_pos (by omega), p_at x0 x1 x2 b n ⟨g.val, by omega⟩ l _ (by dsimp only <;> omega),
      p_at x0 x1 x2 b n ⟨g.val, by omega⟩ ⟨l.val - 64, by omega⟩ _ (by dsimp only <;> omega)]
    rw [Ideal.cos_coe, Ideal.sin_coe]

/-- and its keys. -/
theorem v85_apply (b : Fin 4) (n : Fin 4096) (g : Fin 8) (l : Fin 128) :
    val_main_v85 (F := Ideal) x0 x1 x2 (ix4 b n g l) = cell (gRow x0 x1 x2 b n) (rotTab n.val) ⟨8 + g.val, by omega⟩ l := by
  rw [cell, if_pos (by dsimp only <;> omega)]
  refine Eq.trans ?_ (rot_ret (gRow x0 x1 x2 b n ⟨8 + g.val, by omega⟩) n.val l).symm
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v55, val_main_v17, v67_apply, v15_apply]
  by_cases h : l.val < 64
  · rw [dif_pos h, dif_pos h, p_at x0 x1 x2 b n ⟨8 + g.val, by omega⟩ l _ (by dsimp only <;> omega),
      p_at x0 x1 x2 b n ⟨8 + g.val, by omega⟩ ⟨l.val + 64, by omega⟩ _ (by dsimp only <;> omega)]
    rw [Ideal.cos_coe, Ideal.sin_coe]
  · rw [dif_neg h, dif_neg h, dif_pos (by omega), p_at x0 x1 x2 b n ⟨8 + g.val, by omega⟩ l _ (by dsimp only <;> omega),
      p_at x0 x1 x2 b n ⟨8 + g.val, by omega⟩ ⟨l.val - 64, by omega⟩ _ (by dsimp only <;> omega)]
    rw [Ideal.cos_coe, Ideal.sin_coe]

/-- The attention's queries, rotated, -/
theorem v116_apply (b : Fin 4) (n : Fin 4096) (g : Fin 8) (l : Fin 128) :
    val_main_v116 (F := Ideal) x0 x1 x2 (ix4 b n g l)
      = gRow x0 x1 x2 b n ⟨32 + g.val, by omega⟩ l * rotTab n.val 2 l
        + (if l.val < 16 then gRow x0 x1 x2 b n ⟨32 + g.val, by omega⟩ ⟨(l.val + 16) % 128, by omega⟩
            else gRow x0 x1 x2 b n ⟨32 + g.val, by omega⟩ ⟨(l.val + 112) % 128, by omega⟩) * rotTab n.val 3 l := by
  refine Eq.trans ?_ (rot_att (gRow x0 x1 x2 b n ⟨32 + g.val, by omega⟩) n.val l).symm
  pointwise [val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v86, val_main_v20, v98_apply, v15_apply]
  by_cases h : l.val < 16
  · rw [dif_pos h, dif_pos h, p_at x0 x1 x2 b n ⟨32 + g.val, by omega⟩ l _ (by dsimp only <;> omega),
      p_at x0 x1 x2 b n ⟨32 + g.val, by omega⟩ ⟨l.val + 16, by omega⟩ _ (by dsimp only <;> omega)]
    rw [Ideal.cos_coe, Ideal.sin_coe]
  by_cases h' : l.val < 32
  · rw [dif_neg h, dif_neg h, dif_pos (by omega), dif_pos h', p_at x0 x1 x2 b n ⟨32 + g.val, by omega⟩ l _ (by dsimp only <;> omega),
      p_at x0 x1 x2 b n ⟨32 + g.val, by omega⟩ ⟨l.val - 16, by omega⟩ _ (by dsimp only <;> omega)]
    rw [Ideal.cos_coe, Ideal.sin_coe]
  · rw [dif_neg h, dif_neg h, dif_neg (by omega), dif_neg h', p_at x0 x1 x2 b n ⟨32 + g.val, by omega⟩ l _ (by dsimp only <;> omega)]

/-- and its keys. -/
theorem v149_apply (b : Fin 4) (n : Fin 4096) (g : Fin 2) (l : Fin 128) :
    val_main_v149 (F := Ideal) x0 x1 x2 (ix4 b n g l)
      = gRow x0 x1 x2 b n ⟨40 + g.val, by omega⟩ l * rotTab n.val 2 l
        + (if l.val < 16 then gRow x0 x1 x2 b n ⟨40 + g.val, by omega⟩ ⟨(l.val + 16) % 128, by omega⟩
            else gRow x0 x1 x2 b n ⟨40 + g.val, by omega⟩ ⟨(l.val + 112) % 128, by omega⟩) * rotTab n.val 3 l := by
  refine Eq.trans ?_ (rot_att (gRow x0 x1 x2 b n ⟨40 + g.val, by omega⟩) n.val l).symm
  pointwise [val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v119, val_main_v21, v131_apply, v15_apply]
  by_cases h : l.val < 16
  · rw [dif_pos h, dif_pos h, p_at x0 x1 x2 b n ⟨40 + g.val, by omega⟩ l _ (by dsimp only <;> omega),
      p_at x0 x1 x2 b n ⟨40 + g.val, by omega⟩ ⟨l.val + 16, by omega⟩ _ (by dsimp only <;> omega)]
    rw [Ideal.cos_coe, Ideal.sin_coe]
  by_cases h' : l.val < 32
  · rw [dif_neg h, dif_neg h, dif_pos (by omega), dif_pos h', p_at x0 x1 x2 b n ⟨40 + g.val, by omega⟩ l _ (by dsimp only <;> omega),
      p_at x0 x1 x2 b n ⟨40 + g.val, by omega⟩ ⟨l.val - 16, by omega⟩ _ (by dsimp only <;> omega)]
    rw [Ideal.cos_coe, Ideal.sin_coe]
  · rw [dif_neg h, dif_neg h, dif_neg (by omega), dif_neg h', p_at x0 x1 x2 b n ⟨40 + g.val, by omega⟩ l _ (by dsimp only <;> omega)]

end Cert.Reference3Ideal.In

end
-- ==== Proof.In.RefResults.lean ====
/-  The plain input projection's results, element by element. -/
module

public import proofs.«01_k».proof.Proof.In.RefValue
public import proofs.«01_k».proof.Proof.Gen.Reference3Ideal.Read
public import Idealize.ShloMosaic.Lib.Pointwise

@[expose] public section

set_option maxRecDepth 16384
set_option maxHeartbeats 4000000

noncomputable section

namespace Cert.Reference3Ideal.In

open Idealize.ShloMosaic Idealize.ShloMosaic.Tactic
open Cert.In
open Cert.Reference3Ideal.Read

variable (x0 : (⟨S4x4096x2048, .f32⟩ : BufTy).Contents (Elt Ideal)) (x1 : (⟨S1x2048x6656, .f32⟩ : BufTy).Contents (Elt Ideal))
  (x2 : (⟨S1x2048, .f32⟩ : BufTy).Contents (Elt Ideal))

theorem v151_apply (b : Fin 4) (n : Fin 4096) (c : Fin 1024) :
    val_main_v151 (F := Ideal) x0 x1 x2 (ix3 b n c)
      = pRow x0 x1 x2 b n ⟨3072 + c.val, by omega⟩ * Ideal.logistic (pRow x0 x1 x2 b n ⟨3072 + c.val, by omega⟩) := by
  pointwise [val_main_v151, val_main_call0_v5, val_main_call0_v4, val_main_call0_cst_0, val_main_call0_v3, val_main_call0_v2, val_main_call0_cst, val_main_call0_v1, val_main_call0_v0, val_main_v19, v15_apply]
  rw [Ideal.logistic]

theorem v153_apply (b : Fin 4) (n : Fin 4096) (g : Fin 32) (l : Fin 128) :
    val_main_v153 (F := Ideal) x0 x1 x2 (ix4 b n g l) = cell (gRow x0 x1 x2 b n) (rotTab n.val) ⟨g.val, by omega⟩ l := by
  pointwise [val_main_v153, val_main_v152, v151_apply, val_main_v150, val_main_v18, v54_apply, v85_apply, v15_apply]
  by_cases h : g.val < 8
  · rw [dif_pos h]
  rw [dif_neg h]
  by_cases h' : g.val < 16
  · rw [dif_pos (by omega)]
    exact congrArg (fun q => cell _ _ q l) (Fin.ext (by dsimp only; omega))
  rw [dif_neg (by omega)]
  by_cases h'' : g.val < 24
  · rw [dif_pos (by omega), p_at x0 x1 x2 b n ⟨g.val, by omega⟩ l _ (by dsimp only; omega), cell_plain _ _ _ _ (by dsimp only; omega)]
  · rw [dif_neg (by omega), p_at x0 x1 x2 b n ⟨g.val, by omega⟩ l _ (by dsimp only; omega), cell_silu _ _ _ _ (by dsimp only; omega)]

/-- The retention's array, by groups. -/
theorem v156_apply (g : Fin 32) (b : Fin 4) (n : Fin 4096) (l : Fin 128) :
    val_main_v156 (F := Ideal) x0 x1 x2 (ix3 g ⟨b.val * 4096 + n.val, by omega⟩ l) = cell (gRow x0 x1 x2 b n) (rotTab n.val) ⟨g.val, by omega⟩ l := by
  rw [← v153_apply]
  refine (val_main_v156_apply x0 x1 x2 _).trans ?_
  show val_main_v155 (F := Ideal) x0 x1 x2 _ = _
  unfold val_main_v155
  refine (shapeCast_apply _ _ _ (ix4 g b n l) ?_).trans ?_
  · rw [Shape.rowMajor_val_four, Shape.rowMajor_val_three]
    show ((g.val * 4 + b.val) * 4096 + n.val) * 128 + l.val = (g.val * 16384 + (b.val * 4096 + n.val)) * 128 + l.val
    omega
  · rw [val_main_v154_apply]
    refine congrArg _ ?_
    funext a
    match a with
    | ⟨0, _⟩ => rfl
    | ⟨1, _⟩ => rfl
    | ⟨2, _⟩ => rfl
    | ⟨3, _⟩ => rfl

theorem v158_apply (b : Fin 4) (n : Fin 4096) (c : Fin 1024) :
    val_main_v158 (F := Ideal) x0 x1 x2 (ix2 ⟨b.val * 4096 + n.val, by omega⟩ c)
      = cell (gRow x0 x1 x2 b n) (rotTab n.val) ⟨32 + c.val / 128, by omega⟩ ⟨c.val % 128, by omega⟩ := by
  pointwise [val_main_v158, val_main_v157, val_main_v118, val_main_v117, val_main_cst_8, v116_apply]
  rw [cell_query _ _ _ _ (by dsimp only <;> omega)]

theorem v160_apply (b : Fin 4) (n : Fin 4096) (c : Fin 256) :
    val_main_v160 (F := Ideal) x0 x1 x2 (ix2 ⟨b.val * 4096 + n.val, by omega⟩ c)
      = cell (gRow x0 x1 x2 b n) (rotTab n.val) ⟨40 + c.val / 128, by omega⟩ ⟨c.val % 128, by omega⟩ := by
  pointwise [val_main_v160, val_main_v159, v149_apply]
  rw [cell_key _ _ _ _ (by dsimp only <;> omega)]

theorem v162_apply (b : Fin 4) (n : Fin 4096) (c : Fin 256) :
    val_main_v162 (F := Ideal) x0 x1 x2 (ix2 ⟨b.val * 4096 + n.val, by omega⟩ c)
      = cell (gRow x0 x1 x2 b n) (rotTab n.val) ⟨42 + c.val / 128, by omega⟩ ⟨c.val % 128, by omega⟩ := by
  pointwise [val_main_v162, val_main_v161, val_main_v22, v15_apply]
  rw [p_at x0 x1 x2 b n ⟨42 + c.val / 128, by omega⟩ ⟨c.val % 128, by omega⟩ _ (by dsimp only <;> omega), cell_plain _ _ _ _ (by dsimp only <;> omega)]

theorem v165_apply (b : Fin 4) (n : Fin 4096) (c : Fin 1024) :
    val_main_v165 (F := Ideal) x0 x1 x2 (ix2 ⟨b.val * 4096 + n.val, by omega⟩ c)
      = cell (gRow x0 x1 x2 b n) (rotTab n.val) ⟨44 + c.val / 128, by omega⟩ ⟨c.val % 128, by omega⟩ := by
  pointwise [val_main_v165, val_main_v164, val_main_v163, val_main_call1_v5, val_main_call1_v4, val_main_call1_cst_0, val_main_call1_v3, val_main_call1_v2, val_main_call1_cst, val_main_call1_v1, val_main_call1_v0, val_main_v23, v15_apply]
  rw [p_at x0 x1 x2 b n ⟨44 + c.val / 128, by omega⟩ ⟨c.val % 128, by omega⟩ _ (by dsimp only <;> omega), cell_silu _ _ _ _ (by dsimp only <;> omega), Ideal.logistic]

end Cert.Reference3Ideal.In

end
-- ==== Proof.In.Array.lean ====
/-  The input projection's result arrays are the reference's, from any memory. -/
module

public import proofs.«01_k».proof.Proof.In.RetA
public import proofs.«01_k».proof.Proof.In.RetB
public import proofs.«01_k».proof.Proof.In.RetC
public import proofs.«01_k».proof.Proof.In.RestA
public import proofs.«01_k».proof.Proof.In.RestB
public import proofs.«01_k».proof.Proof.In.RestC
public import proofs.«01_k».proof.Proof.In.Tables
public import proofs.«01_k».proof.Proof.In.RefResults
public import Idealize.ShloMosaic.Lib.StableHlo.ReadAt
public import Idealize.ShloMosaic.Lib.Pointwise

@[expose] public section

set_option maxRecDepth 16384

noncomputable section

namespace Cert.Kernel3Ideal.In

open Idealize.ShloMosaic Idealize.ShloMosaic.TcCoe Idealize.ShloMosaic.Tactic
open Idealize.SL Idealize.SL.RA Idealize.SL.BI Idealize.SL.Sem
open Idealize.ShloMosaic.Pipeline
open Cert.Kernel3Ideal.Gen
open Cert.In

variable (m : (ℓ : Loc nD τ sig) → Buf (Elt Ideal) ℓ)

theorem tlt (t : Fin cfg0.N) : t.val < 64 := lt_of_lt_of_eq t.isLt (show cfg0.N = 64 from N_0)

/-- After every point the scratch holds the weight. -/
theorem weight (c : Dev nD) : ∀ (n : ℕ) (hn : n < cfg0.N), (outsAt0 m c n hn).2.2.2.2.2.1 = wOf m c
  | 0, hn => outA_w m c ⟨0, hn⟩ (Nat.zero_mod _) (by simp) (by simp)
  | n + 1, hn => by
    have hN := tlt ⟨n + 1, hn⟩
    dsimp only at hN
    have h0 : ¬(⟨n + 1, hn⟩ : Fin cfg0.N).val % 64 = 0 := by show ¬(n + 1) % 64 = 0; omega
    have h1 : 1 ≤ (⟨n + 1, hn⟩ : Fin cfg0.N).val := by show 1 ≤ n + 1; omega
    by_cases h2 : (⟨n + 1, hn⟩ : Fin cfg0.N).val % 2 = 1
    · exact (outB_w m c ⟨n + 1, hn⟩ h0 h1 h2 (by omega)).trans (weight c n (by omega))
    · exact (outC_w m c ⟨n + 1, hn⟩ h0 h1 h2 (by omega)).trans (weight c n (by omega))

/-- The rows a point projects: the first point norms its own, every other takes those that the point before normed. -/
def rowsOf (c : Dev nD) (t : Fin cfg0.N) : Vec Ideal S256x2048 .bf16 :=
  if h : 1 ≤ t.val then normOf (iblk m c 1 ⟨t.val - 1, by omega⟩) (iblk m c 2 ⟨t.val - 1, by omega⟩) else normOf (iblk m c 0 t) (iblk m c 2 t)

/-- After an even point the second of the two scratches holds the next rows, -/
theorem next_even (c : Dev nD) (t : Fin cfg0.N) (ht : t.val % 2 = 0) : (outsAt0 m c t.val t.isLt).2.2.2.2.2.2.2 = normOf (iblk m c 1 t) (iblk m c 2 t) := by
  have hN := tlt t
  funext i
  by_cases h1 : 1 ≤ t.val
  · exact outC_next m c t (by omega) h1 (by omega) ht i
  · exact outA_next m c t (by omega) h1 (by omega) i

/-- after an odd point the first. -/
theorem next_odd (c : Dev nD) (t : Fin cfg0.N) (ht : t.val % 2 = 1) : (outsAt0 m c t.val t.isLt).2.2.2.2.2.2.1 = normOf (iblk m c 1 t) (iblk m c 2 t) := by
  have hN := tlt t
  funext i
  exact outB_next m c t (by omega) (by omega) ht (by omega) i

/-- At an odd point the rows are the second scratch's, -/
theorem rows_odd (c : Dev nD) (t : Fin cfg0.N) (ht : t.val % 2 = 1) : (outsAt0 m c (t.val - 1) (by omega)).2.2.2.2.2.2.2 = rowsOf m c t := by
  rw [rowsOf, dif_pos (show 1 ≤ t.val by omega)]
  exact next_even m c ⟨t.val - 1, by omega⟩ (by show (t.val - 1) % 2 = 0; omega)

/-- at a later even point the first's. -/
theorem rows_even (c : Dev nD) (t : Fin cfg0.N) (ht : t.val % 2 = 0) (h1 : 1 ≤ t.val) : (outsAt0 m c (t.val - 1) (by omega)).2.2.2.2.2.2.1 = rowsOf m c t := by
  rw [rowsOf, dif_pos h1]
  exact next_odd m c ⟨t.val - 1, by omega⟩ (by show (t.val - 1) % 2 = 1; omega)

theorem rows_first (c : Dev nD) (t : Fin cfg0.N) (h1 : ¬1 ≤ t.val) : normOf (iblk m c 0 t) (iblk m c 2 t) = rowsOf m c t := by
  rw [rowsOf, dif_neg h1]

/-! Every point leaves the closed forms' blocks. -/

section
variable (c : Dev nD) (t : Fin cfg0.N)

theorem block_ret : (outsAt0 m c t.val t.isLt).1 = retOf (rowsOf m c t) (wOf m c) (iblk m c 3 t) := by
  have hN := tlt t
  funext i
  by_cases h1 : 1 ≤ t.val
  · by_cases h2 : t.val % 2 = 1
    · rw [outB_ret m c t (by omega) h1 h2 (by omega) i, weight, rows_odd m c t h2]
    · rw [outC_ret m c t (by omega) h1 h2 (by omega) i, weight, rows_even m c t (by omega) h1]
  · rw [outA_ret m c t (by omega) h1 (by omega) i, rows_first m c t h1]

theorem block_aq : (outsAt0 m c t.val t.isLt).2.1 = wideOf 32 (by omega) (rowsOf m c t) (wOf m c) (iblk m c 3 t) := by
  have hN := tlt t
  funext i
  by_cases h1 : 1 ≤ t.val
  · by_cases h2 : t.val % 2 = 1
    · rw [outB_aq m c t (by omega) h1 h2 (by omega) i, weight, rows_odd m c t h2]
    · rw [outC_aq m c t (by omega) h1 h2 (by omega) i, weight, rows_even m c t (by omega) h1]
  · rw [outA_aq m c t (by omega) h1 (by omega) i, rows_first m c t h1]

theorem block_ak : (outsAt0 m c t.val t.isLt).2.2.1 = thinOf 40 (by omega) (rowsOf m c t) (wOf m c) (iblk m c 3 t) := by
  have hN := tlt t
  funext i
  by_cases h1 : 1 ≤ t.val
  · by_cases h2 : t.val % 2 = 1
    · rw [outB_ak m c t (by omega) h1 h2 (by omega) i, weight, rows_odd m c t h2]
    · rw [outC_ak m c t (by omega) h1 h2 (by omega) i, weight, rows_even m c t (by omega) h1]
  · rw [outA_ak m c t (by omega) h1 (by omega) i, rows_first m c t h1]

theorem block_av : (outsAt0 m c t.val t.isLt).2.2.2.1 = thinOf 42 (by omega) (rowsOf m c t) (wOf m c) (iblk m c 3 t) := by
  have hN := tlt t
  funext i
  by_cases h1 : 1 ≤ t.val
  · by_cases h2 : t.val % 2 = 1
    · rw [outB_av m c t (by omega) h1 h2 (by omega) i, weight, rows_odd m c t h2]
    · rw [outC_av m c t (by omega) h1 h2 (by omega) i, weight, rows_even m c t (by omega) h1]
  · rw [outA_av m c t (by omega) h1 (by omega) i, rows_first m c t h1]

theorem block_ag : (outsAt0 m c t.val t.isLt).2.2.2.2.1 = wideOf 44 (by omega) (rowsOf m c t) (wOf m c) (iblk m c 3 t) := by
  have hN := tlt t
  funext i
  by_cases h1 : 1 ≤ t.val
  · by_cases h2 : t.val % 2 = 1
    · rw [outB_ag m c t (by omega) h1 h2 (by omega) i, weight, rows_odd m c t h2]
    · rw [outC_ag m c t (by omega) h1 h2 (by omega) i, weight, rows_even m c t (by omega) h1]
  · rw [outA_ag m c t (by omega) h1 (by omega) i, rows_first m c t h1]

end

/-! The input blocks at a point, in the arguments' coordinates: point `t` projects rows `256 t` to `256 t + 255`, of batch `t / 16`. -/

theorem idx0 : ∀ t : Fin cfg0.N, win0_0.index t = ![0, 0] := (by decide +kernel : ∀ t : Fin grid0.N, _)
theorem idx1 : ∀ t : Fin cfg0.N, win0_1.index t = ![min (t.val + 1) 63, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, t.val % 16, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The batch of a point and a row's place in it. -/
def bAt (t : Fin cfg0.N) : Fin 4 := ⟨t.val / 16, by have := tlt t; omega⟩
def nAt (t : Fin cfg0.N) (r : Fin 256) : Fin 4096 := ⟨t.val % 16 * 256 + r.val, by have := tlt t; omega⟩

theorem v0_apply (c : Dev nD) (b : Fin 4) (n : Fin 4096) (l : Fin 2048) :
    V m c main_v0 (ix2 ⟨b.val * 4096 + n.val, by omega⟩ l) = m ((c : Thread nD τ).loc main_arg0) (ix3 b n l) := by
  unfold V
  after_reads_at

theorem v102_apply (c : Dev nD) (l : Fin 2048) : V m c main_v102 (ix2 0 l) = m ((c : Thread nD τ).loc main_arg2) (ix2 0 l) := by
  unfold V
  after_reads_at

theorem blk0 (c : Dev nD) (t : Fin cfg0.N) (ht : t.val = 0) (r : Fin 256) (l : Fin 2048) :
    iblk m c 0 t (ix2 r l) = m ((c : Thread nD τ).loc main_arg0) (ix3 (bAt t) (nAt t r) l) := by
  rw [← v0_apply m c]
  blk_simp [iblk]
  refine congrArg _ ?_
  have := tlt t
  unfold bAt nAt
  blk_ext [idx0]

theorem blk1 (c : Dev nD) (t u : Fin cfg0.N) (ht : t.val = u.val + 1) (r : Fin 256) (l : Fin 2048) :
    iblk m c 1 u (ix2 r l) = m ((c : Thread nD τ).loc main_arg0) (ix3 (bAt t) (nAt t r) l) := by
  rw [← v0_apply m c]
  blk_simp [iblk]
  refine congrArg _ ?_
  have := tlt t
  unfold bAt nAt
  blk_ext [idx1]

theorem blk2 (c : Dev nD) (t : Fin cfg0.N) (l : Fin 2048) :
    iblk m c 2 t (ix2 0 l) = m ((c : Thread nD τ).loc main_arg2) (ix2 0 l) := by
  rw [← v102_apply m c]
  blk_simp [iblk]
  refine congrArg _ ?_
  blk_ext [idx2]

theorem blk3 (c : Dev nD) (t : Fin cfg0.N) (a : Fin 4) (r : Fin 256) (l : Fin 128) :
    iblk m c 3 t (ix3 a r l) = rotTab (nAt t r).val a l := by
  rw [← tab_apply m c]
  blk_simp [iblk]
  refine congrArg _ ?_
  have := tlt t
  unfold nAt
  blk_ext [idx3]

theorem wOf_apply (c : Dev nD) (k : Fin 2048) (l : Fin 6656) : wOf m c (ix2 k l) = m ((c : Thread nD τ).loc main_arg1) (ix3 0 k l) := by
  unfold wOf
  rw [V_main_arg1]
  rfl

/-- The normed rows of a point are the reference's. -/
theorem rows_eq (c : Dev nD) (t : Fin cfg0.N) (r : Fin 256) (k : Fin 2048) :
    rowsOf m c t (ix2 r k) = Cert.Reference3Ideal.In.hRow (m ((c : Thread nD τ).loc main_arg0)) (m ((c : Thread nD τ).loc main_arg2)) (bAt t) (nAt t r) k := by
  unfold rowsOf Cert.Reference3Ideal.In.hRow
  by_cases h : 1 ≤ t.val
  · have e := blk1 m c t ⟨t.val - 1, by omega⟩ (by show t.val = t.val - 1 + 1; omega)
    rw [dif_pos h, ← normOf_at _ _ r r k k rfl rfl, blk2]
    simp only [e]
  · have e := blk0 m c t (by omega)
    rw [dif_neg h, ← normOf_at _ _ r r k k rfl rfl, blk2]
    simp only [e]

/-- A point's value is the reference's. -/
theorem cell_eq (c : Dev nD) (t : Fin cfg0.N) (r : Fin 256) (g : Fin 52) (l : Fin 128) :
    cellOf (rowsOf m c t) (wOf m c) (iblk m c 3 t) r g l
      = cell (Cert.Reference3Ideal.In.gRow (m ((c : Thread nD τ).loc main_arg0)) (m ((c : Thread nD τ).loc main_arg1)) (m ((c : Thread nD τ).loc main_arg2)) (bAt t) (nAt t r))
          (rotTab (nAt t r).val) g l := by
  unfold cellOf
  congr 1
  · funext g l
    unfold proj Cert.Reference3Ideal.In.gRow Cert.Reference3Ideal.In.pRow
    simp only [rows_eq, wOf_apply]
  · funext a l
    exact blk3 m c t a r l

section
variable (c : Dev nD)

/-- The retention's array holds the reference's value of the arguments, -/
theorem final_ret :
    (dats m 0 c).arrAt 4 cfg0.N
      = Cert.Reference3Ideal.Read.val_main_v156 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, block_ret]
  obtain ⟨g, r, l, rfl⟩ : ∃ (g : Fin 32) (r : Fin 256) (l : Fin 128), y = ix3 g r l := ⟨y 0, y 1, y 2, eq_ix3 y⟩
  have hemb : (win0_4.blk t).view.emb (ix3 g r l) = ix3 g ⟨(bAt t).val * 4096 + (nAt t r).val, by omega⟩ l := by
    have := tlt t
    unfold bAt nAt
    blk_ext [idx4]
  rw [hemb]
  exact (cell_eq m c t r ⟨g.val, by omega⟩ l).trans (Cert.Reference3Ideal.In.v156_apply _ _ _ g (bAt t) (nAt t r) l).symm

/-- the attention's queries', -/
theorem final_aq :
    (dats m 0 c).arrAt 5 cfg0.N
      = Cert.Reference3Ideal.Read.val_main_v158 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, block_aq]
  obtain ⟨r, l, rfl⟩ : ∃ (r : Fin 256) (l : Fin 1024), y = ix2 r l := ⟨y 0, y 1, eq_ix2 y⟩
  have hemb : (win0_5.blk t).view.emb (ix2 r l) = ix2 ⟨(bAt t).val * 4096 + (nAt t r).val, by omega⟩ l := by
    have := tlt t
    unfold bAt nAt
    blk_ext [idx5]
  rw [hemb]
  exact (cell_eq m c t r ⟨32 + l.val / 128, by omega⟩ ⟨l.val % 128, by omega⟩).trans (Cert.Reference3Ideal.In.v158_apply _ _ _ (bAt t) (nAt t r) l).symm

/-- its keys', -/
theorem final_ak :
    (dats m 0 c).arrAt 6 cfg0.N
      = Cert.Reference3Ideal.Read.val_main_v160 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, block_ak]
  obtain ⟨r, l, rfl⟩ : ∃ (r : Fin 256) (l : Fin 256), y = ix2 r l := ⟨y 0, y 1, eq_ix2 y⟩
  have hemb : (win0_6.blk t).view.emb (ix2 r l) = ix2 ⟨(bAt t).val * 4096 + (nAt t r).val, by omega⟩ l := by
    have := tlt t
    unfold bAt nAt
    blk_ext [idx6]
  rw [hemb]
  exact (cell_eq m c t r ⟨40 + l.val / 128, by omega⟩ ⟨l.val % 128, by omega⟩).trans (Cert.Reference3Ideal.In.v160_apply _ _ _ (bAt t) (nAt t r) l).symm

/-- its values', -/
theorem final_av :
    (dats m 0 c).arrAt 7 cfg0.N
      = Cert.Reference3Ideal.Read.val_main_v162 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7, block_av]
  obtain ⟨r, l, rfl⟩ : ∃ (r : Fin 256) (l : Fin 256), y = ix2 r l := ⟨y 0, y 1, eq_ix2 y⟩
  have hemb : (win0_7.blk t).view.emb (ix2 r l) = ix2 ⟨(bAt t).val * 4096 + (nAt t r).val, by omega⟩ l := by
    have := tlt t
    unfold bAt nAt
    blk_ext [idx7]
  rw [hemb]
  exact (cell_eq m c t r ⟨42 + l.val / 128, by omega⟩ ⟨l.val % 128, by omega⟩).trans (Cert.Reference3Ideal.In.v162_apply _ _ _ (bAt t) (nAt t r) l).symm

/-- and its gate's. -/
theorem final_ag :
    (dats m 0 c).arrAt 8 cfg0.N
      = Cert.Reference3Ideal.Read.val_main_v165 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8, block_ag]
  obtain ⟨r, l, rfl⟩ : ∃ (r : Fin 256) (l : Fin 1024), y = ix2 r l := ⟨y 0, y 1, eq_ix2 y⟩
  have hemb : (win0_8.blk t).view.emb (ix2 r l) = ix2 ⟨(bAt t).val * 4096 + (nAt t r).val, by omega⟩ l := by
    have := tlt t
    unfold bAt nAt
    blk_ext [idx8]
  rw [hemb]
  exact (cell_eq m c t r ⟨44 + l.val / 128, by omega⟩ ⟨l.val % 128, by omega⟩).trans (Cert.Reference3Ideal.In.v165_apply _ _ _ (bAt t) (nAt t r) l).symm

end

end Cert.Kernel3Ideal.In

end
-- ==== Proof.In.Text.lean ====
/-
  The input projection's program as it is and its idealized one are the same text, so one run serves both frames.
-/
module

public import proofs.«01_k».proof.Defs
public import proofs.«01_k».proof.Proof.Gen.Kernel3
public import proofs.«01_k».proof.Proof.Gen.Kernel3Ideal.Frame

@[expose] public section

set_option maxRecDepth 16384
set_option maxHeartbeats 8000000

noncomputable section

namespace Cert.Proof.In

open Idealize.ShloMosaic Idealize.ShloMosaic.TcCoe Idealize.SL.Sem

/-- The two programs' texts agree: the kernel's body, -/
theorem body_eq : @Cert.Kernel3.cc0_in_proj Bits _ _ = @Cert.Kernel3Ideal.cc0_in_proj Bits _ _ := rfl

/-- the table of bodies (one label), -/
theorem defs₀_eq : Cert.Kernel3.defs₀ (F := Bits) = Cert.Kernel3Ideal.defs₀ (F := Bits) := by
  delta Cert.Kernel3.defs₀ Cert.Kernel3Ideal.defs₀
  refine congrArg Defs.onTc (funext fun l => ?_)
  obtain rfl : l = 0 := Subsingleton.elim (α := Fin 1) _ _
  funext ⟨t, s⟩
  dsimp only
  generalize hb : @Cert.Kernel3.cc0_in_proj Bits _ _ = B
  rw [body_eq] at hb
  subst hb
  rfl

/-- and the table with the pipeline's own entries. -/
theorem defs_eq : Cert.Kernel3.defs (F := Bits) = Cert.Kernel3Ideal.defs (F := Bits) :=
  congrArg (Pipeline.defs _) defs₀_eq

/-- The kernel as it is runs, leaves its arguments and its counters at zero: the same run at the machine's floats. -/
theorem frame_kernel : Cert.quiescent_Kernel3 := fun m ρ _ => by
  rw [defs_eq]
  exact (θ_run Cert.Kernel3Ideal.defs _ _).mono (fun _ h => h) (Cert.Kernel3Ideal.Gen.frame (F := Bits) m ρ)

end Cert.Proof.In

end
-- ==== Proof.In.Claims.lean ====
/-
  The claims about the input projection's call.
-/
module

public import proofs.«01_k».proof.Proof.In.Array
public import proofs.«01_k».proof.Proof.In.Text
public import proofs.«01_k».proof.Defs
public import proofs.«01_k».proof.Proof.Gen.Kernel3Ideal.Value
public import proofs.«01_k».proof.Proof.Gen.Reference3Ideal.Run

@[expose] public section

set_option maxRecDepth 16384

noncomputable section

namespace Cert.Proof.In

open Idealize.ShloMosaic Idealize.ShloMosaic.TcCoe Idealize.SL.Sem

/-- The idealized kernel runs, leaves its arguments and its counters at zero. -/
theorem frame_kernelIdeal : Cert.quiescent_Kernel3Ideal := fun m ρ _ => Cert.Kernel3Ideal.Gen.frame m ρ

/-- The idealized reference runs, leaves its arguments, and has no counters. -/
theorem frame_reference : Cert.quiescent_Reference3Ideal := fun m ρ _ =>
  (θ_run Cert.Reference3Ideal.defs _ _).mono
    (fun r h => ⟨fun c => ⟨(h c).2.2.2.2.2.1, (h c).2.2.2.2.2.2.1, (h c).2.2.2.2.2.2.2⟩, sem_eq_zero_of_no_sems (by decide) r.2⟩) (Cert.Reference3Ideal.Value.run m ρ)

/-- Both programs end with the same five result arrays. -/
theorem algebraic : Cert.algebraic_Kernel3Ideal_Reference3Ideal := by
  intro m g m' g' hpre hagree
  refine ⟨fun c => Cert.Reference3Ideal.Read.val_main_v156 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2)),
    fun c => Cert.Reference3Ideal.Read.val_main_v158 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2)),
    fun c => Cert.Reference3Ideal.Read.val_main_v160 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2)),
    fun c => Cert.Reference3Ideal.Read.val_main_v162 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2)),
    fun c => Cert.Reference3Ideal.Read.val_main_v165 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2)), ?_, ?_⟩
  · refine θ_run_mono (Cert.Kernel3Ideal.Value.run_blocks m g) fun r h c => ?_
    obtain ⟨a0, a1, a2, a3, a4, hrest⟩ := h c
    exact ⟨a0.trans (Cert.Kernel3Ideal.In.final_ret m c), a1.trans (Cert.Kernel3Ideal.In.final_aq m c), a2.trans (Cert.Kernel3Ideal.In.final_ak m c),
      a3.trans (Cert.Kernel3Ideal.In.final_av m c), a4.trans (Cert.Kernel3Ideal.In.final_ag m c), hrest⟩
  · refine θ_run_mono (Cert.Reference3Ideal.Value.run m' g') fun r h c => ?_
    obtain ⟨a0, a1, a2, a3, a4, hrest⟩ := h c
    obtain ⟨h0, h1, h2⟩ := hagree c
    refine ⟨a0.trans ?_, a1.trans ?_, a2.trans ?_, a3.trans ?_, a4.trans ?_, hrest⟩
    · refine (Cert.Reference3Ideal.Read.val_main_v156_eq _).trans ?_
      show Cert.Reference3Ideal.Read.val_main_v156 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [h0, h1, h2]
    · refine (Cert.Reference3Ideal.Read.val_main_v158_eq _).trans ?_
      show Cert.Reference3Ideal.Read.val_main_v158 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [h0, h1, h2]
    · refine (Cert.Reference3Ideal.Read.val_main_v160_eq _).trans ?_
      show Cert.Reference3Ideal.Read.val_main_v160 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [h0, h1, h2]
    · refine (Cert.Reference3Ideal.Read.val_main_v162_eq _).trans ?_
      show Cert.Reference3Ideal.Read.val_main_v162 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [h0, h1, h2]
    · refine (Cert.Reference3Ideal.Read.val_main_v165_eq _).trans ?_
      show Cert.Reference3Ideal.Read.val_main_v165 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = _
      rw [h0, h1, h2]

end Cert.Proof.In

end
-- ==== Proof.lean ====
/-
  The proof of `Cert.Claim`: the programs' stated facts, then the claims in the order `Cert.Claim` lists them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Ret.Claims
public import proofs.«01_k».proof.Proof.Out.Claims
public import proofs.«01_k».proof.Proof.In.Claims

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.KernelIdeal.Ret.preFacts,
    Ret.frame_kernel, Ret.frame_kernelIdeal, @Ret.frame_kernelIdeal_pre Cert.KernelIdeal.Ret.preFacts,
    Ret.frame_reference, @Ret.frame_reference_pre Cert.KernelIdeal.Ret.preFacts,
    Out.frame_kernel, Out.frame_kernelIdeal, Out.frame_reference,
    In.frame_kernel, In.frame_kernelIdeal, In.frame_reference,
    trivial, @Ret.algebraic Cert.KernelIdeal.Ret.preFacts, trivial, Out.algebraic, trivial, In.algebraic⟩

end Cert.Proof

end
